-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_query_scales_in_range [hPre_query_scales_in_range : Cert.Pre_query_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_query_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_query_scales_in_range [hPre_query_scales_in_range : Cert.Pre_query_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_query_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_VPrep (m : (ℓ : Loc Cert.VPrep.nD Cert.VPrep.τ Cert.VPrep.sig) → Buf (Elt Bits) ℓ) : Prop :=
  True

def Pre_VPrepIdeal (m : (ℓ : Loc Cert.VPrepIdeal.nD Cert.VPrepIdeal.τ Cert.VPrepIdeal.sig) → Buf (Elt Ideal) ℓ) : Prop :=
  True

def Pre_VPrepIdeal_value_maxima_in_range [hPre_value_maxima_in_range : Cert.Pre_value_maxima_in_range.Facts] (m : (ℓ : Loc Cert.VPrepIdeal.nD Cert.VPrepIdeal.τ Cert.VPrepIdeal.sig) → Buf (Elt Ideal) ℓ) : Prop :=
  ∀ c : Dev Cert.VPrepIdeal.nD,
    (Cert.Pre_value_maxima_in_range.fn (F := Ideal) (m ((c.tc : Thread Cert.VPrepIdeal.nD Cert.VPrepIdeal.τ).loc Cert.VPrepIdeal.main_arg0))) = (fun _ => 1#1)

def Pre_VReferenceIdeal (m : (ℓ : Loc Cert.VReferenceIdeal.nD Cert.VReferenceIdeal.τ Cert.VReferenceIdeal.sig) → Buf (Elt Ideal) ℓ) : Prop :=
  True

def Pre_VReferenceIdeal_value_maxima_in_range [hPre_value_maxima_in_range : Cert.Pre_value_maxima_in_range.Facts] (m : (ℓ : Loc Cert.VReferenceIdeal.nD Cert.VReferenceIdeal.τ Cert.VReferenceIdeal.sig) → Buf (Elt Ideal) ℓ) : Prop :=
  ∀ c : Dev Cert.VReferenceIdeal.nD,
    (Cert.Pre_value_maxima_in_range.fn (F := Ideal) (m ((c.tc : Thread Cert.VReferenceIdeal.nD Cert.VReferenceIdeal.τ).loc Cert.VReferenceIdeal.main_arg0))) = (fun _ => 1#1)

def Pre_QkPrep (m : (ℓ : Loc Cert.QkPrep.nD Cert.QkPrep.τ Cert.QkPrep.sig) → Buf (Elt Bits) ℓ) : Prop :=
  True

def Pre_QkPrepIdeal (m : (ℓ : Loc Cert.QkPrepIdeal.nD Cert.QkPrepIdeal.τ Cert.QkPrepIdeal.sig) → Buf (Elt Ideal) ℓ) : Prop :=
  True

def Pre_QkPrepIdeal_rotated_maxima_in_range [hPre_rotated_maxima_in_range : Cert.Pre_rotated_maxima_in_range.Facts] (m : (ℓ : Loc Cert.QkPrepIdeal.nD Cert.QkPrepIdeal.τ Cert.QkPrepIdeal.sig) → Buf (Elt Ideal) ℓ) : Prop :=
  ∀ c : Dev Cert.QkPrepIdeal.nD,
    (Cert.Pre_rotated_maxima_in_range.fn (F := Ideal) (m ((c.tc : Thread Cert.QkPrepIdeal.nD Cert.QkPrepIdeal.τ).loc Cert.QkPrepIdeal.main_arg0)) (m ((c.tc : Thread Cert.QkPrepIdeal.nD Cert.QkPrepIdeal.τ).loc Cert.QkPrepIdeal.main_arg1)) (m ((c.tc : Thread Cert.QkPrepIdeal.nD Cert.QkPrepIdeal.τ).loc Cert.QkPrepIdeal.main_arg2)) (m ((c.tc : Thread Cert.QkPrepIdeal.nD Cert.QkPrepIdeal.τ).loc Cert.QkPrepIdeal.main_arg3)) (m ((c.tc : Thread Cert.QkPrepIdeal.nD Cert.QkPrepIdeal.τ).loc Cert.QkPrepIdeal.main_arg4))) = (fun _ => 1#1)

def Pre_QkReferenceIdeal (m : (ℓ : Loc Cert.QkReferenceIdeal.nD Cert.QkReferenceIdeal.τ Cert.QkReferenceIdeal.sig) → Buf (Elt Ideal) ℓ) : Prop :=
  True

def Pre_QkReferenceIdeal_rotated_maxima_in_range [hPre_rotated_maxima_in_range : Cert.Pre_rotated_maxima_in_range.Facts] (m : (ℓ : Loc Cert.QkReferenceIdeal.nD Cert.QkReferenceIdeal.τ Cert.QkReferenceIdeal.sig) → Buf (Elt Ideal) ℓ) : Prop :=
  ∀ c : Dev Cert.QkReferenceIdeal.nD,
    (Cert.Pre_rotated_maxima_in_range.fn (F := Ideal) (m ((c.tc : Thread Cert.QkReferenceIdeal.nD Cert.QkReferenceIdeal.τ).loc Cert.QkReferenceIdeal.main_arg0)) (m ((c.tc : Thread Cert.QkReferenceIdeal.nD Cert.QkReferenceIdeal.τ).loc Cert.QkReferenceIdeal.main_arg1)) (m ((c.tc : Thread Cert.QkReferenceIdeal.nD Cert.QkReferenceIdeal.τ).loc Cert.QkReferenceIdeal.main_arg2)) (m ((c.tc : Thread Cert.QkReferenceIdeal.nD Cert.QkReferenceIdeal.τ).loc Cert.QkReferenceIdeal.main_arg3)) (m ((c.tc : Thread Cert.QkReferenceIdeal.nD Cert.QkReferenceIdeal.τ).loc Cert.QkReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_query_scales_in_range [hKernelIdeal : Cert.KernelIdeal.Facts] [hPre_query_scales_in_range : Cert.Pre_query_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_query_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_query_scales_in_range [hReferenceIdeal : Cert.ReferenceIdeal.Facts] [hPre_query_scales_in_range : Cert.Pre_query_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_query_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_VPrep [hVPrep : Cert.VPrep.Facts] : Prop :=
  ∀ (m : (ℓ : Loc Cert.VPrep.nD Cert.VPrep.τ Cert.VPrep.sig) → Buf (Elt Bits) ℓ) (g : Dev Cert.VPrep.nD → PrngReg), Pre_VPrep m →
    θ_run (Cert.VPrep.defs (F := Bits)) (onTc (τ := Cert.VPrep.τ) (Cert.VPrep.main (F := Bits))) ⟨m, fun _ => 0, g⟩ (fun r => (∀ c : Dev Cert.VPrep.nD,
      r.2.mem ((c.tc : Thread Cert.VPrep.nD Cert.VPrep.τ).loc Cert.VPrep.main_arg0) = m ((c.tc : Thread Cert.VPrep.nD Cert.VPrep.τ).loc Cert.VPrep.main_arg0))
      ∧ r.2.sem = fun _ => 0)

def quiescent_VPrepIdeal [hVPrepIdeal : Cert.VPrepIdeal.Facts] : Prop :=
  ∀ (m : (ℓ : Loc Cert.VPrepIdeal.nD Cert.VPrepIdeal.τ Cert.VPrepIdeal.sig) → Buf (Elt Ideal) ℓ) (g : Dev Cert.VPrepIdeal.nD → PrngReg), Pre_VPrepIdeal m →
    θ_run (Cert.VPrepIdeal.defs (F := Ideal)) (onTc (τ := Cert.VPrepIdeal.τ) (Cert.VPrepIdeal.main (F := Ideal))) ⟨m, fun _ => 0, g⟩ (fun r => (∀ c : Dev Cert.VPrepIdeal.nD,
      r.2.mem ((c.tc : Thread Cert.VPrepIdeal.nD Cert.VPrepIdeal.τ).loc Cert.VPrepIdeal.main_arg0) = m ((c.tc : Thread Cert.VPrepIdeal.nD Cert.VPrepIdeal.τ).loc Cert.VPrepIdeal.main_arg0))
      ∧ r.2.sem = fun _ => 0)

def quiescent_VPrepIdeal_pre_value_maxima_in_range [hVPrepIdeal : Cert.VPrepIdeal.Facts] [hPre_value_maxima_in_range : Cert.Pre_value_maxima_in_range.Facts] : Prop :=
  ∀ (m : (ℓ : Loc Cert.VPrepIdeal.nD Cert.VPrepIdeal.τ Cert.VPrepIdeal.sig) → Buf (Elt Ideal) ℓ) (g : Dev Cert.VPrepIdeal.nD → PrngReg), Pre_VPrepIdeal_value_maxima_in_range m →
    θ_run (Cert.VPrepIdeal.defs (F := Ideal)) (onTc (τ := Cert.VPrepIdeal.τ) (Cert.VPrepIdeal.main (F := Ideal))) ⟨m, fun _ => 0, g⟩ (fun r => (∀ c : Dev Cert.VPrepIdeal.nD,
      r.2.mem ((c.tc : Thread Cert.VPrepIdeal.nD Cert.VPrepIdeal.τ).loc Cert.VPrepIdeal.main_arg0) = m ((c.tc : Thread Cert.VPrepIdeal.nD Cert.VPrepIdeal.τ).loc Cert.VPrepIdeal.main_arg0))
      ∧ r.2.sem = fun _ => 0)

def quiescent_VReferenceIdeal [hVReferenceIdeal : Cert.VReferenceIdeal.Facts] : Prop :=
  ∀ (m : (ℓ : Loc Cert.VReferenceIdeal.nD Cert.VReferenceIdeal.τ Cert.VReferenceIdeal.sig) → Buf (Elt Ideal) ℓ) (g : Dev Cert.VReferenceIdeal.nD → PrngReg), Pre_VReferenceIdeal m →
    θ_run (Cert.VReferenceIdeal.defs (F := Ideal)) (onTc (τ := Cert.VReferenceIdeal.τ) (Cert.VReferenceIdeal.main (F := Ideal))) ⟨m, fun _ => 0, g⟩ (fun r => (∀ c : Dev Cert.VReferenceIdeal.nD,
      r.2.mem ((c.tc : Thread Cert.VReferenceIdeal.nD Cert.VReferenceIdeal.τ).loc Cert.VReferenceIdeal.main_arg0) = m ((c.tc : Thread Cert.VReferenceIdeal.nD Cert.VReferenceIdeal.τ).loc Cert.VReferenceIdeal.main_arg0))
      ∧ r.2.sem = fun _ => 0)

def quiescent_VReferenceIdeal_pre_value_maxima_in_range [hVReferenceIdeal : Cert.VReferenceIdeal.Facts] [hPre_value_maxima_in_range : Cert.Pre_value_maxima_in_range.Facts] : Prop :=
  ∀ (m : (ℓ : Loc Cert.VReferenceIdeal.nD Cert.VReferenceIdeal.τ Cert.VReferenceIdeal.sig) → Buf (Elt Ideal) ℓ) (g : Dev Cert.VReferenceIdeal.nD → PrngReg), Pre_VReferenceIdeal_value_maxima_in_range m →
    θ_run (Cert.VReferenceIdeal.defs (F := Ideal)) (onTc (τ := Cert.VReferenceIdeal.τ) (Cert.VReferenceIdeal.main (F := Ideal))) ⟨m, fun _ => 0, g⟩ (fun r => (∀ c : Dev Cert.VReferenceIdeal.nD,
      r.2.mem ((c.tc : Thread Cert.VReferenceIdeal.nD Cert.VReferenceIdeal.τ).loc Cert.VReferenceIdeal.main_arg0) = m ((c.tc : Thread Cert.VReferenceIdeal.nD Cert.VReferenceIdeal.τ).loc Cert.VReferenceIdeal.main_arg0))
      ∧ r.2.sem = fun _ => 0)

def quiescent_QkPrep [hQkPrep : Cert.QkPrep.Facts] : Prop :=
  ∀ (m : (ℓ : Loc Cert.QkPrep.nD Cert.QkPrep.τ Cert.QkPrep.sig) → Buf (Elt Bits) ℓ) (g : Dev Cert.QkPrep.nD → PrngReg), Pre_QkPrep m →
    θ_run (Cert.QkPrep.defs (F := Bits)) (onTc (τ := Cert.QkPrep.τ) (Cert.QkPrep.main (F := Bits))) ⟨m, fun _ => 0, g⟩ (fun r => (∀ c : Dev Cert.QkPrep.nD,
      r.2.mem ((c.tc : Thread Cert.QkPrep.nD Cert.QkPrep.τ).loc Cert.QkPrep.main_arg0) = m ((c.tc : Thread Cert.QkPrep.nD Cert.QkPrep.τ).loc Cert.QkPrep.main_arg0)
      ∧ r.2.mem ((c.tc : Thread Cert.QkPrep.nD Cert.QkPrep.τ).loc Cert.QkPrep.main_arg1) = m ((c.tc : Thread Cert.QkPrep.nD Cert.QkPrep.τ).loc Cert.QkPrep.main_arg1)
      ∧ r.2.mem ((c.tc : Thread Cert.QkPrep.nD Cert.QkPrep.τ).loc Cert.QkPrep.main_arg2) = m ((c.tc : Thread Cert.QkPrep.nD Cert.QkPrep.τ).loc Cert.QkPrep.main_arg2)
      ∧ r.2.mem ((c.tc : Thread Cert.QkPrep.nD Cert.QkPrep.τ).loc Cert.QkPrep.main_arg3) = m ((c.tc : Thread Cert.QkPrep.nD Cert.QkPrep.τ).loc Cert.QkPrep.main_arg3)
      ∧ r.2.mem ((c.tc : Thread Cert.QkPrep.nD Cert.QkPrep.τ).loc Cert.QkPrep.main_arg4) = m ((c.tc : Thread Cert.QkPrep.nD Cert.QkPrep.τ).loc Cert.QkPrep.main_arg4))
      ∧ r.2.sem = fun _ => 0)

def quiescent_QkPrepIdeal [hQkPrepIdeal : Cert.QkPrepIdeal.Facts] : Prop :=
  ∀ (m : (ℓ : Loc Cert.QkPrepIdeal.nD Cert.QkPrepIdeal.τ Cert.QkPrepIdeal.sig) → Buf (Elt Ideal) ℓ) (g : Dev Cert.QkPrepIdeal.nD → PrngReg), Pre_QkPrepIdeal m →
    θ_run (Cert.QkPrepIdeal.defs (F := Ideal)) (onTc (τ := Cert.QkPrepIdeal.τ) (Cert.QkPrepIdeal.main (F := Ideal))) ⟨m, fun _ => 0, g⟩ (fun r => (∀ c : Dev Cert.QkPrepIdeal.nD,
      r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
      ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
      ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
      ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
      ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4))
      ∧ r.2.sem = fun _ => 0)

def quiescent_QkPrepIdeal_pre_rotated_maxima_in_range [hQkPrepIdeal : Cert.QkPrepIdeal.Facts] [hPre_rotated_maxima_in_range : Cert.Pre_rotated_maxima_in_range.Facts] : Prop :=
  ∀ (m : (ℓ : Loc Cert.QkPrepIdeal.nD Cert.QkPrepIdeal.τ Cert.QkPrepIdeal.sig) → Buf (Elt Ideal) ℓ) (g : Dev Cert.QkPrepIdeal.nD → PrngReg), Pre_QkPrepIdeal_rotated_maxima_in_range m →
    θ_run (Cert.QkPrepIdeal.defs (F := Ideal)) (onTc (τ := Cert.QkPrepIdeal.τ) (Cert.QkPrepIdeal.main (F := Ideal))) ⟨m, fun _ => 0, g⟩ (fun r => (∀ c : Dev Cert.QkPrepIdeal.nD,
      r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
      ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
      ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
      ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
      ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4))
      ∧ r.2.sem = fun _ => 0)

def quiescent_QkReferenceIdeal [hQkReferenceIdeal : Cert.QkReferenceIdeal.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3)
      ∧ r.2.mem ((c.tc : Thread Cert.QkReferenceIdeal.nD Cert.QkReferenceIdeal.τ).loc Cert.QkReferenceIdeal.main_arg4) = m ((c.tc : Thread Cert.QkReferenceIdeal.nD Cert.QkReferenceIdeal.τ).loc Cert.QkReferenceIdeal.main_arg4))
      ∧ r.2.sem = fun _ => 0)

def quiescent_QkReferenceIdeal_pre_rotated_maxima_in_range [hQkReferenceIdeal : Cert.QkReferenceIdeal.Facts] [hPre_rotated_maxima_in_range : Cert.Pre_rotated_maxima_in_range.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal_rotated_maxima_in_range m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3)
      ∧ r.2.mem ((c.tc : Thread Cert.QkReferenceIdeal.nD Cert.QkReferenceIdeal.τ).loc Cert.QkReferenceIdeal.main_arg4) = m ((c.tc : Thread Cert.QkReferenceIdeal.nD Cert.QkReferenceIdeal.τ).loc Cert.QkReferenceIdeal.main_arg4))
      ∧ r.2.sem = fun _ => 0)

def preserves_Kernel_KernelIdeal : Prop :=
  IdealRules.named_const.Statement Cert.KernelIdeal.κ "sm_scale_log2e" .f32 0x3E0293EE#32 (((Real.sqrt 128)⁻¹ * (Real.log 2)⁻¹ : ℝ) : EReal)

def algebraic_KernelIdeal_ReferenceIdeal_pre_query_scales_in_range [hKernelIdeal : Cert.KernelIdeal.Facts] [hReferenceIdeal : Cert.ReferenceIdeal.Facts] [hPre_query_scales_in_range : Cert.Pre_query_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_query_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_VPrep_VPrepIdeal : Prop :=
  True

def algebraic_VPrepIdeal_VReferenceIdeal_pre_value_maxima_in_range [hVPrepIdeal : Cert.VPrepIdeal.Facts] [hVReferenceIdeal : Cert.VReferenceIdeal.Facts] [hPre_value_maxima_in_range : Cert.Pre_value_maxima_in_range.Facts] : Prop :=
  ∀ (m : (ℓ : Loc Cert.VPrepIdeal.nD Cert.VPrepIdeal.τ Cert.VPrepIdeal.sig) → Buf (Elt Ideal) ℓ) (g : Dev Cert.VPrepIdeal.nD → PrngReg)
    (m' : (ℓ : Loc Cert.VReferenceIdeal.nD Cert.VReferenceIdeal.τ Cert.VReferenceIdeal.sig) → Buf (Elt Ideal) ℓ) (g' : Dev Cert.VReferenceIdeal.nD → PrngReg), Pre_VPrepIdeal_value_maxima_in_range m →
    (∀ c : Dev Cert.VPrepIdeal.nD,
      m' ((c.tc : Thread Cert.VReferenceIdeal.nD Cert.VReferenceIdeal.τ).loc Cert.VReferenceIdeal.main_arg0) = m ((c.tc : Thread Cert.VPrepIdeal.nD Cert.VPrepIdeal.τ).loc Cert.VPrepIdeal.main_arg0)) →
    ∃ (v0 : (c : Dev Cert.VPrepIdeal.nD) → Buf (Elt Ideal) ((c.tc : Thread Cert.VPrepIdeal.nD Cert.VPrepIdeal.τ).loc Cert.VPrepIdeal.main_v0_0)) (v1 : (c : Dev Cert.VPrepIdeal.nD) → Buf (Elt Ideal) ((c.tc : Thread Cert.VPrepIdeal.nD Cert.VPrepIdeal.τ).loc Cert.VPrepIdeal.main_v0_1)),
      θ_run (Cert.VPrepIdeal.defs (F := Ideal)) (onTc (τ := Cert.VPrepIdeal.τ) (Cert.VPrepIdeal.main (F := Ideal))) ⟨m, fun _ => 0, g⟩ (fun r => ∀ c : Dev Cert.VPrepIdeal.nD,
          r.2.mem ((c.tc : Thread Cert.VPrepIdeal.nD Cert.VPrepIdeal.τ).loc Cert.VPrepIdeal.main_v0_0) = v0 c
          ∧ r.2.mem ((c.tc : Thread Cert.VPrepIdeal.nD Cert.VPrepIdeal.τ).loc Cert.VPrepIdeal.main_v0_1) = v1 c
          ∧ r.2.mem ((c.tc : Thread Cert.VPrepIdeal.nD Cert.VPrepIdeal.τ).loc Cert.VPrepIdeal.main_arg0) = m ((c.tc : Thread Cert.VPrepIdeal.nD Cert.VPrepIdeal.τ).loc Cert.VPrepIdeal.main_arg0))
      ∧ θ_run (Cert.VReferenceIdeal.defs (F := Ideal)) (onTc (τ := Cert.VReferenceIdeal.τ) (Cert.VReferenceIdeal.main (F := Ideal))) ⟨m', fun _ => 0, g'⟩ (fun r => ∀ c : Dev Cert.VReferenceIdeal.nD,
          r.2.mem ((c.tc : Thread Cert.VReferenceIdeal.nD Cert.VReferenceIdeal.τ).loc Cert.VReferenceIdeal.main_v0_0) = v0 c
          ∧ r.2.mem ((c.tc : Thread Cert.VReferenceIdeal.nD Cert.VReferenceIdeal.τ).loc Cert.VReferenceIdeal.main_v0_1) = v1 c
          ∧ r.2.mem ((c.tc : Thread Cert.VReferenceIdeal.nD Cert.VReferenceIdeal.τ).loc Cert.VReferenceIdeal.main_arg0) = m' ((c.tc : Thread Cert.VReferenceIdeal.nD Cert.VReferenceIdeal.τ).loc Cert.VReferenceIdeal.main_arg0))

def preserves_QkPrep_QkPrepIdeal : Prop :=
  True

def algebraic_QkPrepIdeal_QkReferenceIdeal_pre_rotated_maxima_in_range [hQkPrepIdeal : Cert.QkPrepIdeal.Facts] [hQkReferenceIdeal : Cert.QkReferenceIdeal.Facts] [hPre_rotated_maxima_in_range : Cert.Pre_rotated_maxima_in_range.Facts] : Prop :=
  ∀ (m : (ℓ : Loc Cert.QkPrepIdeal.nD Cert.QkPrepIdeal.τ Cert.QkPrepIdeal.sig) → Buf (Elt Ideal) ℓ) (g : Dev Cert.QkPrepIdeal.nD → PrngReg)
    (m' : (ℓ : Loc Cert.QkReferenceIdeal.nD Cert.QkReferenceIdeal.τ Cert.QkReferenceIdeal.sig) → Buf (Elt Ideal) ℓ) (g' : Dev Cert.QkReferenceIdeal.nD → PrngReg), Pre_QkPrepIdeal_rotated_maxima_in_range m →
    (∀ c : Dev Cert.QkPrepIdeal.nD,
      m' ((c.tc : Thread Cert.QkReferenceIdeal.nD Cert.QkReferenceIdeal.τ).loc Cert.QkReferenceIdeal.main_arg0) = m ((c.tc : Thread Cert.QkPrepIdeal.nD Cert.QkPrepIdeal.τ).loc Cert.QkPrepIdeal.main_arg0)
      ∧ m' ((c.tc : Thread Cert.QkReferenceIdeal.nD Cert.QkReferenceIdeal.τ).loc Cert.QkReferenceIdeal.main_arg1) = m ((c.tc : Thread Cert.QkPrepIdeal.nD Cert.QkPrepIdeal.τ).loc Cert.QkPrepIdeal.main_arg1)
      ∧ m' ((c.tc : Thread Cert.QkReferenceIdeal.nD Cert.QkReferenceIdeal.τ).loc Cert.QkReferenceIdeal.main_arg2) = m ((c.tc : Thread Cert.QkPrepIdeal.nD Cert.QkPrepIdeal.τ).loc Cert.QkPrepIdeal.main_arg2)
      ∧ m' ((c.tc : Thread Cert.QkReferenceIdeal.nD Cert.QkReferenceIdeal.τ).loc Cert.QkReferenceIdeal.main_arg3) = m ((c.tc : Thread Cert.QkPrepIdeal.nD Cert.QkPrepIdeal.τ).loc Cert.QkPrepIdeal.main_arg3)
      ∧ m' ((c.tc : Thread Cert.QkReferenceIdeal.nD Cert.QkReferenceIdeal.τ).loc Cert.QkReferenceIdeal.main_arg4) = m ((c.tc : Thread Cert.QkPrepIdeal.nD Cert.QkPrepIdeal.τ).loc Cert.QkPrepIdeal.main_arg4)) →
    ∃ (v0 : (c : Dev Cert.QkPrepIdeal.nD) → Buf (Elt Ideal) ((c.tc : Thread Cert.QkPrepIdeal.nD Cert.QkPrepIdeal.τ).loc Cert.QkPrepIdeal.main_v30_0)) (v1 : (c : Dev Cert.QkPrepIdeal.nD) → Buf (Elt Ideal) ((c.tc : Thread Cert.QkPrepIdeal.nD Cert.QkPrepIdeal.τ).loc Cert.QkPrepIdeal.main_v30_1)) (v2 : (c : Dev Cert.QkPrepIdeal.nD) → Buf (Elt Ideal) ((c.tc : Thread Cert.QkPrepIdeal.nD Cert.QkPrepIdeal.τ).loc Cert.QkPrepIdeal.main_v30_2)) (v3 : (c : Dev Cert.QkPrepIdeal.nD) → Buf (Elt Ideal) ((c.tc : Thread Cert.QkPrepIdeal.nD Cert.QkPrepIdeal.τ).loc Cert.QkPrepIdeal.main_v30_3)) (v4 : (c : Dev Cert.QkPrepIdeal.nD) → Buf (Elt Ideal) ((c.tc : Thread Cert.QkPrepIdeal.nD Cert.QkPrepIdeal.τ).loc Cert.QkPrepIdeal.main_v30_4)),
      θ_run (Cert.QkPrepIdeal.defs (F := Ideal)) (onTc (τ := Cert.QkPrepIdeal.τ) (Cert.QkPrepIdeal.main (F := Ideal))) ⟨m, fun _ => 0, g⟩ (fun r => ∀ c : Dev Cert.QkPrepIdeal.nD,
          r.2.mem ((c.tc : Thread Cert.QkPrepIdeal.nD Cert.QkPrepIdeal.τ).loc Cert.QkPrepIdeal.main_v30_0) = v0 c
          ∧ r.2.mem ((c.tc : Thread Cert.QkPrepIdeal.nD Cert.QkPrepIdeal.τ).loc Cert.QkPrepIdeal.main_v30_1) = v1 c
          ∧ r.2.mem ((c.tc : Thread Cert.QkPrepIdeal.nD Cert.QkPrepIdeal.τ).loc Cert.QkPrepIdeal.main_v30_2) = v2 c
          ∧ r.2.mem ((c.tc : Thread Cert.QkPrepIdeal.nD Cert.QkPrepIdeal.τ).loc Cert.QkPrepIdeal.main_v30_3) = v3 c
          ∧ r.2.mem ((c.tc : Thread Cert.QkPrepIdeal.nD Cert.QkPrepIdeal.τ).loc Cert.QkPrepIdeal.main_v30_4) = v4 c
          ∧ r.2.mem ((c.tc : Thread Cert.QkPrepIdeal.nD Cert.QkPrepIdeal.τ).loc Cert.QkPrepIdeal.main_arg0) = m ((c.tc : Thread Cert.QkPrepIdeal.nD Cert.QkPrepIdeal.τ).loc Cert.QkPrepIdeal.main_arg0)
          ∧ r.2.mem ((c.tc : Thread Cert.QkPrepIdeal.nD Cert.QkPrepIdeal.τ).loc Cert.QkPrepIdeal.main_arg1) = m ((c.tc : Thread Cert.QkPrepIdeal.nD Cert.QkPrepIdeal.τ).loc Cert.QkPrepIdeal.main_arg1)
          ∧ r.2.mem ((c.tc : Thread Cert.QkPrepIdeal.nD Cert.QkPrepIdeal.τ).loc Cert.QkPrepIdeal.main_arg2) = m ((c.tc : Thread Cert.QkPrepIdeal.nD Cert.QkPrepIdeal.τ).loc Cert.QkPrepIdeal.main_arg2)
          ∧ r.2.mem ((c.tc : Thread Cert.QkPrepIdeal.nD Cert.QkPrepIdeal.τ).loc Cert.QkPrepIdeal.main_arg3) = m ((c.tc : Thread Cert.QkPrepIdeal.nD Cert.QkPrepIdeal.τ).loc Cert.QkPrepIdeal.main_arg3)
          ∧ r.2.mem ((c.tc : Thread Cert.QkPrepIdeal.nD Cert.QkPrepIdeal.τ).loc Cert.QkPrepIdeal.main_arg4) = m ((c.tc : Thread Cert.QkPrepIdeal.nD Cert.QkPrepIdeal.τ).loc Cert.QkPrepIdeal.main_arg4))
      ∧ θ_run (Cert.QkReferenceIdeal.defs (F := Ideal)) (onTc (τ := Cert.QkReferenceIdeal.τ) (Cert.QkReferenceIdeal.main (F := Ideal))) ⟨m', fun _ => 0, g'⟩ (fun r => ∀ c : Dev Cert.QkReferenceIdeal.nD,
          r.2.mem ((c.tc : Thread Cert.QkReferenceIdeal.nD Cert.QkReferenceIdeal.τ).loc Cert.QkReferenceIdeal.main_v30_0) = v0 c
          ∧ r.2.mem ((c.tc : Thread Cert.QkReferenceIdeal.nD Cert.QkReferenceIdeal.τ).loc Cert.QkReferenceIdeal.main_v30_1) = v1 c
          ∧ r.2.mem ((c.tc : Thread Cert.QkReferenceIdeal.nD Cert.QkReferenceIdeal.τ).loc Cert.QkReferenceIdeal.main_v30_2) = v2 c
          ∧ r.2.mem ((c.tc : Thread Cert.QkReferenceIdeal.nD Cert.QkReferenceIdeal.τ).loc Cert.QkReferenceIdeal.main_v30_3) = v3 c
          ∧ r.2.mem ((c.tc : Thread Cert.QkReferenceIdeal.nD Cert.QkReferenceIdeal.τ).loc Cert.QkReferenceIdeal.main_v30_4) = v4 c
          ∧ r.2.mem ((c.tc : Thread Cert.QkReferenceIdeal.nD Cert.QkReferenceIdeal.τ).loc Cert.QkReferenceIdeal.main_arg0) = m' ((c.tc : Thread Cert.QkReferenceIdeal.nD Cert.QkReferenceIdeal.τ).loc Cert.QkReferenceIdeal.main_arg0)
          ∧ r.2.mem ((c.tc : Thread Cert.QkReferenceIdeal.nD Cert.QkReferenceIdeal.τ).loc Cert.QkReferenceIdeal.main_arg1) = m' ((c.tc : Thread Cert.QkReferenceIdeal.nD Cert.QkReferenceIdeal.τ).loc Cert.QkReferenceIdeal.main_arg1)
          ∧ r.2.mem ((c.tc : Thread Cert.QkReferenceIdeal.nD Cert.QkReferenceIdeal.τ).loc Cert.QkReferenceIdeal.main_arg2) = m' ((c.tc : Thread Cert.QkReferenceIdeal.nD Cert.QkReferenceIdeal.τ).loc Cert.QkReferenceIdeal.main_arg2)
          ∧ r.2.mem ((c.tc : Thread Cert.QkReferenceIdeal.nD Cert.QkReferenceIdeal.τ).loc Cert.QkReferenceIdeal.main_arg3) = m' ((c.tc : Thread Cert.QkReferenceIdeal.nD Cert.QkReferenceIdeal.τ).loc Cert.QkReferenceIdeal.main_arg3)
          ∧ r.2.mem ((c.tc : Thread Cert.QkReferenceIdeal.nD Cert.QkReferenceIdeal.τ).loc Cert.QkReferenceIdeal.main_arg4) = m' ((c.tc : Thread Cert.QkReferenceIdeal.nD Cert.QkReferenceIdeal.τ).loc Cert.QkReferenceIdeal.main_arg4))

def Claim : Prop :=
  ∃ (hKernel : Cert.Kernel.Facts) (hKernelIdeal : Cert.KernelIdeal.Facts) (hReferenceIdeal : Cert.ReferenceIdeal.Facts) (hVPrep : Cert.VPrep.Facts) (hVPrepIdeal : Cert.VPrepIdeal.Facts) (hVReferenceIdeal : Cert.VReferenceIdeal.Facts) (hQkPrep : Cert.QkPrep.Facts) (hQkPrepIdeal : Cert.QkPrepIdeal.Facts) (hQkReferenceIdeal : Cert.QkReferenceIdeal.Facts) (hPre_query_scales_in_range : Cert.Pre_query_scales_in_range.Facts) (hPre_value_maxima_in_range : Cert.Pre_value_maxima_in_range.Facts) (hPre_rotated_maxima_in_range : Cert.Pre_rotated_maxima_in_range.Facts),
    quiescent_Kernel (hKernel := hKernel)
    ∧ quiescent_KernelIdeal (hKernelIdeal := hKernelIdeal)
    ∧ quiescent_KernelIdeal_pre_query_scales_in_range (hKernelIdeal := hKernelIdeal) (hPre_query_scales_in_range := hPre_query_scales_in_range)
    ∧ quiescent_ReferenceIdeal (hReferenceIdeal := hReferenceIdeal)
    ∧ quiescent_ReferenceIdeal_pre_query_scales_in_range (hReferenceIdeal := hReferenceIdeal) (hPre_query_scales_in_range := hPre_query_scales_in_range)
    ∧ quiescent_VPrep (hVPrep := hVPrep)
    ∧ quiescent_VPrepIdeal (hVPrepIdeal := hVPrepIdeal)
    ∧ quiescent_VPrepIdeal_pre_value_maxima_in_range (hVPrepIdeal := hVPrepIdeal) (hPre_value_maxima_in_range := hPre_value_maxima_in_range)
    ∧ quiescent_VReferenceIdeal (hVReferenceIdeal := hVReferenceIdeal)
    ∧ quiescent_VReferenceIdeal_pre_value_maxima_in_range (hVReferenceIdeal := hVReferenceIdeal) (hPre_value_maxima_in_range := hPre_value_maxima_in_range)
    ∧ quiescent_QkPrep (hQkPrep := hQkPrep)
    ∧ quiescent_QkPrepIdeal (hQkPrepIdeal := hQkPrepIdeal)
    ∧ quiescent_QkPrepIdeal_pre_rotated_maxima_in_range (hQkPrepIdeal := hQkPrepIdeal) (hPre_rotated_maxima_in_range := hPre_rotated_maxima_in_range)
    ∧ quiescent_QkReferenceIdeal (hQkReferenceIdeal := hQkReferenceIdeal)
    ∧ quiescent_QkReferenceIdeal_pre_rotated_maxima_in_range (hQkReferenceIdeal := hQkReferenceIdeal) (hPre_rotated_maxima_in_range := hPre_rotated_maxima_in_range)
    ∧ preserves_Kernel_KernelIdeal
    ∧ algebraic_KernelIdeal_ReferenceIdeal_pre_query_scales_in_range (hKernelIdeal := hKernelIdeal) (hReferenceIdeal := hReferenceIdeal) (hPre_query_scales_in_range := hPre_query_scales_in_range)
    ∧ preserves_VPrep_VPrepIdeal
    ∧ algebraic_VPrepIdeal_VReferenceIdeal_pre_value_maxima_in_range (hVPrepIdeal := hVPrepIdeal) (hVReferenceIdeal := hVReferenceIdeal) (hPre_value_maxima_in_range := hPre_value_maxima_in_range)
    ∧ preserves_QkPrep_QkPrepIdeal
    ∧ algebraic_QkPrepIdeal_QkReferenceIdeal_pre_rotated_maxima_in_range (hQkPrepIdeal := hQkPrepIdeal) (hQkReferenceIdeal := hQkReferenceIdeal) (hPre_rotated_maxima_in_range := hPre_rotated_maxima_in_range)
-- ==== Pre_query_scales_in_range.lean ====
abbrev S8x4096x1024 : Shape := ⟨3, ![8, 4096, 1024]⟩
abbrev S8x8x128x4096 : Shape := ⟨4, ![8, 8, 128, 4096]⟩
abbrev S64x1x4096 : Shape := ⟨3, ![64, 1, 4096]⟩
abbrev S64x1x128 : Shape := ⟨3, ![64, 1, 128]⟩
abbrev S_ : Shape := ⟨0, ![]⟩

class Facts : Prop where
  bcast_S_S64x1x4096 : S_.BroadcastsInDim S64x1x4096 (![] : Fin 0 → Fin S64x1x4096.rank)

variable [Facts]

def fn {F : FTy → Type} [FloatOps F] (main_arg0 : FVec F S8x4096x1024 .fp8e4m3) (main_arg1 : FVec F S8x8x128x4096 .fp8e4m3) (main_arg2 : FVec F S8x4096x1024 .fp8e4m3) (main_arg3 : FVec F S64x1x4096 .f32) (main_arg4 : FVec F S64x1x4096 .f32) (main_arg5 : FVec F S64x1x128 .f32) : IVec S64x1x4096 1 :=
  let main_cst : FVec F S_ .f32 := constant S_ .f32 0x03800000#32
  let main_v0 : FVec F S64x1x4096 .f32 := broadcastInDim S64x1x4096 ![] bcast_S_S64x1x4096 main_cst
  let main_v1 : IVec S64x1x4096 1 := cmpf .oge main_arg3 main_v0
  let main_cst_0 : FVec F S_ .f32 := constant S_ .f32 0x7F800000#32
  let main_v2 : FVec F S64x1x4096 .f32 := broadcastInDim S64x1x4096 ![] bcast_S_S64x1x4096 main_cst_0
  let main_v3 : IVec S64x1x4096 1 := cmpf .olt main_arg3 main_v2
  let main_v4 : IVec S64x1x4096 1 := andi main_v1 main_v3
  main_v4
-- ==== Pre_rotated_maxima_in_range.lean ====
abbrev S8x4096x1024 : Shape := ⟨3, ![8, 4096, 1024]⟩
abbrev S128 : Shape := ⟨1, ![128]⟩
abbrev S8 : Shape := ⟨1, ![8]⟩
abbrev S64 : Shape := ⟨1, ![64]⟩
abbrev S_ : Shape := ⟨0, ![]⟩
abbrev S8x1 : Shape := ⟨2, ![8, 1]⟩
abbrev S4096 : Shape := ⟨1, ![4096]⟩
abbrev S1x4096 : Shape := ⟨2, ![1, 4096]⟩
abbrev S8x4096 : Shape := ⟨2, ![8, 4096]⟩
abbrev S8x4096x1 : Shape := ⟨3, ![8, 4096, 1]⟩
abbrev S1x1x64 : Shape := ⟨3, ![1, 1, 64]⟩
abbrev S8x4096x64 : Shape := ⟨3, ![8, 4096, 64]⟩
abbrev S8x4096x1x64 : Shape := ⟨4, ![8, 4096, 1, 64]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x8x64 : Shape := ⟨4, ![8, 4096, 8, 64]⟩

class Facts : Prop where
  bcast_S_S64 : S_.BroadcastsInDim S64 (![] : Fin 0 → Fin S64.rank)
  bcast_S8_S8x1_0 : S8.BroadcastsInDim S8x1 (![0] : Fin 1 → Fin S8x1.rank)
  bcast_S4096_S1x4096_1 : S4096.BroadcastsInDim S1x4096 (![1] : Fin 1 → Fin S1x4096.rank)
  bcast_S8x1_S8x4096_0_1 : S8x1.BroadcastsInDim S8x4096 (![0, 1] : Fin 2 → Fin S8x4096.rank)
  bcast_S1x4096_S8x4096_0_1 : S1x4096.BroadcastsInDim S8x4096 (![0, 1] : Fin 2 → Fin S8x4096.rank)
  bcast_S8x4096_S8x4096x1_0_1 : S8x4096.BroadcastsInDim S8x4096x1 (![0, 1] : Fin 2 → Fin S8x4096x1.rank)
  bcast_S64_S1x1x64_2 : S64.BroadcastsInDim S1x1x64 (![2] : Fin 1 → Fin S1x1x64.rank)
  bcast_S8x4096x1_S8x4096x64_0_1_2 : S8x4096x1.BroadcastsInDim S8x4096x64 (![0, 1, 2] : Fin 3 → Fin S8x4096x64.rank)
  bcast_S1x1x64_S8x4096x64_0_1_2 : S1x1x64.BroadcastsInDim S8x4096x64 (![0, 1, 2] : Fin 3 → Fin S8x4096x64.rank)
  bcast_S8x4096x64_S8x4096x1x64_0_1_3 : S8x4096x64.BroadcastsInDim S8x4096x1x64 (![0, 1, 3] : Fin 3 → Fin S8x4096x1x64.rank)
  bitsLt_bf16_f32 : FTy.bits .bf16 < FTy.bits .f32
  shapeCasts_S8x4096x1024_S8x4096x8x128 : S8x4096x1024.ShapeCasts S8x4096x8x128
  reducesTo_S8x4096x8x128_S8x4096x8_d3 : S8x4096x8x128.ReducesTo [3] S8x4096x8
  h_S_ : 0 < S_.numel
  bcast_S8x4096x8_S8x4096x8x1_0_1_2 : S8x4096x8.BroadcastsInDim S8x4096x8x1 (![0, 1, 2] : Fin 3 → Fin S8x4096x8x1.rank)
  bcast_S_S8x4096x8x1 : S_.BroadcastsInDim S8x4096x8x1 (![] : Fin 0 → Fin S8x4096x8x1.rank)
  bcast_S8x4096x8x1_S8x4096x8x128_0_1_2_3 : S8x4096x8x1.BroadcastsInDim S8x4096x8x128 (![0, 1, 2, 3] : Fin 4 → Fin S8x4096x8x128.rank)
  bcast_S128_S1x1x1x128_3 : S128.BroadcastsInDim S1x1x1x128 (![3] : Fin 1 → Fin S1x1x1x128.rank)
  bcast_S1x1x1x128_S8x4096x8x128_0_1_2_3 : S1x1x1x128.BroadcastsInDim S8x4096x8x128 (![0, 1, 2, 3] : Fin 4 → Fin S8x4096x8x128.rank)
  slices_S8x4096x8x128_S8x4096x8x64_0_0_0_0 : S8x4096x8x128.Slices ![0, 0, 0, 0] S8x4096x8x64
  slices_S8x4096x8x128_S8x4096x8x64_0_0_0_64 : S8x4096x8x128.Slices ![0, 0, 0, 64] S8x4096x8x64
  bcast_S8x4096x1x64_S8x4096x8x64_0_1_2_3 : S8x4096x1x64.BroadcastsInDim S8x4096x8x64 (![0, 1, 2, 3] : Fin 4 → Fin S8x4096x8x64.rank)
  concatenates_S8x4096x8x64_S8x4096x8x64_S8x4096x8x128_d3 : Shape.Concatenates [S8x4096x8x64, S8x4096x8x64] S8x4096x8x128 3
  bcast_S_S8x4096x8 : S_.BroadcastsInDim S8x4096x8 (![] : Fin 0 → Fin S8x4096x8.rank)

variable [Facts]

def fn_part5 {F : FTy → Type} [FloatOps F] (main_v66 : IVec S8x4096x8 1) (main_v97 : FVec F S8x4096x8 .f32) (main_v99 : IVec S8x4096x8 1) (main_v101 : FVec F S8x4096x8 .f32) : IVec S8x4096x8 1 :=
  let main_cst_17 : FVec F S_ .f32 := constant S_ .f32 0x04000000#32
  let main_v102 : FVec F S8x4096x8 .f32 := broadcastInDim S8x4096x8 ![] bcast_S_S8x4096x8 main_cst_17
  let main_v103 : IVec S8x4096x8 1 := cmpf .oge main_v101 main_v102
  let main_cst_18 : FVec F S_ .f32 := constant S_ .f32 0x7F7F0000#32
  let main_v104 : FVec F S8x4096x8 .f32 := broadcastInDim S8x4096x8 ![] bcast_S_S8x4096x8 main_cst_18
  let main_v105 : IVec S8x4096x8 1 := cmpf .ole main_v97 main_v104
  let main_v106 : IVec S8x4096x8 1 := andi main_v103 main_v105
  let main_v107 : IVec S8x4096x8 1 := ori main_v99 main_v106
  let main_v108 : IVec S8x4096x8 1 := andi main_v66 main_v107
  main_v108

def fn_part4 {F : FTy → Type} [FloatOps F] (main_v23 : FVec F S8x4096x1x64 .f32) (main_v25 : FVec F S8x4096x1x64 .f32) (main_v66 : IVec S8x4096x8 1) (main_v79 : FVec F S8x4096x8x128 .f32) (main_v80 : FVec F S1x1x1x128 .f32) : IVec S8x4096x8 1 :=
  let main_v81 : FVec F S8x4096x8x128 .f32 := broadcastInDim S8x4096x8x128 ![0, 1, 2, 3] bcast_S1x1x1x128_S8x4096x8x128_0_1_2_3 main_v80
  let main_v82 : FVec F S8x4096x8x128 .f32 := mulf main_v79 main_v81
  let main_v83 : FVec F S8x4096x8x64 .f32 := (extractStridedSlice S8x4096x8x64 ![0, 0, 0, 0] · slices_S8x4096x8x128_S8x4096x8x64_0_0_0_0) main_v82
  let main_v84 : FVec F S8x4096x8x64 .f32 := (extractStridedSlice S8x4096x8x64 ![0, 0, 0, 64] · slices_S8x4096x8x128_S8x4096x8x64_0_0_0_64) main_v82
  let main_v85 : FVec F S8x4096x8x64 .f32 := broadcastInDim S8x4096x8x64 ![0, 1, 2, 3] bcast_S8x4096x1x64_S8x4096x8x64_0_1_2_3 main_v23
  let main_v86 : FVec F S8x4096x8x64 .f32 := mulf main_v83 main_v85
  let main_v87 : FVec F S8x4096x8x64 .f32 := broadcastInDim S8x4096x8x64 ![0, 1, 2, 3] bcast_S8x4096x1x64_S8x4096x8x64_0_1_2_3 main_v25
  let main_v88 : FVec F S8x4096x8x64 .f32 := mulf main_v84 main_v87
  let main_v89 : FVec F S8x4096x8x64 .f32 := subf main_v86 main_v88
  let main_v90 : FVec F S8x4096x8x64 .f32 := broadcastInDim S8x4096x8x64 ![0, 1, 2, 3] bcast_S8x4096x1x64_S8x4096x8x64_0_1_2_3 main_v23
  let main_v91 : FVec F S8x4096x8x64 .f32 := mulf main_v84 main_v90
  let main_v92 : FVec F S8x4096x8x64 .f32 := broadcastInDim S8x4096x8x64 ![0, 1, 2, 3] bcast_S8x4096x1x64_S8x4096x8x64_0_1_2_3 main_v25
  let main_v93 : FVec F S8x4096x8x64 .f32 := mulf main_v83 main_v92
  let main_v94 : FVec F S8x4096x8x64 .f32 := addf main_v91 main_v93
  let main_v95 : FVec F S8x4096x8x128 .f32 := (fun a b => concatenate S8x4096x8x128 3 [⟨S8x4096x8x64, a⟩, ⟨S8x4096x8x64, b⟩] concatenates_S8x4096x8x64_S8x4096x8x64_S8x4096x8x128_d3) main_v89 main_v94
  let main_v96 : FVec F S8x4096x8x128 .f32 := Host.absf main_v95
  let main_cst_14 : FVec F S_ .f32 := constant S_ .f32 0xFF800000#32
  let main_v97 : FVec F S8x4096x8 .f32 := (fun x v => Host.reduce FloatOps.maximumf x v reducesTo_S8x4096x8x128_S8x4096x8_d3 h_S_) main_v96 main_cst_14
  let main_cst_15 : FVec F S_ .f32 := constant S_ .f32 0x00000000#32
  let main_v98 : FVec F S8x4096x8 .f32 := broadcastInDim S8x4096x8 ![] bcast_S_S8x4096x8 main_cst_15
  let main_v99 : IVec S8x4096x8 1 := cmpf .oeq main_v97 main_v98
  let main_cst_16 : FVec F S_ .f32 := constant S_ .f32 0x3B124925#32
  let main_v100 : FVec F S8x4096x8 .f32 := broadcastInDim S8x4096x8 ![] bcast_S_S8x4096x8 main_cst_16
  let main_v101 : FVec F S8x4096x8 .f32 := mulf main_v97 main_v100
  fn_part5 (F := F) main_v66 main_v97 main_v99 main_v101

def fn_part3 {F : FTy → Type} [FloatOps F] (main_arg1 : FVec F S8x4096x1024 .bf16) (main_arg3 : FVec F S128 .bf16) (main_v23 : FVec F S8x4096x1x64 .f32) (main_v25 : FVec F S8x4096x1x64 .f32) (main_v56 : FVec F S8x4096x8 .f32) (main_v58 : IVec S8x4096x8 1) (main_v60 : FVec F S8x4096x8 .f32) (main_cst_9 : FVec F S_ .f32) : IVec S8x4096x8 1 :=
  let main_v61 : FVec F S8x4096x8 .f32 := broadcastInDim S8x4096x8 ![] bcast_S_S8x4096x8 main_cst_9
  let main_v62 : IVec S8x4096x8 1 := cmpf .oge main_v60 main_v61
  let main_cst_10 : FVec F S_ .f32 := constant S_ .f32 0x7F7F0000#32
  let main_v63 : FVec F S8x4096x8 .f32 := broadcastInDim S8x4096x8 ![] bcast_S_S8x4096x8 main_cst_10
  let main_v64 : IVec S8x4096x8 1 := cmpf .ole main_v56 main_v63
  let main_v65 : IVec S8x4096x8 1 := andi main_v62 main_v64
  let main_v66 : IVec S8x4096x8 1 := ori main_v58 main_v65
  let main_v67 : FVec F S8x4096x1024 .f32 := (extf .f32 · bitsLt_bf16_f32) main_arg1
  let main_v68 : FVec F S8x4096x8x128 .f32 := shapeCast S8x4096x8x128 main_v67 shapeCasts_S8x4096x1024_S8x4096x8x128
  let main_v69 : FVec F S128 .f32 := (extf .f32 · bitsLt_bf16_f32) main_arg3
  let main_v70 : FVec F S8x4096x8x128 .f32 := mulf main_v68 main_v68
  let main_cst_11 : FVec F S_ .f32 := constant S_ .f32 0x00000000#32
  let main_v71 : FVec F S8x4096x8 .f32 := (fun x v => Host.reduceAdd x v reducesTo_S8x4096x8x128_S8x4096x8_d3 h_S_) main_v70 main_cst_11
  let main_v72 : FVec F S8x4096x8x1 .f32 := broadcastInDim S8x4096x8x1 ![0, 1, 2] bcast_S8x4096x8_S8x4096x8x1_0_1_2 main_v71
  let main_cst_12 : FVec F S_ .f32 := constant S_ .f32 0x43000000#32
  let main_v73 : FVec F S8x4096x8x1 .f32 := broadcastInDim S8x4096x8x1 ![] bcast_S_S8x4096x8x1 main_cst_12
  let main_v74 : FVec F S8x4096x8x1 .f32 := Host.divf main_v72 main_v73
  let main_cst_13 : FVec F S_ .f32 := constant S_ .f32 0x358637BD#32
  let main_v75 : FVec F S8x4096x8x1 .f32 := broadcastInDim S8x4096x8x1 ![] bcast_S_S8x4096x8x1 main_cst_13
  let main_v76 : FVec F S8x4096x8x1 .f32 := addf main_v74 main_v75
  let main_v77 : FVec F S8x4096x8x1 .f32 := Host.rsqrt main_v76
  let main_v78 : FVec F S8x4096x8x128 .f32 := broadcastInDim S8x4096x8x128 ![0, 1, 2, 3] bcast_S8x4096x8x1_S8x4096x8x128_0_1_2_3 main_v77
  let main_v79 : FVec F S8x4096x8x128 .f32 := mulf main_v68 main_v78
  let main_v80 : FVec F S1x1x1x128 .f32 := broadcastInDim S1x1x1x128 ![3] bcast_S128_S1x1x1x128_3 main_v69
  fn_part4 (F := F) main_v23 main_v25 main_v66 main_v79 main_v80

def fn_part2 {F : FTy → Type} [FloatOps F] (main_arg1 : FVec F S8x4096x1024 .bf16) (main_arg3 : FVec F S128 .bf16) (main_v23 : FVec F S8x4096x1x64 .f32) (main_v25 : FVec F S8x4096x1x64 .f32) (main_v38 : FVec F S8x4096x8x128 .f32) (main_v40 : FVec F S8x4096x8x128 .f32) : IVec S8x4096x8 1 :=
  let main_v41 : FVec F S8x4096x8x128 .f32 := mulf main_v38 main_v40
  let main_v42 : FVec F S8x4096x8x64 .f32 := (extractStridedSlice S8x4096x8x64 ![0, 0, 0, 0] · slices_S8x4096x8x128_S8x4096x8x64_0_0_0_0) main_v41
  let main_v43 : FVec F S8x4096x8x64 .f32 := (extractStridedSlice S8x4096x8x64 ![0, 0, 0, 64] · slices_S8x4096x8x128_S8x4096x8x64_0_0_0_64) main_v41
  let main_v44 : FVec F S8x4096x8x64 .f32 := broadcastInDim S8x4096x8x64 ![0, 1, 2, 3] bcast_S8x4096x1x64_S8x4096x8x64_0_1_2_3 main_v23
  let main_v45 : FVec F S8x4096x8x64 .f32 := mulf main_v42 main_v44
  let main_v46 : FVec F S8x4096x8x64 .f32 := broadcastInDim S8x4096x8x64 ![0, 1, 2, 3] bcast_S8x4096x1x64_S8x4096x8x64_0_1_2_3 main_v25
  let main_v47 : FVec F S8x4096x8x64 .f32 := mulf main_v43 main_v46
  let main_v48 : FVec F S8x4096x8x64 .f32 := subf main_v45 main_v47
  let main_v49 : FVec F S8x4096x8x64 .f32 := broadcastInDim S8x4096x8x64 ![0, 1, 2, 3] bcast_S8x4096x1x64_S8x4096x8x64_0_1_2_3 main_v23
  let main_v50 : FVec F S8x4096x8x64 .f32 := mulf main_v43 main_v49
  let main_v51 : FVec F S8x4096x8x64 .f32 := broadcastInDim S8x4096x8x64 ![0, 1, 2, 3] bcast_S8x4096x1x64_S8x4096x8x64_0_1_2_3 main_v25
  let main_v52 : FVec F S8x4096x8x64 .f32 := mulf main_v42 main_v51
  let main_v53 : FVec F S8x4096x8x64 .f32 := addf main_v50 main_v52
  let main_v54 : FVec F S8x4096x8x128 .f32 := (fun a b => concatenate S8x4096x8x128 3 [⟨S8x4096x8x64, a⟩, ⟨S8x4096x8x64, b⟩] concatenates_S8x4096x8x64_S8x4096x8x64_S8x4096x8x128_d3) main_v48 main_v53
  let main_v55 : FVec F S8x4096x8x128 .f32 := Host.absf main_v54
  let main_cst_6 : FVec F S_ .f32 := constant S_ .f32 0xFF800000#32
  let main_v56 : FVec F S8x4096x8 .f32 := (fun x v => Host.reduce FloatOps.maximumf x v reducesTo_S8x4096x8x128_S8x4096x8_d3 h_S_) main_v55 main_cst_6
  let main_cst_7 : FVec F S_ .f32 := constant S_ .f32 0x00000000#32
  let main_v57 : FVec F S8x4096x8 .f32 := broadcastInDim S8x4096x8 ![] bcast_S_S8x4096x8 main_cst_7
  let main_v58 : IVec S8x4096x8 1 := cmpf .oeq main_v56 main_v57
  let main_cst_8 : FVec F S_ .f32 := constant S_ .f32 0x3B124925#32
  let main_v59 : FVec F S8x4096x8 .f32 := broadcastInDim S8x4096x8 ![] bcast_S_S8x4096x8 main_cst_8
  let main_v60 : FVec F S8x4096x8 .f32 := mulf main_v56 main_v59
  let main_cst_9 : FVec F S_ .f32 := constant S_ .f32 0x04000000#32
  fn_part3 (F := F) main_arg1 main_arg3 main_v23 main_v25 main_v56 main_v58 main_v60 main_cst_9

def fn_part1 {F : FTy → Type} [FloatOps F] (main_arg0 : FVec F S8x4096x1024 .bf16) (main_arg1 : FVec F S8x4096x1024 .bf16) (main_arg2 : FVec F S128 .bf16) (main_arg3 : FVec F S128 .bf16) (main_v18 : FVec F S1x1x64 .f32) (main_v19 : FVec F S8x4096x64 .f32) : IVec S8x4096x8 1 :=
  let main_v20 : FVec F S8x4096x64 .f32 := broadcastInDim S8x4096x64 ![0, 1, 2] bcast_S1x1x64_S8x4096x64_0_1_2 main_v18
  let main_v21 : FVec F S8x4096x64 .f32 := mulf main_v19 main_v20
  let main_v22 : FVec F S8x4096x64 .f32 := Host.cos main_v21
  let main_v23 : FVec F S8x4096x1x64 .f32 := broadcastInDim S8x4096x1x64 ![0, 1, 3] bcast_S8x4096x64_S8x4096x1x64_0_1_3 main_v22
  let main_v24 : FVec F S8x4096x64 .f32 := Host.sin main_v21
  let main_v25 : FVec F S8x4096x1x64 .f32 := broadcastInDim S8x4096x1x64 ![0, 1, 3] bcast_S8x4096x64_S8x4096x1x64_0_1_3 main_v24
  let main_v26 : FVec F S8x4096x1024 .f32 := (extf .f32 · bitsLt_bf16_f32) main_arg0
  let main_v27 : FVec F S8x4096x8x128 .f32 := shapeCast S8x4096x8x128 main_v26 shapeCasts_S8x4096x1024_S8x4096x8x128
  let main_v28 : FVec F S128 .f32 := (extf .f32 · bitsLt_bf16_f32) main_arg2
  let main_v29 : FVec F S8x4096x8x128 .f32 := mulf main_v27 main_v27
  let main_cst_3 : FVec F S_ .f32 := constant S_ .f32 0x00000000#32
  let main_v30 : FVec F S8x4096x8 .f32 := (fun x v => Host.reduceAdd x v reducesTo_S8x4096x8x128_S8x4096x8_d3 h_S_) main_v29 main_cst_3
  let main_v31 : FVec F S8x4096x8x1 .f32 := broadcastInDim S8x4096x8x1 ![0, 1, 2] bcast_S8x4096x8_S8x4096x8x1_0_1_2 main_v30
  let main_cst_4 : FVec F S_ .f32 := constant S_ .f32 0x43000000#32
  let main_v32 : FVec F S8x4096x8x1 .f32 := broadcastInDim S8x4096x8x1 ![] bcast_S_S8x4096x8x1 main_cst_4
  let main_v33 : FVec F S8x4096x8x1 .f32 := Host.divf main_v31 main_v32
  let main_cst_5 : FVec F S_ .f32 := constant S_ .f32 0x358637BD#32
  let main_v34 : FVec F S8x4096x8x1 .f32 := broadcastInDim S8x4096x8x1 ![] bcast_S_S8x4096x8x1 main_cst_5
  let main_v35 : FVec F S8x4096x8x1 .f32 := addf main_v33 main_v34
  let main_v36 : FVec F S8x4096x8x1 .f32 := Host.rsqrt main_v35
  let main_v37 : FVec F S8x4096x8x128 .f32 := broadcastInDim S8x4096x8x128 ![0, 1, 2, 3] bcast_S8x4096x8x1_S8x4096x8x128_0_1_2_3 main_v36
  let main_v38 : FVec F S8x4096x8x128 .f32 := mulf main_v27 main_v37
  let main_v39 : FVec F S1x1x1x128 .f32 := broadcastInDim S1x1x1x128 ![3] bcast_S128_S1x1x1x128_3 main_v28
  let main_v40 : FVec F S8x4096x8x128 .f32 := broadcastInDim S8x4096x8x128 ![0, 1, 2, 3] bcast_S1x1x1x128_S8x4096x8x128_0_1_2_3 main_v39
  fn_part2 (F := F) main_arg1 main_arg3 main_v23 main_v25 main_v38 main_v40

def fn {F : FTy → Type} [FloatOps F] (main_arg0 : FVec F S8x4096x1024 .bf16) (main_arg1 : FVec F S8x4096x1024 .bf16) (main_arg2 : FVec F S128 .bf16) (main_arg3 : FVec F S128 .bf16) (main_arg4 : IVec S8 32) : IVec S8x4096x8 1 :=
  let main_v0 : FVec F S64 .f32 := sitofp .f32 (iotaInDim S64 32 0)
  let main_cst : FVec F S_ .f32 := constant S_ .f32 0x40000000#32
  let main_v1 : FVec F S64 .f32 := broadcastInDim S64 ![] bcast_S_S64 main_cst
  let main_v2 : FVec F S64 .f32 := mulf main_v1 main_v0
  let main_cst_0 : FVec F S_ .f32 := constant S_ .f32 0x00000000#32
  let main_v3 : FVec F S64 .f32 := broadcastInDim S64 ![] bcast_S_S64 main_cst_0
  let main_v4 : FVec F S64 .f32 := addf main_v3 main_v2
  let main_v5 : FVec F S64 .f32 := Host.negf main_v4
  let main_cst_1 : FVec F S_ .f32 := constant S_ .f32 0x43000000#32
  let main_v6 : FVec F S64 .f32 := broadcastInDim S64 ![] bcast_S_S64 main_cst_1
  let main_v7 : FVec F S64 .f32 := Host.divf main_v5 main_v6
  let main_cst_2 : FVec F S_ .f32 := constant S_ .f32 0x49742400#32
  let main_v8 : FVec F S64 .f32 := broadcastInDim S64 ![] bcast_S_S64 main_cst_2
  let main_v9 : FVec F S64 .f32 := Host.powf main_v8 main_v7
  let main_v10 : IVec S8x1 32 := broadcastInDim S8x1 ![0] bcast_S8_S8x1_0 main_arg4
  let main_v11 : IVec S4096 32 := iotaInDim S4096 32 0
  let main_v12 : IVec S1x4096 32 := broadcastInDim S1x4096 ![1] bcast_S4096_S1x4096_1 main_v11
  let main_v13 : IVec S8x4096 32 := broadcastInDim S8x4096 ![0, 1] bcast_S8x1_S8x4096_0_1 main_v10
  let main_v14 : IVec S8x4096 32 := broadcastInDim S8x4096 ![0, 1] bcast_S1x4096_S8x4096_0_1 main_v12
  let main_v15 : IVec S8x4096 32 := addi main_v13 main_v14
  let main_v16 : FVec F S8x4096 .f32 := sitofp .f32 main_v15
  let main_v17 : FVec F S8x4096x1 .f32 := broadcastInDim S8x4096x1 ![0, 1] bcast_S8x4096_S8x4096x1_0_1 main_v16
  let main_v18 : FVec F S1x1x64 .f32 := broadcastInDim S1x1x64 ![2] bcast_S64_S1x1x64_2 main_v9
  let main_v19 : FVec F S8x4096x64 .f32 := broadcastInDim S8x4096x64 ![0, 1, 2] bcast_S8x4096x1_S8x4096x64_0_1_2 main_v17
  fn_part1 (F := F) main_arg0 main_arg1 main_arg2 main_arg3 main_v18 main_v19
-- ==== Pre_value_maxima_in_range.lean ====
abbrev S8x4096x1024 : Shape := ⟨3, ![8, 4096, 1024]⟩
abbrev S_ : Shape := ⟨0, ![]⟩
abbrev S8x1024 : Shape := ⟨2, ![8, 1024]⟩

class Facts : Prop where
  bitsLt_bf16_f32 : FTy.bits .bf16 < FTy.bits .f32
  reducesTo_S8x4096x1024_S8x1024_d1 : S8x4096x1024.ReducesTo [1] S8x1024
  h_S_ : 0 < S_.numel
  bcast_S_S8x1024 : S_.BroadcastsInDim S8x1024 (![] : Fin 0 → Fin S8x1024.rank)

variable [Facts]

def fn {F : FTy → Type} [FloatOps F] (main_arg0 : FVec F S8x4096x1024 .bf16) : IVec S8x1024 1 :=
  let main_v0 : FVec F S8x4096x1024 .f32 := (extf .f32 · bitsLt_bf16_f32) main_arg0
  let main_v1 : FVec F S8x4096x1024 .f32 := Host.absf main_v0
  let main_cst : FVec F S_ .f32 := constant S_ .f32 0xFF800000#32
  let main_v2 : FVec F S8x1024 .f32 := (fun x v => Host.reduce FloatOps.maximumf x v reducesTo_S8x4096x1024_S8x1024_d1 h_S_) main_v1 main_cst
  let main_cst_0 : FVec F S_ .f32 := constant S_ .f32 0x00000000#32
  let main_v3 : FVec F S8x1024 .f32 := broadcastInDim S8x1024 ![] bcast_S_S8x1024 main_cst_0
  let main_v4 : IVec S8x1024 1 := cmpf .oeq main_v2 main_v3
  let main_cst_1 : FVec F S_ .f32 := constant S_ .f32 0x3B124925#32
  let main_v5 : FVec F S8x1024 .f32 := broadcastInDim S8x1024 ![] bcast_S_S8x1024 main_cst_1
  let main_v6 : FVec F S8x1024 .f32 := mulf main_v2 main_v5
  let main_cst_2 : FVec F S_ .f32 := constant S_ .f32 0x00800000#32
  let main_v7 : FVec F S8x1024 .f32 := broadcastInDim S8x1024 ![] bcast_S_S8x1024 main_cst_2
  let main_v8 : IVec S8x1024 1 := cmpf .oge main_v6 main_v7
  let main_cst_3 : FVec F S_ .f32 := constant S_ .f32 0x7F7F0000#32
  let main_v9 : FVec F S8x1024 .f32 := broadcastInDim S8x1024 ![] bcast_S_S8x1024 main_cst_3
  let main_v10 : IVec S8x1024 1 := cmpf .ole main_v2 main_v9
  let main_v11 : IVec S8x1024 1 := andi main_v8 main_v10
  let main_v12 : IVec S8x1024 1 := ori main_v4 main_v11
  main_v12
-- ==== Kernel.lean ====
abbrev S8x4096x1024 : Shape := ⟨3, ![8, 4096, 1024]⟩
abbrev S8x8x128x4096 : Shape := ⟨4, ![8, 8, 128, 4096]⟩
abbrev S64x1x4096 : Shape := ⟨3, ![64, 1, 4096]⟩
abbrev S64x1x128 : Shape := ⟨3, ![64, 1, 128]⟩
abbrev S1x4096x128 : Shape := ⟨3, ![1, 4096, 128]⟩
abbrev S1x1x128x4096 : Shape := ⟨4, ![1, 1, 128, 4096]⟩
abbrev S1x1x4096 : Shape := ⟨3, ![1, 1, 4096]⟩
abbrev S1x1x128 : Shape := ⟨3, ![1, 1, 128]⟩
abbrev S2x256x4096 : Shape := ⟨3, ![2, 256, 4096]⟩
abbrev S2x256x128 : Shape := ⟨3, ![2, 256, 128]⟩
abbrev S4096x256 : Shape := ⟨2, ![4096, 256]⟩
abbrev S4096x128 : Shape := ⟨2, ![4096, 128]⟩
abbrev S1x1x256 : Shape := ⟨3, ![1, 1, 256]⟩
abbrev S1x256 : Shape := ⟨2, ![1, 256]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x128 : Shape := ⟨2, ![1, 128]⟩
abbrev S128x128 : Shape := ⟨2, ![128, 128]⟩
abbrev S1x256x512 : Shape := ⟨3, ![1, 256, 512]⟩
abbrev S256x512 : Shape := ⟨2, ![256, 512]⟩
abbrev S512x256 : Shape := ⟨2, ![512, 256]⟩
abbrev S1x256x768 : Shape := ⟨3, ![1, 256, 768]⟩
abbrev S256x768 : Shape := ⟨2, ![256, 768]⟩
abbrev S768x256 : Shape := ⟨2, ![768, 256]⟩
abbrev S1x256x1024 : Shape := ⟨3, ![1, 256, 1024]⟩
abbrev S256x1024 : Shape := ⟨2, ![256, 1024]⟩
abbrev S1024x256 : Shape := ⟨2, ![1024, 256]⟩
abbrev S1x256x1280 : Shape := ⟨3, ![1, 256, 1280]⟩
abbrev S256x1280 : Shape := ⟨2, ![256, 1280]⟩
abbrev S1280x256 : Shape := ⟨2, ![1280, 256]⟩
abbrev S1x256x1536 : Shape := ⟨3, ![1, 256, 1536]⟩
abbrev S256x1536 : Shape := ⟨2, ![256, 1536]⟩
abbrev S1536x256 : Shape := ⟨2, ![1536, 256]⟩
abbrev S1x256x1792 : Shape := ⟨3, ![1, 256, 1792]⟩
abbrev S256x1792 : Shape := ⟨2, ![256, 1792]⟩
abbrev S1792x256 : Shape := ⟨2, ![1792, 256]⟩
abbrev S1x256x2048 : Shape := ⟨3, ![1, 256, 2048]⟩
abbrev S256x2048 : Shape := ⟨2, ![256, 2048]⟩
abbrev S2048x256 : Shape := ⟨2, ![2048, 256]⟩
abbrev S1x256x2304 : Shape := ⟨3, ![1, 256, 2304]⟩
abbrev S256x2304 : Shape := ⟨2, ![256, 2304]⟩
abbrev S2304x256 : Shape := ⟨2, ![2304, 256]⟩
abbrev S1x256x2560 : Shape := ⟨3, ![1, 256, 2560]⟩
abbrev S256x2560 : Shape := ⟨2, ![256, 2560]⟩
abbrev S2560x256 : Shape := ⟨2, ![2560, 256]⟩
abbrev S1x256x2816 : Shape := ⟨3, ![1, 256, 2816]⟩
abbrev S256x2816 : Shape := ⟨2, ![256, 2816]⟩
abbrev S2816x256 : Shape := ⟨2, ![2816, 256]⟩
abbrev S1x256x3072 : Shape := ⟨3, ![1, 256, 3072]⟩
abbrev S256x3072 : Shape := ⟨2, ![256, 3072]⟩
abbrev S3072x256 : Shape := ⟨2, ![3072, 256]⟩
abbrev S1x256x3328 : Shape := ⟨3, ![1, 256, 3328]⟩
abbrev S256x3328 : Shape := ⟨2, ![256, 3328]⟩
abbrev S3328x256 : Shape := ⟨2, ![3328, 256]⟩
abbrev S1x256x3584 : Shape := ⟨3, ![1, 256, 3584]⟩
abbrev S256x3584 : Shape := ⟨2, ![256, 3584]⟩
abbrev S3584x256 : Shape := ⟨2, ![3584, 256]⟩
abbrev S1x256x3840 : Shape := ⟨3, ![1, 256, 3840]⟩
abbrev S256x3840 : Shape := ⟨2, ![256, 3840]⟩
abbrev S3840x256 : Shape := ⟨2, ![3840, 256]⟩
abbrev S1x256x4096 : Shape := ⟨3, ![1, 256, 4096]⟩
abbrev S256x4096 : Shape := ⟨2, ![256, 4096]⟩

abbrev nBuf : Space → Nat
  | .hbm => 7
  | .vmem => 19
  | .smem => 0
  | _ => 0

abbrev bufTy : (tb : Table) → Fin (tcTables nBuf tb) → BufTy
  | .hbm, ⟨0, _⟩ => ⟨S8x4096x1024, .fp8e4m3⟩
  | .hbm, ⟨1, _⟩ => ⟨S8x8x128x4096, .fp8e4m3⟩
  | .hbm, ⟨2, _⟩ => ⟨S8x4096x1024, .fp8e4m3⟩
  | .hbm, ⟨3, _⟩ => ⟨S64x1x4096, .f32⟩
  | .hbm, ⟨4, _⟩ => ⟨S64x1x4096, .f32⟩
  | .hbm, ⟨5, _⟩ => ⟨S64x1x128, .f32⟩
  | .hbm, ⟨6, _⟩ => ⟨S8x4096x1024, .bf16⟩
  | .local _ .vmem, ⟨0, _⟩ => ⟨S1x4096x128, .fp8e4m3⟩
  | .local _ .vmem, ⟨1, _⟩ => ⟨S1x4096x128, .fp8e4m3⟩
  | .local _ .vmem, ⟨2, _⟩ => ⟨S1x1x128x4096, .fp8e4m3⟩
  | .local _ .vmem, ⟨3, _⟩ => ⟨S1x1x128x4096, .fp8e4m3⟩
  | .local _ .vmem, ⟨4, _⟩ => ⟨S1x4096x128, .fp8e4m3⟩
  | .local _ .vmem, ⟨5, _⟩ => ⟨S1x4096x128, .fp8e4m3⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x128, .f32⟩
  | .local _ .vmem, ⟨11, _⟩ => ⟨S1x1x128, .f32⟩
  | .local _ .vmem, ⟨12, _⟩ => ⟨S1x4096x128, .bf16⟩
  | .local _ .vmem, ⟨13, _⟩ => ⟨S1x4096x128, .bf16⟩
  | .local _ .vmem, ⟨14, _⟩ => ⟨S2x256x4096, .f32⟩
  | .local _ .vmem, ⟨15, _⟩ => ⟨S2x256x4096, .fp8e4m3⟩
  | .local _ .vmem, ⟨16, _⟩ => ⟨S2x256x128, .f32⟩
  | .local _ .vmem, ⟨17, _⟩ => ⟨S2x256x128, .f32⟩
  | .local _ .vmem, ⟨18, _⟩ => ⟨S4096x256, .fp8e4m3⟩
  | _, _ => ⟨S8x4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "sm_scale_log2e" => some (((Real.sqrt 128)⁻¹ * (Real.log 2)⁻¹ : ℝ) : EReal)
  | _ => none
-- ==== ReferenceIdeal.lean ====
abbrev S8x4096x1024 : Shape := ⟨3, ![8, 4096, 1024]⟩
abbrev S8x8x128x4096 : Shape := ⟨4, ![8, 8, 128, 4096]⟩
abbrev S64x1x4096 : Shape := ⟨3, ![64, 1, 4096]⟩
abbrev S64x1x128 : Shape := ⟨3, ![64, 1, 128]⟩
abbrev S8x4096x8x128 : Shape := ⟨4, ![8, 4096, 8, 128]⟩
abbrev S8x8x4096x128 : Shape := ⟨4, ![8, 8, 4096, 128]⟩
abbrev S64x4096x128 : Shape := ⟨3, ![64, 4096, 128]⟩
abbrev S64x128x4096 : Shape := ⟨3, ![64, 128, 4096]⟩
abbrev S64x4096x4096 : Shape := ⟨3, ![64, 4096, 4096]⟩
abbrev S64x4096x1 : Shape := ⟨3, ![64, 4096, 1]⟩
abbrev S1x4096x4096 : Shape := ⟨3, ![1, 4096, 4096]⟩
abbrev S64x4096 : Shape := ⟨2, ![64, 4096]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x1024, .fp8e4m3⟩
  | .hbm, ⟨1, _⟩ => ⟨S8x8x128x4096, .fp8e4m3⟩
  | .hbm, ⟨2, _⟩ => ⟨S8x4096x1024, .fp8e4m3⟩
  | .hbm, ⟨3, _⟩ => ⟨S64x1x4096, .f32⟩
  | .hbm, ⟨4, _⟩ => ⟨S64x1x4096, .f32⟩
  | .hbm, ⟨5, _⟩ => ⟨S64x1x128, .f32⟩
  | .hbm, ⟨6, _⟩ => ⟨S8x4096x1024, .bf16⟩
  | .local _ .vmem, ⟨0, _⟩ => ⟨S8x4096x1024, .fp8e4m3⟩
  | .local _ .vmem, ⟨1, _⟩ => ⟨S8x8x128x4096, .fp8e4m3⟩
  | .local _ .vmem, ⟨2, _⟩ => ⟨S8x4096x1024, .fp8e4m3⟩
  | .local _ .vmem, ⟨3, _⟩ => ⟨S64x1x4096, .f32⟩
  | .local _ .vmem, ⟨4, _⟩ => ⟨S64x1x4096, .f32⟩
  | .local _ .vmem, ⟨5, _⟩ => ⟨S64x1x128, .f32⟩
  | .local _ .vmem, ⟨6, _⟩ => ⟨S8x4096x1024, .bf16⟩
  | _, _ => ⟨S8x4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | "sm_scale" => some (((Real.sqrt 128)⁻¹ : ℝ) : EReal)
  | _ => none

abbrev grid0 : Pipeline.Grid := .none

abbrev stage0_0 : Fin 1 → Memref sig .tc .vmem S8x4096x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x128x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== VPrep.lean ====
abbrev S8x4096x1024 : Shape := ⟨3, ![8, 4096, 1024]⟩
abbrev S64x1x128 : Shape := ⟨3, ![64, 1, 128]⟩
abbrev S1x4096x128 : Shape := ⟨3, ![1, 4096, 128]⟩
abbrev S1x1x128 : Shape := ⟨3, ![1, 1, 128]⟩
abbrev S4096x128 : Shape := ⟨2, ![4096, 128]⟩
abbrev S128 : Shape := ⟨1, ![128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .fp8e4m3⟩
  | .hbm, ⟨2, _⟩ => ⟨S64x1x128, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .fp8e4m3⟩
  | .local _ .vmem, ⟨3, _⟩ => ⟨S1x4096x128, .fp8e4m3⟩
  | .local _ .vmem, ⟨4, _⟩ => ⟨S1x1x128, .f32⟩
  | .local _ .vmem, ⟨5, _⟩ => ⟨S1x1x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VReferenceIdeal.lean ====
abbrev S8x4096x1024 : Shape := ⟨3, ![8, 4096, 1024]⟩
abbrev S64x1x128 : Shape := ⟨3, ![64, 1, 128]⟩
abbrev S8x1024 : Shape := ⟨2, ![8, 1024]⟩
abbrev S8x1x1024 : Shape := ⟨3, ![8, 1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .fp8e4m3⟩
  | .hbm, ⟨2, _⟩ => ⟨S64x1x128, .f32⟩
  | .local _ .vmem, ⟨0, _⟩ => ⟨S8x4096x1024, .bf16⟩
  | .local _ .vmem, ⟨1, _⟩ => ⟨S8x4096x1024, .fp8e4m3⟩
  | .local _ .vmem, ⟨2, _⟩ => ⟨S64x1x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S8x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== QkPrep.lean ====
abbrev S8x4096x1024 : Shape := ⟨3, ![8, 4096, 1024]⟩
abbrev S128 : Shape := ⟨1, ![128]⟩
abbrev S8 : Shape := ⟨1, ![8]⟩
abbrev S64 : Shape := ⟨1, ![64]⟩
abbrev S_ : Shape := ⟨0, ![]⟩
abbrev S8x1 : Shape := ⟨2, ![8, 1]⟩
abbrev S4096 : Shape := ⟨1, ![4096]⟩
abbrev S1x4096 : Shape := ⟨2, ![1, 4096]⟩
abbrev S8x4096 : Shape := ⟨2, ![8, 4096]⟩
abbrev S8x1x4096 : Shape := ⟨3, ![8, 1, 4096]⟩
abbrev S1x64x1 : Shape := ⟨3, ![1, 64, 1]⟩
abbrev S8x64x4096 : Shape := ⟨3, ![8, 64, 4096]⟩
abbrev S128x1 : Shape := ⟨2, ![128, 1]⟩
abbrev S128x128 : Shape := ⟨2, ![128, 128]⟩
abbrev S8x8x128x4096 : Shape := ⟨4, ![8, 8, 128, 4096]⟩
abbrev S8x8x4096 : Shape := ⟨3, ![8, 8, 4096]⟩
abbrev S1x512x1024 : Shape := ⟨3, ![1, 512, 1024]⟩
abbrev S1x64x512 : Shape := ⟨3, ![1, 64, 512]⟩
abbrev S1x8x128x512 : Shape := ⟨4, ![1, 8, 128, 512]⟩
abbrev S1x8x512 : Shape := ⟨3, ![1, 8, 512]⟩
abbrev S1x64x128 : Shape := ⟨3, ![1, 64, 128]⟩
abbrev S64x128 : Shape := ⟨2, ![64, 128]⟩
abbrev S1x128x128 : Shape := ⟨3, ![1, 128, 128]⟩
abbrev S1x128 : Shape := ⟨2, ![1, 128]⟩
abbrev S1x1x128 : Shape := ⟨3, ![1, 1, 128]⟩
abbrev S1x1x128x128 : Shape := ⟨4, ![1, 1, 128, 128]⟩

abbrev nBuf : Space → Nat
  | .hbm => 44
  | .vmem => 20
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S128, .bf16⟩
  | .hbm, ⟨3, _⟩ => ⟨S128, .bf16⟩
  | .hbm, ⟨4, _⟩ => ⟨S8, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S8x1, .i32⟩
  | .hbm, ⟨20, _⟩ => ⟨S4096, .i32⟩
  | .hbm, ⟨21, _⟩ => ⟨S1x4096, .i32⟩
  | .hbm, ⟨22, _⟩ => ⟨S8x4096, .i32⟩
  | .hbm, ⟨23, _⟩ => ⟨S8x4096, .i32⟩
  | .hbm, ⟨24, _⟩ => ⟨S8x4096, .i32⟩
  | .hbm, ⟨25, _⟩ => ⟨S8x4096, .f32⟩
  | .hbm, ⟨26, _⟩ => ⟨S8x1x4096, .f32⟩
  | .hbm, ⟨27, _⟩ => ⟨S1x64x1, .f32⟩
  | .hbm, ⟨28, _⟩ => ⟨S8x64x4096, .f32⟩
  | .hbm, ⟨29, _⟩ => ⟨S8x64x4096, .f32⟩
  | .hbm, ⟨30, _⟩ => ⟨S8x64x4096, .f32⟩
  | .hbm, ⟨31, _⟩ => ⟨S8x64x4096, .f32⟩
  | .hbm, ⟨32, _⟩ => ⟨S8x64x4096, .f32⟩
  | .hbm, ⟨33, _⟩ => ⟨S128, .f32⟩
  | .hbm, ⟨34, _⟩ => ⟨S128x1, .f32⟩
  | .hbm, ⟨35, _⟩ => ⟨S128x128, .f32⟩
  | .hbm, ⟨36, _⟩ => ⟨S128, .f32⟩
  | .hbm, ⟨37, _⟩ => ⟨S128x1, .f32⟩
  | .hbm, ⟨38, _⟩ => ⟨S128x128, .f32⟩
  | .hbm, ⟨39, _⟩ => ⟨S8x4096x1024, .fp8e4m3⟩
  | .hbm, ⟨40, _⟩ => ⟨S8x4096x1024, .fp8e4m3⟩
  | .hbm, ⟨41, _⟩ => ⟨S8x8x128x4096, .fp8e4m3⟩
  | .hbm, ⟨42, _⟩ => ⟨S8x8x4096, .f32⟩
  | .hbm, ⟨43, _⟩ => ⟨S8x8x4096, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S128x128, .f32⟩
  | .local _ .vmem, ⟨9, _⟩ => ⟨S128x128, .f32⟩
  | .local _ .vmem, ⟨10, _⟩ => ⟨S1x512x1024, .fp8e4m3⟩
  | .local _ .vmem, ⟨11, _⟩ => ⟨S1x512x1024, .fp8e4m3⟩
  | .local _ .vmem, ⟨12, _⟩ => ⟨S1x512x1024, .fp8e4m3⟩
  | .local _ .vmem, ⟨13, _⟩ => ⟨S1x512x1024, .fp8e4m3⟩
  | .local _ .vmem, ⟨14, _⟩ => ⟨S1x8x128x512, .fp8e4m3⟩
  | .local _ .vmem, ⟨15, _⟩ => ⟨S1x8x128x512, .fp8e4m3⟩
  | .local _ .vmem, ⟨16, _⟩ => ⟨S1x8x512, .f32⟩
  | .local _ .vmem, ⟨17, _⟩ => ⟨S1x8x512, .f32⟩
  | .local _ .vmem, ⟨18, _⟩ => ⟨S1x8x512, .f32⟩
  | .local _ .vmem, ⟨19, _⟩ => ⟨S1x8x512, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QkReferenceIdeal.lean ====
abbrev S8x4096x1024 : Shape := ⟨3, ![8, 4096, 1024]⟩
abbrev S128 : Shape := ⟨1, ![128]⟩
abbrev S8 : Shape := ⟨1, ![8]⟩
abbrev S64 : Shape := ⟨1, ![64]⟩
abbrev S_ : Shape := ⟨0, ![]⟩
abbrev S8x1 : Shape := ⟨2, ![8, 1]⟩
abbrev S4096 : Shape := ⟨1, ![4096]⟩
abbrev S1x4096 : Shape := ⟨2, ![1, 4096]⟩
abbrev S8x4096 : Shape := ⟨2, ![8, 4096]⟩
abbrev S8x4096x1 : Shape := ⟨3, ![8, 4096, 1]⟩
abbrev S1x1x64 : Shape := ⟨3, ![1, 1, 64]⟩
abbrev S8x4096x64 : Shape := ⟨3, ![8, 4096, 64]⟩
abbrev S8x4096x1x64 : Shape := ⟨4, ![8, 4096, 1, 64]⟩
abbrev S1x1x1x128 : Shape := ⟨4, ![1, 1, 1, 128]⟩
abbrev S8x8x128x4096 : Shape := ⟨4, ![8, 8, 128, 4096]⟩
abbrev S8x8x4096 : Shape := ⟨3, ![8, 8, 4096]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S8x4096x8x64 : Shape := ⟨4, ![8, 4096, 8, 64]⟩

abbrev nBuf : Space → Nat
  | .hbm => 44
  | .vmem => 11
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S128, .bf16⟩
  | .hbm, ⟨3, _⟩ => ⟨S128, .bf16⟩
  | .hbm, ⟨4, _⟩ => ⟨S8, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S8x1, .i32⟩
  | .hbm, ⟨20, _⟩ => ⟨S4096, .i32⟩
  | .hbm, ⟨21, _⟩ => ⟨S1x4096, .i32⟩
  | .hbm, ⟨22, _⟩ => ⟨S8x4096, .i32⟩
  | .hbm, ⟨23, _⟩ => ⟨S8x4096, .i32⟩
  | .hbm, ⟨24, _⟩ => ⟨S8x4096, .i32⟩
  | .hbm, ⟨25, _⟩ => ⟨S8x4096, .f32⟩
  | .hbm, ⟨26, _⟩ => ⟨S8x4096x1, .f32⟩
  | .hbm, ⟨27, _⟩ => ⟨S1x1x64, .f32⟩
  | .hbm, ⟨28, _⟩ => ⟨S8x4096x64, .f32⟩
  | .hbm, ⟨29, _⟩ => ⟨S8x4096x64, .f32⟩
  | .hbm, ⟨30, _⟩ => ⟨S8x4096x64, .f32⟩
  | .hbm, ⟨31, _⟩ => ⟨S8x4096x64, .f32⟩
  | .hbm, ⟨32, _⟩ => ⟨S8x4096x1x64, .f32⟩
  | .hbm, ⟨33, _⟩ => ⟨S8x4096x64, .f32⟩
  | .hbm, ⟨34, _⟩ => ⟨S8x4096x1x64, .f32⟩
  | .hbm, ⟨35, _⟩ => ⟨S128, .f32⟩
  | .hbm, ⟨36, _⟩ => ⟨S1x1x1x128, .f32⟩
  | .hbm, ⟨37, _⟩ => ⟨S128, .f32⟩
  | .hbm, ⟨38, _⟩ => ⟨S1x1x1x128, .f32⟩
  | .hbm, ⟨39, _⟩ => ⟨S8x4096x1024, .fp8e4m3⟩
  | .hbm, ⟨40, _⟩ => ⟨S8x4096x1024, .fp8e4m3⟩
  | .hbm, ⟨41, _⟩ => ⟨S8x8x128x4096, .fp8e4m3⟩
  | .hbm, ⟨42, _⟩ => ⟨S8x8x4096, .f32⟩
  | .hbm, ⟨43, _⟩ => ⟨S8x8x4096, .f32⟩
  | .local _ .vmem, ⟨0, _⟩ => ⟨S8x4096x1024, .bf16⟩
  | .local _ .vmem, ⟨1, _⟩ => ⟨S8x4096x1024, .bf16⟩
  | .local _ .vmem, ⟨2, _⟩ => ⟨S8x4096x1x64, .f32⟩
  | .local _ .vmem, ⟨3, _⟩ => ⟨S8x4096x1x64, .f32⟩
  | .local _ .vmem, ⟨4, _⟩ => ⟨S1x1x1x128, .f32⟩
  | .local _ .vmem, ⟨5, _⟩ => ⟨S1x1x1x128, .f32⟩
  | .local _ .vmem, ⟨6, _⟩ => ⟨S8x4096x1024, .fp8e4m3⟩
  | .local _ .vmem, ⟨7, _⟩ => ⟨S8x4096x1024, .fp8e4m3⟩
  | .local _ .vmem, ⟨8, _⟩ => ⟨S8x8x128x4096, .fp8e4m3⟩
  | .local _ .vmem, ⟨9, _⟩ => ⟨S8x8x4096, .f32⟩
  | .local _ .vmem, ⟨10, _⟩ => ⟨S8x8x4096, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S8x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4096x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x8x128x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x8x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x8x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Model.lean ====
module

public import proofs.«01_k».proof.Proof.Gen.KernelIdeal.Frame.RunA

@[expose] public section

set_option maxRecDepth 16384

noncomputable section

/-! # The attention body as two nested loops over logs of stores

The body is straight-line code: sixteen blocks of 256 query rows, each with its chunks of 256 keys. Here the same
stores are built by recursion over the block and the chunk, each buffer as the list of pieces stored into it, the
last first. -/

namespace Cert.KernelIdeal.Model

open Idealize.ShloMosaic Idealize.ShloMosaic.TcCoe Cert.KernelIdeal.Gen

variable {F : FTy → Type} [FloatOps F] [Named F]

/-- The buffers the body is given and what its inputs hold. -/
structure Env (F : FTy → Type) [FloatOps F] [Named F] where
  arg2 : Memref sig .tc .vmem S1x4096x128 .fp8e4m3
  harg2 : arg2.IsWhole
  arg3 : Memref sig .tc .vmem S1x1x128x4096 .fp8e4m3
  harg3 : arg3.IsWhole
  arg4 : Memref sig .tc .vmem S1x4096x128 .fp8e4m3
  harg4 : arg4.IsWhole
  arg5 : Memref sig .tc .vmem S1x1x4096 .f32
  harg5 : arg5.IsWhole
  arg6 : Memref sig .tc .vmem S1x1x4096 .f32
  harg6 : arg6.IsWhole
  arg7 : Memref sig .tc .vmem S1x1x128 .f32
  harg7 : arg7.IsWhole
  arg9 : Memref sig .tc .vmem S2x256x4096 .f32
  arg10 : Memref sig .tc .vmem S2x256x4096 .fp8e4m3
  arg11 : Memref sig .tc .vmem S2x256x128 .f32
  arg12 : Memref sig .tc .vmem S2x256x128 .f32
  arg13 : Memref sig .tc .vmem S4096x256 .fp8e4m3
  x0 : Vec F S1x4096x128 .fp8e4m3
  x1 : Vec F S1x1x128x4096 .fp8e4m3
  x2 : Vec F S1x4096x128 .fp8e4m3
  x3 : Vec F S1x1x4096 .f32
  x4 : Vec F S1x1x4096 .f32
  x5 : Vec F S1x1x128 .f32

/-- What has been stored so far: scores, codes, running maxima, running sums, output rows. -/
structure St (F : FTy → Type) [FloatOps F] [Named F] where
  t : List (View.Piece (Elt F) S2x256x4096 .f32)
  p : List (View.Piece (Elt F) S2x256x4096 .fp8e4m3)
  m : List (View.Piece (Elt F) S2x256x128 .f32)
  l : List (View.Piece (Elt F) S2x256x128 .f32)
  o : List (View.Piece (Elt F) S1x4096x128 .bf16)

variable (E : Env F)

theorem inb3 {o₀ o₁ o₂ s₀ s₁ s₂ d₀ d₁ d₂ : ℕ} (h₀ : o₀ + s₀ ≤ d₀) (h₁ : o₁ + s₁ ≤ d₁) (h₂ : o₂ + s₂ ≤ d₂) :
    ∀ a, (![o₀, o₁, o₂] : Fin 3 → ℕ) a + (![s₀, s₁, s₂] : Fin 3 → ℕ) a ≤ (⟨3, ![d₀, d₁, d₂]⟩ : Shape).size a
  | 0 => h₀
  | 1 => h₁
  | 2 => h₂

theorem inb4 {o₀ o₁ o₂ o₃ s₀ s₁ s₂ s₃ d₀ d₁ d₂ d₃ : ℕ} (h₀ : o₀ + s₀ ≤ d₀) (h₁ : o₁ + s₁ ≤ d₁) (h₂ : o₂ + s₂ ≤ d₂)
    (h₃ : o₃ + s₃ ≤ d₃) :
    ∀ a, (![o₀, o₁, o₂, o₃] : Fin 4 → ℕ) a + (![s₀, s₁, s₂, s₃] : Fin 4 → ℕ) a ≤ (⟨4, ![d₀, d₁, d₂, d₃]⟩ : Shape).size a
  | 0 => h₀
  | 1 => h₁
  | 2 => h₂
  | 3 => h₃

theorem mod2 (i : ℕ) : i % 2 + 1 ≤ 2 := Nat.mod_lt i (by decide)

/-- The slot of scratch of block `i`. -/
abbrev slotT (i j : ℕ) (hj : j < 16) : Rect S2x256x4096 :=
  Rect.unit ![i % 2, 0, 256 * j] S1x256x256.size
    (inb3 (mod2 i) (by omega)
      (show 256 * j + 256 ≤ 4096 by omega))

/-- The halves of the slot of codes. -/
abbrev slotP (i j : ℕ) (hj : j < 16) : Rect S2x256x4096 :=
  Rect.unit ![i % 2, 0, 256 * j] S1x256x128.size
    (inb3 (mod2 i) (by omega)
      (show 256 * j + 128 ≤ 4096 by omega))

@[inherit_doc slotP] abbrev slotP' (i j : ℕ) (hj : j < 16) : Rect S2x256x4096 :=
  Rect.unit ![i % 2, 0, 256 * j + 128] S1x256x128.size
    (inb3 (mod2 i) (by omega)
      (show 256 * j + 128 + 128 ≤ 4096 by omega))

/-- The slot of the running maxima and of the running sums. -/
abbrev slotM (i : ℕ) : Rect S2x256x128 :=
  Rect.unit ![i % 2, 0, 0] S1x256x128.size
    (inb3 (mod2 i) (by omega) (by omega))

/-- The scores of the rows of block `i` against the keys of chunk `j`. -/
def score (i j : ℕ) (hi : i < 16) (hj : j < 16) : FVec F S256x256 .f32 :=
  mulf (matmul dot_S256x128_S128x256_S256x256_1_0_0_1_n_n none
      (shapeCast S256x128 (View.readAt (Elt F) E.arg2.view (Rect.unit (s := S1x4096x128) ![0, 256 * i, 0] S1x256x128.size
        (inb3 (by omega) (show 256 * i + 256 ≤ 4096 by omega) (by omega))).toLoadRect (E.harg2.unread E.x0)) shapeCasts_S1x256x128_S256x128)
      (shapeCast S128x256 (View.readAt (Elt F) E.arg3.view (Rect.unit (s := S1x1x128x4096) ![0, 0, 0, 256 * j] S1x1x128x256.size
        (inb4 (by omega) (by omega) (by omega) (show 256 * j + 256 ≤ 4096 by omega))).toLoadRect (E.harg3.unread E.x1)) shapeCasts_S1x1x128x256_S128x256)
      (constant S256x256 .f32 0x00000000#32))
    (broadcastTo S256x256 (mulf
      (shapeCast S1x256 (View.readAt (Elt F) E.arg6.view (Rect.unit (s := S1x1x4096) ![0, 0, 256 * j] S1x1x256.size
        (inb3 (by omega) (by omega) (show 256 * j + 256 ≤ 4096 by omega))).toLoadRect (E.harg6.unread E.x4)) shapeCasts_S1x1x256_S1x256)
      (broadcast S1x256 (Named.named κ "sm_scale_log2e" 0x3E0293EE#32))) broadcasts_S1x256_S256x256)

/-- The masked scores of a chunk on the diagonal. -/
def diag (s : FVec F S256x256 .f32) : FVec F S256x256 .f32 :=
  select (cmpi .sle (iota .tc S256x256 32 [1] iota_S256x256_d1_w32) (iota .tc S256x256 32 [0] iota_S256x256_d0_w32)) s
    (broadcast S256x256 (Scalar.ofBits .f32 0xFF800000#32))

/-- The maxima of a chunk's two halves. -/
def mx (s : FVec F S256x256 .f32) : FVec F S256x128 .f32 :=
  maximumf (extractStridedSlice S256x128 ![0, 0] s slices_S256x256_o0_0_S256x128)
    (extractStridedSlice S256x128 ![0, 128] s slices_S256x256_o0_128_S256x128)

/-- The running maximum a chunk leaves. -/
def newM (i j : ℕ) (s : FVec F S256x256 .f32) (L : List (View.Piece (Elt F) S2x256x128 .f32)) : FVec F S256x128 .f32 :=
  match j with
  | 0 => mx s
  | _ + 1 => maximumf (shapeCast S256x128 (E.arg11.view.readCov L (slotM i).toLoadRect) shapeCasts_S1x256x128_S256x128) (mx s)

/-- The stores of a chunk's scores. -/
def addScore (i j : ℕ) (hj : j < 16) (s : FVec F S256x256 .f32) (st : St F) : St F :=
  { st with
    t := ⟨slotT i j hj, shapeCast S1x256x256 s shapeCasts_S256x256_S1x256x256⟩ :: st.t
    m := ⟨slotM i, shapeCast S1x256x128 (newM E i j s st.m) shapeCasts_S256x128_S1x256x128⟩ :: st.m }

/-- The query scales of a block, along the rows. -/
def qsOf (i : ℕ) (hi : i < 16) : FVec F S256x128 .f32 :=
  maximumf (concatenate S256x128 0
      [⟨S128x128, transpose S128x128 [1, 0] (broadcastTo S128x128 (shapeCast S1x128 (shapeCast S1x128
        (View.readAt (Elt F) E.arg5.view (Rect.unit (s := S1x1x4096) ![0, 0, 256 * i] S1x1x128.size
          (inb3 (by omega) (by omega) (show 256 * i + 128 ≤ 4096 by omega))).toLoadRect (E.harg5.unread E.x3))
          shapeCasts_S1x1x128_S1x128) shapeCasts_S1x128_S1x128) broadcasts_S1x128_S128x128) transposes_S128x128_p1_0_S128x128⟩,
       ⟨S128x128, transpose S128x128 [1, 0] (broadcastTo S128x128 (shapeCast S1x128 (shapeCast S1x128
        (View.readAt (Elt F) E.arg5.view (Rect.unit (s := S1x1x4096) ![0, 0, 256 * i + 128] S1x1x128.size
          (inb3 (by omega) (by omega) (show 256 * i + 128 + 128 ≤ 4096 by omega))).toLoadRect (E.harg5.unread E.x3))
          shapeCasts_S1x1x128_S1x128) shapeCasts_S1x128_S1x128) broadcasts_S1x128_S128x128) transposes_S128x128_p1_0_S128x128⟩]
      concatenates_S128x128_S128x128_S256x128_d0)
    (broadcast S256x128 (Scalar.ofBits .f32 0x03800000#32))

/-- The shifted row maxima of a block. -/
def mmOf (i : ℕ) (hi : i < 16) (L : List (View.Piece (Elt F) S2x256x128 .f32)) : FVec F S256x128 .f32 :=
  addf (broadcastTo S256x128 (shapeCast S256x1 (multiReduction .maximumf [1] S256
      (shapeCast S256x128 (E.arg11.view.readCov L (slotM i).toLoadRect) shapeCasts_S1x256x128_S256x128)
      0xFF800000#32 reduces_S256x128_S256 (.inl rfl) rfl) shapeCasts_S256_S256x1) broadcasts_S256x1_S256x128)
    (divf (broadcast S256x128 (Scalar.ofBits .f32 0xC1000000#32)) (qsOf E i hi))

/-- The probabilities of a chunk's first and second half. -/
def prob (mm qs : FVec F S256x128 .f32) (t : FVec F S256x256 .f32) : FVec F S256x128 .f32 :=
  exp2 (mulf (subf (extractStridedSlice S256x128 ![0, 0] t slices_S256x256_o0_0_S256x128) mm) qs)

@[inherit_doc prob] def prob' (mm qs : FVec F S256x128 .f32) (t : FVec F S256x256 .f32) : FVec F S256x128 .f32 :=
  exp2 (mulf (subf (extractStridedSlice S256x128 ![0, 128] t slices_S256x256_o0_128_S256x128) mm) qs)

/-- The codes of probabilities. -/
def codes (x : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32)) x)) bitsLt_fp8e4m3_f32

/-- The scores a chunk's probabilities are taken of. -/
def loadT (i j : ℕ) (hj : j < 16) (L : List (View.Piece (Elt F) S2x256x4096 .f32)) : FVec F S256x256 .f32 :=
  shapeCast S256x256 (E.arg9.view.readCov L (slotT i j hj).toLoadRect) shapeCasts_S1x256x256_S256x256

/-- The running sum a chunk leaves. -/
def newL (i j : ℕ) (s : FVec F S256x128 .f32) (L : List (View.Piece (Elt F) S2x256x128 .f32)) : FVec F S256x128 .f32 :=
  match j with
  | 0 => s
  | _ + 1 => addf (shapeCast S256x128 (E.arg12.view.readCov L (slotM i).toLoadRect) shapeCasts_S1x256x128_S256x128) s

/-- The stores of a chunk's codes and sums. -/
def addProb (i j : ℕ) (hj : j < 16) (mm qs : FVec F S256x128 .f32) (t : FVec F S256x256 .f32) (st : St F) : St F :=
  { st with
    p := ⟨slotP' i j hj, shapeCast S1x256x128 (codes (prob' mm qs t)) shapeCasts_S256x128_S1x256x128⟩ ::
      ⟨slotP i j hj, shapeCast S1x256x128 (codes (prob mm qs t)) shapeCasts_S256x128_S1x256x128⟩ :: st.p
    l := ⟨slotM i, shapeCast S1x256x128 (newL E i j (addf (prob mm qs t) (prob' mm qs t)) st.l) shapeCasts_S256x128_S1x256x128⟩ :: st.l }

/-- The value codes twice side by side. -/
def vv : List (View.Piece (Elt F) S4096x256 .fp8e4m3) :=
  [⟨Rect.unit ![0, 128] S4096x128.size inb_S4096x256_S4096x128_0_128,
      k0_pay3 (View.readAt (Elt F) E.arg4.view (Rect.unit ![0, 0, 0] S1x4096x128.size inb_S1x4096x128_S1x4096x128_0_0_0).toLoadRect (E.harg4.unread E.x2))⟩,
   ⟨Rect.unit ![0, 0] S4096x128.size inb_S4096x256_S4096x128_0_0,
      k0_pay2 (View.readAt (Elt F) E.arg4.view (Rect.unit ![0, 0, 0] S1x4096x128.size inb_S1x4096x128_S1x4096x128_0_0_0).toLoadRect (E.harg4.unread E.x2))⟩]

/-- The store of a block's output rows, over its first `n` keys. -/
def addOut (i n : ℕ) (hi : i < 16) (hn : n ≤ 4096) (st : St F) : St F :=
  { st with
    o := ⟨Rect.unit (s := S1x4096x128) ![0, 256 * i, 0] S1x256x128.size
        (inb3 (by omega) (show 256 * i + 256 ≤ 4096 by omega) (by omega)),
      shapeCast S1x256x128 (truncf .bf16 (divf (mulf
          (extractStridedSlice S256x128 ![0, 0]
            (matmul (DotDims.plain 256 n 256) none
              (shapeCast ⟨2, ![256, n]⟩ (E.arg10.view.readCov st.p (Rect.unit (s := S2x256x4096) ![i % 2, 0, 0] (⟨3, ![1, 256, n]⟩ : Shape).size
                (inb3 (mod2 i) (by omega) (show 0 + n ≤ 4096 by omega))).toLoadRect)
                (by show Shape.numel _ = Shape.numel _; simp [Shape.numel, Fin.prod_univ_succ]))
              (E.arg13.view.readCov (vv E) (Rect.unit (s := S4096x256) ![0, 0] (⟨2, ![n, 256]⟩ : Shape).size
                (Rect.inb₂ (show 0 + n ≤ 4096 by omega) (show 0 + 256 ≤ 256 by omega))).toLoadRect)
              (constant S256x256 .f32 0x00000000#32)) slices_S256x256_o0_0_S256x128)
          (broadcastTo S256x128 (shapeCast S1x128 (View.readAt (Elt F) E.arg7.view (Rect.unit (s := S1x1x128) ![0, 0, 0] S1x1x128.size
            (inb3 (by omega) (by omega) (by omega))).toLoadRect (E.harg7.unread E.x5)) shapeCasts_S1x1x128_S1x128) broadcasts_S1x128_S256x128))
        (broadcastTo S256x128 (shapeCast S256x1 (multiReduction .add [1] S256
          (shapeCast S256x128 (E.arg12.view.readCov st.l (slotM i).toLoadRect) shapeCasts_S1x256x128_S256x128)
          0x00000000#32 reduces_S256x128_S256 (.inl rfl) rfl) shapeCasts_S256_S256x1) broadcasts_S256x1_S256x128))
        bitsLt_bf16_f32) shapeCasts_S256x128_S1x256x128⟩ :: st.o }

/-- The first `n` chunks of block `i`: the next block's scores of the chunk, then this block's probabilities of it. -/
def chunks (i : ℕ) (hi : i + 1 < 16) (mm qs : FVec F S256x128 .f32) : (n : ℕ) → n ≤ i + 1 → St F → St F
  | 0, _, st => st
  | n + 1, h, st =>
    let st := chunks i hi mm qs n (by omega) st
    let st := addScore E (i + 1) n (by omega) (score E (i + 1) n (by omega) (by omega)) st
    addProb E i n (by omega) mm qs (loadT E i n (by omega) st.t) st

/-- The first `n` chunks of the last block. -/
def lastChunks (mm qs : FVec F S256x128 .f32) : (n : ℕ) → n ≤ 16 → St F → St F
  | 0, _, st => st
  | n + 1, h, st =>
    let st := lastChunks mm qs n (by omega) st
    addProb E 15 n (by omega) mm qs (loadT E 15 n (by omega) st.t) st

/-- A block before the last: its chunks, the next block's chunk on the diagonal, its output rows. -/
def block (i : ℕ) (hi : i + 1 < 16) (st : St F) : St F :=
  let st := chunks E i hi (mmOf E i (by omega) st.m) (qsOf E i (by omega)) (i + 1) (by omega) st
  let st := addScore E (i + 1) (i + 1) hi (diag (score E (i + 1) (i + 1) hi hi)) st
  addOut E i (256 * (i + 1)) (by omega) (by omega) st

/-- Before the first block: its one chunk's scores. -/
def init : St F :=
  addScore E 0 0 (by decide) (diag (score E 0 0 (by decide) (by decide))) ⟨[], [], [], [], []⟩

/-- The first `n` blocks. -/
def blocks : (n : ℕ) → n < 16 → St F
  | 0, _ => init E
  | n + 1, h => block E n h (blocks n (by omega))

/-- All the blocks. -/
def final : St F :=
  let st := blocks E 15 (by decide)
  addOut E 15 4096 (by decide) (by decide)
    (lastChunks E (mmOf E 15 (by decide) st.m) (qsOf E 15 (by decide)) 16 (by decide) st)

end Cert.KernelIdeal.Model
-- ==== Proof.Row.lean ====
/- One row of attention over the extended reals: the kernel's form (powers of two, the row's quotient taken once at
   the end) against the textbook's (natural exponentials, a power-of-two quantiser stated through the row's maximum). -/
module

public import Idealize.ShloMosaic.PureOps
public import Idealize.ShloMosaic.Lib.IdealHost

@[expose] public section

noncomputable section

namespace Cert.Row

open Idealize.ShloMosaic

variable {ι : Type} [Fintype ι] [Nonempty ι]

/-- Column `d` of head `h` in a row of the arrays. -/
abbrev col (h : Fin 8) (d : Fin 128) : Fin 1024 := ⟨128 * h + d, by have := h.isLt; have := d.isLt; omega⟩

/-- The grid point, and the row of scales, of head `h` of batch `b`. -/
abbrev pt (b h : Fin 8) : Fin 64 := ⟨8 * b + h, by have := h.isLt; have := b.isLt; omega⟩

/-- Clipping at 448, the greatest finite code. -/
def clip (x : EReal) : EReal := min ((448 : ℝ) : EReal) (max ((-448 : ℝ) : EReal) x)

/-- The kernel's probability of one key: `2 ^ ((t - (m - 8 / q)) · q)`, the row's maximum `m` moved by eight binades. -/
def kProb (m q t : EReal) : EReal := Ideal.exp2 ((t - (m + Ideal.div ((-8 : ℝ) : EReal) q)) * q)

/-- The kernel's row: scores `t` over the keys, query scale `q`, value codes `v`, value scale `w`. -/
def kOut (t v : ι → EReal) (q w : EReal) : EReal :=
  Ideal.div ((∑ k, clip (kProb (Finset.univ.sup t) q (t k)) * v k) * w) (∑ k, kProb (Finset.univ.sup t) q (t k))

/-- The exponent of the quantiser: `⌊log₂ (a / 448)⌋ + 1` at a nonzero row maximum `a`, else zero. -/
def expo (c a : EReal) : EReal :=
  if a = 0 then 0 else Ideal.liftRound Int.floor (Ideal.div (Ideal.log (a * c)) ((Real.log 2 : ℝ) : EReal)) + 1

/-- The reference's probability of one key. -/
def rProb (s : ι → EReal) (k : ι) : EReal := Ideal.exp (s k - Finset.univ.sup s)

/-- The quantiser's exponent of the reference's row. -/
def rExpo (c : EReal) (s : ι → EReal) : EReal := expo c (Finset.univ.sup fun k => max (rProb s k) (-rProb s k))

/-- The reference's row: scores `s` over the keys, value codes `v`, value scale `w`. -/
def rOut (c : EReal) (s v : ι → EReal) (w : EReal) : EReal :=
  Ideal.div (((∑ k, clip (rProb s k * Ideal.exp2 (0 - rExpo c s)) * v k) * Ideal.exp2 (rExpo c s)) * w) (∑ k, rProb s k)

theorem bot_sub' (x : EReal) : (⊥ : EReal) - x = ⊥ := by rw [sub_eq_add_neg, EReal.bot_add]

theorem coe_sum (f : ι → ℝ) : (∑ k, (f k : EReal)) = ((∑ k, f k : ℝ) : EReal) := by
  classical
  induction (Finset.univ : Finset ι) using Finset.induction_on with
  | empty => simp
  | insert a s ha ih => rw [Finset.sum_insert ha, Finset.sum_insert ha, EReal.coe_add, ih]

/-- A score below the row's maximum, seen from it: a number in `[0, 1]` in each of the three forms. -/
theorem prob_real (a : ℝ) (t : EReal) (h : t ≤ a) (q : ℝ) (hq : 0 < q) :
    ∃ p : ℝ, 0 ≤ p ∧ p ≤ 1 ∧ (t = a → p = 1) ∧ kProb a q t = ((256 * p : ℝ) : EReal) ∧
      Ideal.exp (t * (((q * Real.log 2 : ℝ)) : EReal) - ((a * (q * Real.log 2) : ℝ) : EReal)) = (p : EReal) := by
  have hl : 0 < Real.log 2 := Real.log_pos (by norm_num)
  have hqn : q ≠ 0 := hq.ne'
  induction t with
  | bot =>
    refine ⟨0, le_rfl, zero_le_one, fun h => absurd h (by simp), ?_, ?_⟩
    · rw [kProb, bot_sub', EReal.bot_mul_coe_of_pos hq, mul_zero]; rfl
    · rw [EReal.bot_mul_coe_of_pos (mul_pos hq hl), bot_sub']; rfl
  | top => simp at h
  | coe x =>
    have hx : x ≤ a := by exact_mod_cast h
    refine ⟨Real.exp ((x - a) * (q * Real.log 2)), (Real.exp_pos _).le, ?_, ?_, ?_, ?_⟩
    · rw [Real.exp_le_one_iff]
      exact mul_nonpos_of_nonpos_of_nonneg (by linarith) (mul_pos hq hl).le
    · intro h
      have : x = a := by exact_mod_cast h
      simp [this]
    · rw [kProb, Ideal.div_coe hqn, ← EReal.coe_mul, ← EReal.coe_add, ← EReal.coe_sub, ← EReal.coe_mul]
      show ((Real.rpow 2 _ : ℝ) : EReal) = _
      congr 1
      have e1 : (x - (a + -8 * (1 / q))) * q = (x - a) * q + 8 := by field_simp; ring
      rw [e1]
      show (2 : ℝ) ^ ((x - a) * q + 8 : ℝ) = _
      rw [Real.rpow_add (by norm_num), Real.rpow_def_of_pos (by norm_num : (0:ℝ) < 2) ((x - a) * q)]
      have e2 : (2 : ℝ) ^ (8 : ℝ) = 256 := by
        rw [show (8 : ℝ) = ((8 : ℕ) : ℝ) by norm_num, Real.rpow_natCast]; norm_num
      rw [e2, mul_comm]; congr 2; ring
    · rw [← EReal.coe_mul, ← EReal.coe_sub]
      show ((Real.exp _ : ℝ) : EReal) = _
      congr 2; ring

/-- Where the row's maximum is an infinity every probability is zero, in the kernel's form … -/
theorem kProb_inf (m t : EReal) (h : m = ⊤ ∨ (m = ⊥ ∧ t ≤ ⊥)) (q : ℝ) (hq : 0 < q) : kProb m q t = 0 := by
  rw [kProb, Ideal.div_coe hq.ne', ← EReal.coe_mul]
  have : t - (m + ((-8 * (1 / q) : ℝ) : EReal)) = ⊥ := by
    rcases h with rfl | ⟨rfl, h⟩
    · rw [EReal.top_add_coe, sub_eq_add_neg, EReal.neg_top, EReal.add_bot]
    · rw [le_bot_iff.1 h, bot_sub']
  rw [this, EReal.bot_mul_coe_of_pos hq]; rfl

/-- … and in the reference's. -/
theorem rProb_inf (m t : EReal) (h : m = ⊤ ∨ (m = ⊥ ∧ t ≤ ⊥)) : Ideal.exp (t - m) = 0 := by
  have : t - m = ⊥ := by
    rcases h with rfl | ⟨rfl, h⟩
    · rw [sub_eq_add_neg, EReal.neg_top, EReal.add_bot]
    · rw [le_bot_iff.1 h, bot_sub']
  rw [this]; rfl

theorem clip_zero : clip 0 = 0 := by
  have h0 : (0 : EReal) = ((0 : ℝ) : EReal) := rfl
  rw [clip, h0, max_eq_right (by exact_mod_cast (by norm_num : (-448 : ℝ) ≤ 0)),
    min_eq_right (by exact_mod_cast (by norm_num : (0 : ℝ) ≤ 448))]

theorem sup_mul (t : ι → EReal) (r : ℝ) (hr : 0 < r) :
    Finset.univ.sup (fun k => t k * (r : EReal)) = Finset.univ.sup t * (r : EReal) := by
  have hm : Monotone fun x : EReal => x * (r : EReal) := fun x y h =>
    mul_le_mul_of_nonneg_right h (by exact_mod_cast hr.le)
  exact (Finset.comp_sup_eq_sup_comp (fun x : EReal => x * (r : EReal)) (fun x y => hm.map_max)
    (EReal.bot_mul_coe_of_pos hr)).symm

/-- The two exponents of two the quantiser takes of a row whose maximum is one. -/
theorem expo_one (c : ℝ) (h1 : (2 : ℝ) ^ (-9 : ℤ) ≤ c) (h2 : c < (2 : ℝ) ^ (-8 : ℤ)) :
    expo (c : EReal) 1 = ((-8 : ℝ) : EReal) := by
  have hl : 0 < Real.log 2 := Real.log_pos (by norm_num)
  have hc : 0 < c := lt_of_lt_of_le (by positivity) h1
  rw [expo, if_neg one_ne_zero, one_mul]
  have e1 : Ideal.log (c : EReal) = ((Real.log c : ℝ) : EReal) := if_neg (not_le.2 hc)
  rw [e1, Ideal.div_coe hl.ne', ← EReal.coe_mul]
  show (((⌊_⌋ : ℤ) : ℝ) : EReal) + 1 = _
  have e2 : ⌊Real.log c * (1 / Real.log 2)⌋ = -9 := by
    rw [Int.floor_eq_iff, mul_one_div]
    constructor
    · rw [le_div_iff₀ hl]
      have := Real.log_le_log (by positivity) h1
      rw [Real.log_zpow] at this
      exact_mod_cast this
    · rw [div_lt_iff₀ hl]
      have := Real.log_lt_log hc h2
      rw [Real.log_zpow] at this
      calc Real.log c < _ := this
        _ = _ := by push_cast; ring
  rw [e2, ← EReal.coe_one, ← EReal.coe_add]
  norm_num

theorem exp2_coe (r : ℝ) : Ideal.exp2 (r : EReal) = (((2 : ℝ) ^ r : ℝ) : EReal) := rfl

/-- The kernel's row is the reference's. -/
theorem rOut_eq_kOut (c : ℝ) (h1 : (2 : ℝ) ^ (-9 : ℤ) ≤ c) (h2 : c < (2 : ℝ) ^ (-8 : ℤ))
    (s t v : ι → EReal) (q : ℝ) (w : EReal) (hq : 0 < q)
    (hs : ∀ k, s k = t k * ((q * Real.log 2 : ℝ) : EReal)) : rOut c s v w = kOut t v q w := by
  have hl : 0 < Real.log 2 := Real.log_pos (by norm_num)
  have hr : 0 < q * Real.log 2 := mul_pos hq hl
  obtain rfl : s = fun k => t k * ((q * Real.log 2 : ℝ) : EReal) := funext hs
  have hsup := sup_mul t _ hr
  have hle : ∀ k, t k ≤ Finset.univ.sup t := fun k => Finset.le_sup (Finset.mem_univ k)
  -- the row's maximum is an infinity
  have hinf : ∀ m : EReal, Finset.univ.sup t = m → (m = ⊤ ∨ m = ⊥) →
      rOut c (fun k => t k * ((q * Real.log 2 : ℝ) : EReal)) v w = kOut t v q w := by
    intro m hm hmi
    have hk : ∀ k, kProb (Finset.univ.sup t) q (t k) = 0 := fun k => by
      refine kProb_inf _ _ ?_ q hq
      rw [hm]
      rcases hmi with h | h
      · exact .inl h
      · exact .inr ⟨h, h ▸ hm ▸ hle k⟩
    have hp : ∀ k, rProb (fun k => t k * ((q * Real.log 2 : ℝ) : EReal)) k = 0 := fun k => by
      rw [rProb, hsup, hm]
      refine rProb_inf _ _ ?_
      rcases hmi with h | h
      · exact .inl (by rw [h, EReal.top_mul_coe_of_pos hr])
      · refine .inr ⟨by rw [h, EReal.bot_mul_coe_of_pos hr], ?_⟩
        have : t k = ⊥ := le_bot_iff.1 (h ▸ hm ▸ hle k)
        rw [this, EReal.bot_mul_coe_of_pos hr]
    unfold rOut kOut
    simp only [hk, hp, zero_mul, clip_zero, Finset.sum_const_zero]
  induction hM : Finset.univ.sup t with
  | bot => exact hinf ⊥ hM (.inr rfl)
  | top => exact hinf ⊤ hM (.inl rfl)
  | coe a =>
    choose p hp0 hp1 hpa hpk hpr using fun k => prob_real a (t k) (hM ▸ hle k) q hq
    have hkP : ∀ k, kProb (Finset.univ.sup t) q (t k) = ((256 * p k : ℝ) : EReal) := fun k => by rw [hM]; exact hpk k
    have hrP : ∀ k, rProb (fun k => t k * ((q * Real.log 2 : ℝ) : EReal)) k = (p k : EReal) := fun k => by
      rw [rProb, hsup, hM, ← EReal.coe_mul]; exact hpr k
    obtain ⟨k₀, -, hk₀⟩ := Finset.exists_mem_eq_sup Finset.univ Finset.univ_nonempty t
    have hpk0 : p k₀ = 1 := hpa k₀ (by rw [← hk₀, hM])
    have hA : (Finset.univ.sup fun k => max (rProb (fun k => t k * ((q * Real.log 2 : ℝ) : EReal)) k)
        (-rProb (fun k => t k * ((q * Real.log 2 : ℝ) : EReal)) k)) = 1 := by
      apply le_antisymm
      · refine Finset.sup_le fun k _ => ?_
        rw [hrP k, max_le_iff, ← EReal.coe_neg, ← EReal.coe_one]
        exact ⟨by exact_mod_cast hp1 k, by exact_mod_cast (by linarith [hp0 k] : -p k ≤ 1)⟩
      · refine le_trans ?_ (Finset.le_sup (Finset.mem_univ k₀))
        rw [hrP k₀, hpk0]; exact le_max_left _ _
    have hE : rExpo c (fun k => t k * ((q * Real.log 2 : ℝ) : EReal)) = ((-8 : ℝ) : EReal) := by
      rw [rExpo, hA, expo_one c h1 h2]
    have hS : 0 < ∑ k, p k := by
      refine Finset.sum_pos' (fun k _ => hp0 k) ⟨k₀, Finset.mem_univ _, ?_⟩
      rw [hpk0]; exact zero_lt_one
    have e8 : Ideal.exp2 ((-8 : ℝ) : EReal) = ((1 / 256 : ℝ) : EReal) := by
      rw [exp2_coe, show (-8 : ℝ) = ((-8 : ℤ) : ℝ) by norm_num, Real.rpow_intCast]; norm_num
    have e8' : Ideal.exp2 (0 - ((-8 : ℝ) : EReal)) = ((256 : ℝ) : EReal) := by
      rw [← EReal.coe_zero, ← EReal.coe_sub, exp2_coe, show (0 - -8 : ℝ) = ((8 : ℕ) : ℝ) by norm_num, Real.rpow_natCast]
      norm_num
    unfold rOut kOut
    simp only [hkP, hrP, hE, e8, e8', ← EReal.coe_mul, coe_sum]
    rw [Ideal.div_coe hS.ne', ← Finset.mul_sum, Ideal.div_coe (by positivity)]
    have hc : ∀ k, p k * 256 = 256 * p k := fun k => mul_comm _ _
    simp only [hc]
    generalize (∑ k, clip ((256 * p k : ℝ) : EReal) * v k) = X
    rw [mul_assoc, mul_assoc, mul_assoc, mul_comm w, ← mul_assoc (((1 / 256 : ℝ)) : EReal), ← EReal.coe_mul, mul_comm w]
    congr 3
    field_simp

end Cert.Row

end
-- ==== Proof.Ops.lean ====
/- The value functions of the loops, read at an index over the extended reals. -/
module

public import proofs.«01_k».proof.Proof.Model
public import proofs.«01_k».proof.Proof.Row
public import Idealize.ShloMosaic.Lib.Pointwise
public import Idealize.ShloMosaic.Lib.Pointwise.IndexVar
public import Idealize.ShloMosaic.Lib.Pipeline.ValueKit.Tiles
public import Idealize.ShloMosaic.Lib.Pipeline.FrameBody
public import Idealize.ShloMosaic.Lib.WordCmp
public import Idealize.ShloMosaic.Lib.ValueLayout
public import Idealize.ShloMosaic.Lib.WholeRead
public import Idealize.ShloMosaic.Lib.MatmulPlain

@[expose] public section

set_option maxRecDepth 16384

noncomputable section

namespace Cert.KernelIdeal.Model

open Idealize.ShloMosaic Idealize.ShloMosaic.TcCoe Idealize.ShloMosaic.Pointwise Cert.KernelIdeal.Gen

section Memory

variable {Val : EltTy → Type} [∀ e, Nonempty (Val e)] {e : EltTy}

/-- A store of a box, then read at an index: the value inside the box, what was there before outside it. -/
theorem canon_unit {s : Shape} {off size : Fin s.rank → ℕ} (inb : ∀ a, off a + size a ≤ s.size a)
    (v : (Rect.unit off size inb).shape.Idx → Val e) (L : List (View.Piece Val s e)) (y : s.Idx) (x : (Rect.unit off size inb).shape.Idx)
    (h : ∀ a, (y a : ℕ) = off a + (x a : ℕ)) : View.canon (⟨Rect.unit off size inb, v⟩ :: L) y = v x := by
  have : y = (Rect.unit off size inb).emb x := by
    funext a; apply Fin.ext; rw [h a]; simp
  rw [this]; exact View.canon_cons_emb _ _ _ _

theorem canon_unit_of {s : Shape} {off size : Fin s.rank → ℕ} (inb : ∀ a, off a + size a ≤ s.size a)
    (v : (Rect.unit off size inb).shape.Idx → Val e) (L : List (View.Piece Val s e)) (y : s.Idx) (a : Fin s.rank)
    (h : (y a : ℕ) < off a ∨ off a + size a ≤ (y a : ℕ)) : View.canon (⟨Rect.unit off size inb, v⟩ :: L) y = View.canon L y := by
  apply View.canon_cons_of_not_mem
  intro hm
  have := (Rect.mem_set_unit (inb := inb)).1 hm a
  omega

end Memory

section Constants

theorem ofBits_448 : Ideal.ofBits .f32 0x43E00000#32 = ((448 : ℝ) : EReal) := by
  simp [Ideal.ofBits, Ideal.ieee, -EReal.coe_mul]; norm_num

theorem ofBits_neg_448 : Ideal.ofBits .f32 0xC3E00000#32 = ((-448 : ℝ) : EReal) := by
  simp [Ideal.ofBits, Ideal.ieee, -EReal.coe_mul]; norm_num

theorem ofBits_neg_8 : Ideal.ofBits .f32 0xC1000000#32 = ((-8 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- The least query scale: a positive number. -/
theorem ofBits_tiny : Ideal.ofBits .f32 0x03800000#32 = (((2 : ℝ) ^ (-120 : ℤ) : ℝ) : EReal) := by
  simp [Ideal.ofBits, Ideal.ieee, -EReal.coe_mul]; norm_num

/-- The reciprocal of 448 as the reference rounds it. -/
theorem ofBits_inv_448 : Ideal.ofBits .f32 0x3B124925#32 = (((9586981 : ℝ) * (2 : ℝ) ^ (-32 : ℤ) : ℝ) : EReal) := by
  simp [Ideal.ofBits, Ideal.ieee, -EReal.coe_mul]

end Constants

section Loads
variable (E : Env Ideal)

theorem mx_apply (s : FVec Ideal S256x256 .f32) (r : Fin 256) (l : Fin 128) :
    mx s (ix2 r l) = max (s (ix2 r ⟨l, by omega⟩)) (s (ix2 r ⟨128 + l, by omega⟩)) := by
  pointwise [mx]

theorem diag_apply (s : FVec Ideal S256x256 .f32) (r c : Fin 256) :
    diag s (ix2 r c) = if (c : ℕ) ≤ r then s (ix2 r c) else ⊥ := by
  pointwise [diag]
  rw [WordCmp.cmpi_sle_ofNat (by have := c.isLt; omega) (by have := r.isLt; omega), ofBits_bot]
  by_cases h : (c : ℕ) ≤ r <;> simp [h, Scalar.select]

theorem prob_apply (mm qs : FVec Ideal S256x128 .f32) (t : FVec Ideal S256x256 .f32) (r : Fin 256) (l : Fin 128) :
    prob mm qs t (ix2 r l) = Ideal.exp2 ((t (ix2 r ⟨l, by omega⟩) - mm (ix2 r l)) * qs (ix2 r l)) := by
  pointwise [prob]
  rfl

theorem prob'_apply (mm qs : FVec Ideal S256x128 .f32) (t : FVec Ideal S256x256 .f32) (r : Fin 256) (l : Fin 128) :
    prob' mm qs t (ix2 r l) = Ideal.exp2 ((t (ix2 r ⟨128 + l, by omega⟩) - mm (ix2 r l)) * qs (ix2 r l)) := by
  pointwise [prob']
  rfl

theorem codes_apply (x : FVec Ideal S256x128 .f32) (r : Fin 256) (l : Fin 128) :
    codes x (ix2 r l) = Row.clip (x (ix2 r l)) := by
  pointwise [codes, Row.clip]
  rw [ofBits_448, ofBits_neg_448]

theorem sc256 {α : Type} (u : S256x256.Idx → α) (z : Fin 1) (r c : Fin 256) :
    shapeCast S1x256x256 u shapeCasts_S256x256_S1x256x256 (ix3 z r c) = u (ix2 r c) := by
  pointwise

theorem sc128 {α : Type} (u : S256x128.Idx → α) (z : Fin 1) (r : Fin 256) (c : Fin 128) :
    shapeCast S1x256x128 u shapeCasts_S256x128_S1x256x128 (ix3 z r c) = u (ix2 r c) := by
  pointwise

theorem cs256 {α : Type} (u : S1x256x256.Idx → α) (r c : Fin 256) :
    shapeCast S256x256 u shapeCasts_S1x256x256_S256x256 (ix2 r c) = u (ix3 0 r c) := by
  pointwise

theorem cs128 {α : Type} (u : S1x256x128.Idx → α) (r : Fin 256) (c : Fin 128) :
    shapeCast S256x128 u shapeCasts_S1x256x128_S256x128 (ix2 r c) = u (ix3 0 r c) := by
  pointwise

theorem score_gen (q : FVec Ideal S1x256x128 .fp8e4m3) (k : FVec Ideal S1x1x128x256 .fp8e4m3) (ks : FVec Ideal S1x1x256 .f32) (r c : Fin 256) :
    mulf (matmul dot_S256x128_S128x256_S256x256_1_0_0_1_n_n none
      (shapeCast S256x128 q shapeCasts_S1x256x128_S256x128) (shapeCast S128x256 k shapeCasts_S1x1x128x256_S128x256)
      (constant S256x256 .f32 0x00000000#32))
    (broadcastTo S256x256 (mulf (shapeCast S1x256 ks shapeCasts_S1x1x256_S1x256)
      (broadcast S1x256 (Named.named κ "sm_scale_log2e" 0x3E0293EE#32))) broadcasts_S1x256_S256x256) (ix2 r c) =
    (∑ d : Fin 128, q (ix3 0 r d) * k (ix4 0 0 d c)) * (ks (ix3 0 0 c) * named κ "sm_scale_log2e" 0x3E0293EE#32) := by
  pointwise
  rfl

theorem score_apply (i j : ℕ) (hi : i < 16) (hj : j < 16) (r c : Fin 256) :
    score E i j hi hj (ix2 r c) = (∑ d : Fin 128, E.x0 (ix3 0 ⟨256 * i + r, by omega⟩ d) * E.x1 (ix4 0 0 d ⟨256 * j + c, by omega⟩)) *
      (E.x4 (ix3 0 0 ⟨256 * j + c, by omega⟩) * named κ "sm_scale_log2e" 0x3E0293EE#32) := by
  refine (score_gen _ _ _ r c).trans ?_
  have e0 : ∀ d : Fin 128, (Rect.unit (s := S1x4096x128) ![0, 256 * i, 0] S1x256x128.size
        (inb3 (by omega) (by omega) (by omega))).toLoadRect.idx (ix3 0 r d) = ix3 0 ⟨256 * i + r, by omega⟩ d := fun d => by
    funext a; apply Fin.ext
    fin_cases a
    · rfl
    · exact Rect.idx_unit_val _ _ _ _ _
    · exact (Rect.idx_unit_val _ _ _ _ _).trans (Nat.zero_add _)
  have e1 : ∀ d : Fin 128, (Rect.unit (s := S1x1x128x4096) ![0, 0, 0, 256 * j] S1x1x128x256.size
        (inb4 (by omega) (by omega) (by omega) (by omega))).toLoadRect.idx (ix4 0 0 d c) = ix4 0 0 d ⟨256 * j + c, by omega⟩ := fun d => by
    funext a; apply Fin.ext
    fin_cases a
    · rfl
    · rfl
    · exact (Rect.idx_unit_val _ _ _ _ _).trans (Nat.zero_add _)
    · exact Rect.idx_unit_val _ _ _ _ _
  have e2 : (Rect.unit (s := S1x1x4096) ![0, 0, 256 * j] S1x1x256.size
        (inb3 (by omega) (by omega) (by omega))).toLoadRect.idx (ix3 0 0 c) = ix3 0 0 ⟨256 * j + c, by omega⟩ := by
    funext a; apply Fin.ext
    fin_cases a
    · rfl
    · rfl
    · exact Rect.idx_unit_val _ _ _ _ _
  refine congrArg₂ (· * ·) (Finset.sum_congr rfl fun d _ => congrArg₂ (· * ·) ((E.harg2.readAt_unread _ _ _).trans (congrArg E.x0 (e0 d))) ((E.harg3.readAt_unread _ _ _).trans (congrArg E.x1 (e1 d)))) ?_
  exact congrArg (· * _) ((E.harg6.readAt_unread _ _ _).trans (congrArg E.x4 e2))

theorem qsOf_apply (i : ℕ) (hi : i < 16) (r : Fin 256) (l : Fin 128) :
    qsOf E i hi (ix2 r l) = max (E.x3 (ix3 0 0 ⟨256 * i + r, by omega⟩)) (((2 : ℝ) ^ (-120 : ℤ) : ℝ) : EReal) := by
  pointwise [qsOf, View.readAt, Memref.IsWhole.read_unread]
  rw [ofBits_tiny]
  split
  · rfl
  · have e : 256 * i + 128 + ((r : ℕ) - 128) = 256 * i + r := by omega
    simp only [e]

theorem loadT_apply (i j : ℕ) (hj : j < 16) (L : List (View.Piece (Elt Ideal) S2x256x4096 .f32)) (r c : Fin 256) :
    loadT E i j hj L (ix2 r c) = View.canon L (ix3 ⟨i % 2, Nat.mod_lt i (by decide)⟩ r ⟨256 * j + c, by omega⟩) := by
  refine (cs256 _ r c).trans ?_
  rw [View.readCov_eq_canon']
  refine congrArg (View.canon L) ?_
  funext a; apply Fin.ext
  fin_cases a
  · exact Rect.idx_unit_val _ _ _ _ _
  · exact (Rect.idx_unit_val _ _ _ _ _).trans (Nat.zero_add _)
  · exact Rect.idx_unit_val _ _ _ _ _

theorem loadM_apply (v : View sig .tc .vmem S2x256x128 .f32) (i : ℕ) (L : List (View.Piece (Elt Ideal) S2x256x128 .f32)) (r : Fin 256) (l : Fin 128) :
    shapeCast S256x128 (v.readCov L (slotM i).toLoadRect) shapeCasts_S1x256x128_S256x128 (ix2 r l) =
      View.canon L (ix3 ⟨i % 2, Nat.mod_lt i (by decide)⟩ r l) := by
  refine (cs128 _ r l).trans ?_
  rw [View.readCov_eq_canon']
  refine congrArg (View.canon L) ?_
  funext a; apply Fin.ext
  fin_cases a
  · exact Rect.idx_unit_val _ _ _ _ _
  · exact (Rect.idx_unit_val _ _ _ _ _).trans (Nat.zero_add _)
  · exact (Rect.idx_unit_val _ _ _ _ _).trans (Nat.zero_add _)

theorem mmOf_gen (x : FVec Ideal S256x128 .f32) (q : FVec Ideal S256x128 .f32) (r : Fin 256) (l : Fin 128) :
    addf (broadcastTo S256x128 (shapeCast S256x1 (multiReduction .maximumf [1] S256 x
      0xFF800000#32 reduces_S256x128_S256 (.inl rfl) rfl) shapeCasts_S256_S256x1) broadcasts_S256x1_S256x128)
    (divf (broadcast S256x128 (Scalar.ofBits .f32 0xC1000000#32)) q) (ix2 r l) =
      Finset.univ.sup (fun k : Fin 128 => x (ix2 r k)) + Ideal.div ((-8 : ℝ) : EReal) (q (ix2 r l)) := by
  pointwise
  rw [ofBits_neg_8, ofBits_bot]
  rfl

theorem mmOf_apply (i : ℕ) (hi : i < 16) (L : List (View.Piece (Elt Ideal) S2x256x128 .f32)) (r : Fin 256) (l : Fin 128) :
    mmOf E i hi L (ix2 r l) = Finset.univ.sup (fun x : Fin 128 => View.canon L (ix3 ⟨i % 2, Nat.mod_lt i (by decide)⟩ r x)) +
      Ideal.div ((-8 : ℝ) : EReal) (qsOf E i hi (ix2 r l)) := by
  refine (mmOf_gen _ _ r l).trans ?_
  exact congrArg (· + _) (Finset.sup_congr rfl fun k _ => loadM_apply _ _ _ r k)

theorem out_acc (acc : FVec Ideal S256x256 .f32) (w : FVec Ideal S1x1x128 .f32) (s : FVec Ideal S256x128 .f32) (r : Fin 256) (d : Fin 128) :
    truncf .bf16 (divf (mulf (extractStridedSlice S256x128 ![0, 0] acc slices_S256x256_o0_0_S256x128)
          (broadcastTo S256x128 (shapeCast S1x128 w shapeCasts_S1x1x128_S1x128) broadcasts_S1x128_S256x128))
        (broadcastTo S256x128 (shapeCast S256x1 (multiReduction .add [1] S256 s
          0x00000000#32 reduces_S256x128_S256 (.inl rfl) rfl) shapeCasts_S256_S256x1) broadcasts_S256x1_S256x128))
        bitsLt_bf16_f32 (ix2 r d) =
      Ideal.div (acc (ix2 r ⟨d, by omega⟩) * w (ix3 0 0 d)) (∑ l : Fin 128, s (ix2 r l)) := by
  pointwise

theorem matmul_gen (n : ℕ) (p : FVec Ideal ⟨2, ![256, n]⟩ .fp8e4m3) (v : FVec Ideal ⟨2, ![n, 256]⟩ .fp8e4m3) (r c : Fin 256) :
    (matmul (DotDims.plain 256 n 256) none p v (constant S256x256 .f32 0x00000000#32) : FVec Ideal S256x256 .f32) (ix2 r c) =
      ∑ k : Fin n, p (ix2 r k) * v (ix2 k c) := by
  refine (Ideal.matmul_plain_apply none p v _ r c).trans ?_
  refine (congrArg (· + _) Ideal.ofBits_zero_f32).trans (zero_add _)

theorem casts_n (n : ℕ) (u : (⟨3, ![1, 256, n]⟩ : Shape).Idx → EReal) (h) (r : Fin 256) (k : Fin n) :
    shapeCast ⟨2, ![256, n]⟩ u h (ix2 r k) = u (ix3 0 r k) := by
  exact congrArg u (ValueIdx.reshapeEquiv_ix2_1ab h r k)

theorem vv_apply (k : Fin 4096) (d : Fin 128) :
    View.canon (vv E) (ix2 k ⟨d, by omega⟩) = E.x2 (ix3 0 k d) := by
  refine (canon_unit_of _ _ _ _ 1 (Or.inl (show (d : ℕ) < 128 from d.isLt))).trans ?_
  refine (canon_unit _ _ _ _ (ix2 k d) fun a => ?_).trans ?_
  · fin_cases a
    · exact (Nat.zero_add _).symm
    · exact (Nat.zero_add _).symm
  · pointwise [k0_pay2, View.readAt, Memref.IsWhole.read_unread]

theorem addOut_apply (i n : ℕ) (hi : i < 16) (hn : n ≤ 4096) (st : St Ideal) (r : Fin 256) (d : Fin 128) :
    View.canon (addOut E i n hi hn st).o (ix3 0 ⟨256 * i + r, by omega⟩ d) =
      Ideal.div ((∑ k : Fin n, View.canon st.p (ix3 ⟨i % 2, Nat.mod_lt i (by decide)⟩ r ⟨k, by omega⟩) * E.x2 (ix3 0 ⟨k, by omega⟩ d)) *
        E.x5 (ix3 0 0 d)) (∑ l : Fin 128, View.canon st.l (ix3 ⟨i % 2, Nat.mod_lt i (by decide)⟩ r l)) := by
  refine (canon_unit _ _ _ _ (ix3 0 r d) fun a => ?_).trans ?_
  · fin_cases a
    · rfl
    · rfl
    · exact (Nat.zero_add _).symm
  refine (sc128 _ 0 r d).trans ((out_acc _ _ _ r d).trans ?_)
  refine congrArg₂ Ideal.div (congrArg₂ (· * ·) ?_ ?_) (Finset.sum_congr rfl fun l _ => loadM_apply _ _ _ r l)
  · refine (matmul_gen n _ _ r _).trans (Finset.sum_congr rfl fun k _ => congrArg₂ (· * ·) ?_ ?_)
    · refine (casts_n n _ _ r k).trans ?_
      rw [View.readCov_eq_canon']
      refine congrArg (View.canon st.p) ?_
      funext a; apply Fin.ext
      fin_cases a
      · exact Rect.idx_unit_val _ _ _ _ _
      · exact (Rect.idx_unit_val _ _ _ _ _).trans (Nat.zero_add _)
      · exact (Rect.idx_unit_val _ _ _ _ _).trans (Nat.zero_add _)
    · rw [View.readCov_eq_canon', ← vv_apply]
      refine congrArg (View.canon (vv E)) ?_
      funext a; apply Fin.ext
      fin_cases a
      · exact (Rect.idx_unit_val _ _ _ _ _).trans (Nat.zero_add _)
      · exact (Rect.idx_unit_val _ _ _ _ _).trans (Nat.zero_add _)
  · refine (E.harg7.readAt_unread _ _ _).trans (congrArg E.x5 ?_)
    funext a; apply Fin.ext
    fin_cases a
    · rfl
    · rfl
    · exact (Rect.idx_unit_val _ _ _ _ _).trans (Nat.zero_add _)

theorem addOut_of_lt (i n : ℕ) (hi : i < 16) (hn : n ≤ 4096) (st : St Ideal) (R : Fin 4096) (hR : (R : ℕ) < 256 * i) (d : Fin 128) :
    View.canon (addOut E i n hi hn st).o (ix3 0 R d) = View.canon st.o (ix3 0 R d) :=
  canon_unit_of _ _ _ _ 1 (Or.inl hR)

end Loads

end Cert.KernelIdeal.Model
-- ==== Proof.Sem.lean ====
/- What the loops leave in each buffer, over the extended reals: scores, running maxima, codes, sums and output rows. -/
module

public import proofs.«01_k».proof.Proof.Ops

@[expose] public section

set_option maxRecDepth 16384

noncomputable section

namespace Cert.KernelIdeal.Model

open Idealize.ShloMosaic Idealize.ShloMosaic.TcCoe Idealize.ShloMosaic.Pointwise Cert.KernelIdeal.Gen

variable (E : Env Ideal)

/-- The score of row `R` against key `K`, not masked. -/
def scN (R K : ℕ) : EReal :=
  (∑ d : Fin 128, E.x0 (ix3 0 (Fin.ofNat 4096 R) d) * E.x1 (ix4 0 0 d (Fin.ofNat 4096 K))) *
    (E.x4 (ix3 0 0 (Fin.ofNat 4096 K)) * named κ "sm_scale_log2e" 0x3E0293EE#32)

/-- The masked score: a row sees the keys up to its own. -/
def tN (R K : ℕ) : EReal := if K ≤ R then scN E R K else ⊥

/-- The row's greatest score. -/
def mN (R : ℕ) : EReal := Finset.univ.sup fun k : Fin 4096 => tN E R k

/-- The query scale of a row, as the kernel takes it. -/
def qN (R : ℕ) : EReal := max (E.x3 (ix3 0 0 (Fin.ofNat 4096 R))) (((2 : ℝ) ^ (-120 : ℤ) : ℝ) : EReal)

/-- The probability of a key. -/
def pN (R K : ℕ) : EReal := Row.kProb (mN E R) (qN E R) (tN E R K)

/-- An output row at a column. -/
def outN (R : ℕ) (d : Fin 128) : EReal :=
  Row.kOut (fun k : Fin 4096 => tN E R k) (fun k => E.x2 (ix3 0 k d)) (qN E R) (E.x5 (ix3 0 0 d))

/-- The slot of a block. -/
abbrev sl (i : ℕ) : Fin 2 := ⟨i % 2, Nat.mod_lt i (by decide)⟩

/-- The maxima of lane `l` over the first `n` chunks. -/
def laneMax (R n l : ℕ) : EReal := (Finset.range n).sup fun j => max (tN E R (256 * j + l)) (tN E R (256 * j + (128 + l)))

/-- The sum of lane `l` over the first `n` chunks. -/
def laneSum (R n l : ℕ) : EReal := ∑ j ∈ Finset.range n, (pN E R (256 * j + l) + pN E R (256 * j + (128 + l)))

/-- The scores and maxima of the first `n` chunks of block `i` are in their slot. -/
def Score (i n : ℕ) (st : St Ideal) : Prop :=
  (∀ (r : Fin 256) (k : Fin 4096), (k : ℕ) < 256 * n → View.canon st.t (ix3 (sl i) r k) = tN E (256 * i + r) k) ∧
  (0 < n → ∀ (r : Fin 256) (l : Fin 128), View.canon st.m (ix3 (sl i) r l) = laneMax E (256 * i + r) n l)

/-- The codes and sums of the first `n` chunks of block `i` are in their slot. -/
def Prob (i n : ℕ) (st : St Ideal) : Prop :=
  (∀ (r : Fin 256) (k : Fin 4096), (k : ℕ) < 256 * n → View.canon st.p (ix3 (sl i) r k) = Row.clip (pN E (256 * i + r) k)) ∧
  (0 < n → ∀ (r : Fin 256) (l : Fin 128), View.canon st.l (ix3 (sl i) r l) = laneSum E (256 * i + r) n l)

/-- The first `n` blocks' output rows are stored. -/
def Out (n : ℕ) (st : St Ideal) : Prop :=
  ∀ R : Fin 4096, (R : ℕ) < 256 * n → ∀ d : Fin 128, View.canon st.o (ix3 0 R d) = outN E R d

theorem ofNat_eq {n a : ℕ} [NeZero n] (h : a < n) : (⟨a, h⟩ : Fin n) = Fin.ofNat n a := Fin.ext (Nat.mod_eq_of_lt h).symm

theorem score_eq (i j : ℕ) (hi : i < 16) (hj : j < 16) (r c : Fin 256) :
    score E i j hi hj (ix2 r c) = scN E (256 * i + r) (256 * j + c) := by
  rw [score_apply, scN]
  simp only [ofNat_eq]

/-- A chunk below the diagonal. -/
theorem score_below (i j : ℕ) (hi : i < 16) (hj : j < i) (r c : Fin 256) :
    score E i j hi (by omega) (ix2 r c) = tN E (256 * i + r) (256 * j + c) := by
  rw [score_eq, tN, if_pos (by have := c.isLt; omega)]

/-- The chunk on the diagonal. -/
theorem score_diag (i : ℕ) (hi : i < 16) (r c : Fin 256) :
    diag (score E i i hi hi) (ix2 r c) = tN E (256 * i + r) (256 * i + c) := by
  rw [diag_apply, score_eq, tN]
  simp only [Nat.add_le_add_iff_left]

theorem range_sup_succ (f : ℕ → EReal) (n : ℕ) : (Finset.range (n + 1)).sup f = max ((Finset.range n).sup f) (f n) := by
  rw [Finset.range_add_one, Finset.sup_insert]; exact sup_comm _ _

/-- One more chunk's scores. -/
theorem addScore_score (i n : ℕ) (hn : n < 16) (s : FVec Ideal S256x256 .f32) (st : St Ideal) (h : Score E i n st)
    (hs : ∀ r c : Fin 256, s (ix2 r c) = tN E (256 * i + r) (256 * n + c)) : Score E i (n + 1) (addScore E i n hn s st) := by
  refine ⟨fun r k hk => ?_, fun _ r l => ?_⟩
  · by_cases hk' : (k : ℕ) < 256 * n
    · exact (canon_unit_of _ _ _ _ 2 (Or.inl hk')).trans (h.1 r k hk')
    · have hc : (k : ℕ) - 256 * n < 256 := by omega
      refine (canon_unit _ _ _ _ (ix3 0 r ⟨(k : ℕ) - 256 * n, hc⟩) fun a => ?_).trans ?_
      · fin_cases a
        · rfl
        · exact (Nat.zero_add _).symm
        · show (k : ℕ) = 256 * n + ((k : ℕ) - 256 * n); omega
      · refine (sc256 _ 0 r _).trans ((hs r _).trans ?_)
        exact congrArg _ (by show 256 * n + ((k : ℕ) - 256 * n) = k; omega)
  · refine (canon_unit _ _ _ _ (ix3 0 r l) fun a => ?_).trans ?_
    · fin_cases a
      · rfl
      · exact (Nat.zero_add _).symm
      · exact (Nat.zero_add _).symm
    · refine (sc128 _ 0 r l).trans ?_
      have hm : mx s (ix2 r l) = max (tN E (256 * i + r) (256 * n + l)) (tN E (256 * i + r) (256 * n + (128 + l))) := by
        rw [mx_apply, hs, hs]
      rw [laneMax, range_sup_succ, ← hm]
      cases n with
      | zero => exact (max_eq_right bot_le).symm
      | succ n =>
        refine congrArg₂ max ?_ rfl
        exact (loadM_apply _ i _ r l).trans (h.2 (by omega) r l)

/-- Another block's slot keeps its scores. -/
theorem addScore_other (i i' n : ℕ) (hn : n < 16) (s : FVec Ideal S256x256 .f32) (st : St Ideal) (hi : i % 2 ≠ i' % 2)
    (r : Fin 256) (k : Fin 4096) : View.canon (addScore E i' n hn s st).t (ix3 (sl i) r k) = View.canon st.t (ix3 (sl i) r k) :=
  canon_unit_of _ _ _ _ 0 (by show i % 2 < i' % 2 ∨ i' % 2 + 1 ≤ i % 2; omega)

/-- One more chunk's codes and sums. -/
theorem addProb_prob (i n : ℕ) (hn : n < 16) (mm qs : FVec Ideal S256x128 .f32) (t : FVec Ideal S256x256 .f32) (st : St Ideal)
    (h : Prob E i n st)
    (hm : ∀ (r : Fin 256) (l : Fin 128), mm (ix2 r l) = mN E (256 * i + r) + Ideal.div ((-8 : ℝ) : EReal) (qN E (256 * i + r)))
    (hq : ∀ (r : Fin 256) (l : Fin 128), qs (ix2 r l) = qN E (256 * i + r))
    (ht : ∀ r c : Fin 256, t (ix2 r c) = tN E (256 * i + r) (256 * n + c)) : Prob E i (n + 1) (addProb E i n hn mm qs t st) := by
  have hp : ∀ (r : Fin 256) (l : Fin 128), prob mm qs t (ix2 r l) = pN E (256 * i + r) (256 * n + l) := fun r l => by
    rw [prob_apply, hm, hq, ht]; rfl
  have hp' : ∀ (r : Fin 256) (l : Fin 128), prob' mm qs t (ix2 r l) = pN E (256 * i + r) (256 * n + (128 + l)) := fun r l => by
    rw [prob'_apply, hm, hq, ht]; rfl
  refine ⟨fun r k hk => ?_, fun _ r l => ?_⟩
  · by_cases hk1 : 256 * n + 128 ≤ (k : ℕ)
    · have hc : (k : ℕ) - (256 * n + 128) < 128 := by omega
      refine (canon_unit _ _ _ _ (ix3 0 r ⟨(k : ℕ) - (256 * n + 128), hc⟩) fun a => ?_).trans ?_
      · fin_cases a
        · rfl
        · exact (Nat.zero_add _).symm
        · show (k : ℕ) = 256 * n + 128 + ((k : ℕ) - (256 * n + 128)); omega
      · refine (sc128 _ 0 r _).trans ((codes_apply _ _ _).trans (congrArg Row.clip ((hp' r _).trans ?_)))
        exact congrArg _ (by show 256 * n + (128 + ((k : ℕ) - (256 * n + 128))) = k; omega)
    · refine (canon_unit_of _ _ _ _ 2 (Or.inl (by show (k : ℕ) < 256 * n + 128; omega))).trans ?_
      by_cases hk' : (k : ℕ) < 256 * n
      · exact (canon_unit_of _ _ _ _ 2 (Or.inl hk')).trans (h.1 r k hk')
      · have hc : (k : ℕ) - 256 * n < 128 := by omega
        refine (canon_unit _ _ _ _ (ix3 0 r ⟨(k : ℕ) - 256 * n, hc⟩) fun a => ?_).trans ?_
        · fin_cases a
          · rfl
          · exact (Nat.zero_add _).symm
          · show (k : ℕ) = 256 * n + ((k : ℕ) - 256 * n); omega
        · refine (sc128 _ 0 r _).trans ((codes_apply _ _ _).trans (congrArg Row.clip ((hp r _).trans ?_)))
          exact congrArg _ (by show 256 * n + ((k : ℕ) - 256 * n) = k; omega)
  · refine (canon_unit _ _ _ _ (ix3 0 r l) fun a => ?_).trans ?_
    · fin_cases a
      · rfl
      · exact (Nat.zero_add _).symm
      · exact (Nat.zero_add _).symm
    · refine (sc128 _ 0 r l).trans ?_
      have hs : addf (prob mm qs t) (prob' mm qs t) (ix2 r l) =
          pN E (256 * i + r) (256 * n + l) + pN E (256 * i + r) (256 * n + (128 + l)) := congrArg₂ (· + ·) (hp r l) (hp' r l)
      rw [laneSum, Finset.sum_range_succ, ← hs]
      cases n with
      | zero => exact (zero_add _).symm
      | succ n =>
        refine congrArg₂ (· + ·) ?_ rfl
        exact (loadM_apply _ i _ r l).trans (h.2 (by omega) r l)

theorem tN_above {R K : ℕ} (h : R < K) : tN E R K = ⊥ := if_neg (by omega)

/-- The greatest of the lanes' maxima is the row's. -/
theorem sup_laneMax (i : ℕ) (hi : i < 16) (r : Fin 256) :
    (Finset.univ.sup fun x : Fin 128 => laneMax E (256 * i + r) (i + 1) x) = mN E (256 * i + r) := by
  apply le_antisymm
  · refine Finset.sup_le fun x _ => Finset.sup_le fun j hj => ?_
    have hj' := Finset.mem_range.1 hj
    refine max_le ?_ ?_
    · exact Finset.le_sup (f := fun k : Fin 4096 => tN E (256 * i + r) k) (Finset.mem_univ ⟨256 * j + x, by omega⟩)
    · exact Finset.le_sup (f := fun k : Fin 4096 => tN E (256 * i + r) k) (Finset.mem_univ ⟨256 * j + (128 + x), by omega⟩)
  · refine Finset.sup_le fun k _ => ?_
    by_cases hk : (k : ℕ) ≤ 256 * i + r
    · have hj : (k : ℕ) / 256 ∈ Finset.range (i + 1) := Finset.mem_range.2 (by have := r.isLt; omega)
      refine le_trans ?_ (Finset.le_sup (f := fun x : Fin 128 => laneMax E (256 * i + r) (i + 1) x)
        (Finset.mem_univ ⟨(k : ℕ) % 128, Nat.mod_lt _ (by decide)⟩))
      refine le_trans ?_ (Finset.le_sup (f := fun j => max (tN E (256 * i + r) (256 * j + (k : ℕ) % 128))
        (tN E (256 * i + r) (256 * j + (128 + (k : ℕ) % 128)))) hj)
      by_cases hh : (k : ℕ) % 256 < 128
      · exact le_max_of_le_left (le_of_eq (congrArg _ (by omega)))
      · exact le_max_of_le_right (le_of_eq (congrArg _ (by omega)))
    · rw [tN_above E (by omega)]; exact bot_le

theorem qN_pos (R : ℕ) : 0 < qN E R :=
  lt_of_lt_of_le (by exact_mod_cast (by positivity : (0 : ℝ) < (2 : ℝ) ^ (-120 : ℤ))) (le_max_right _ _)

theorem pN_above {R K : ℕ} (h : R < K) : pN E R K = 0 := by
  rw [pN, tN_above E h, Row.kProb, Row.bot_sub', EReal.bot_mul_of_pos (qN_pos E R)]
  rfl

/-- The sum of the lanes' sums is the row's. -/
theorem sum_lanes (f : ℕ → EReal) (n : ℕ) :
    (∑ l : Fin 128, ∑ j ∈ Finset.range n, (f (256 * j + l) + f (256 * j + (128 + l)))) = ∑ k ∈ Finset.range (256 * n), f k := by
  rw [Finset.sum_comm]
  induction n with
  | zero => simp
  | succ n ih =>
    rw [Finset.sum_range_succ, ih, Nat.mul_succ, Finset.sum_range_add, Finset.sum_add_distrib,
      Fin.sum_univ_eq_sum_range (fun l => f (256 * n + l)) 128, Fin.sum_univ_eq_sum_range (fun l => f (256 * n + (128 + l))) 128,
      ← Finset.sum_range_add (fun l => f (256 * n + l)) 128 128]

/-- A sum over the first keys, those past the row's own contributing nothing, is the sum over all keys. -/
theorem sum_all (f : ℕ → EReal) (n : ℕ) (hn : n ≤ 4096) (h : ∀ k, n ≤ k → f k = 0) :
    (∑ k ∈ Finset.range n, f k) = ∑ k : Fin 4096, f k := by
  rw [Fin.sum_univ_eq_sum_range f 4096]
  refine Finset.sum_subset (Finset.range_mono hn) fun k _ hk => h k ?_
  simpa using hk

theorem mmOf_eq (i : ℕ) (hi : i < 16) (st : St Ideal) (h : Score E i (i + 1) st) (r : Fin 256) (l : Fin 128) :
    mmOf E i hi st.m (ix2 r l) = mN E (256 * i + r) + Ideal.div ((-8 : ℝ) : EReal) (qN E (256 * i + r)) := by
  rw [mmOf_apply, ← sup_laneMax E i hi r]
  refine congrArg₂ (· + ·) (Finset.sup_congr rfl fun x _ => h.2 (by omega) r x) (congrArg _ ?_)
  rw [qsOf_apply, qN]
  simp only [ofNat_eq]

theorem qsOf_eq (i : ℕ) (hi : i < 16) (r : Fin 256) (l : Fin 128) : qsOf E i hi (ix2 r l) = qN E (256 * i + r) := by
  rw [qsOf_apply, qN]
  simp only [ofNat_eq]

/-- A block's output rows. -/
theorem addOut_out (i n : ℕ) (hi : i < 16) (hn : n = 256 * (i + 1)) (st : St Ideal) (h : Prob E i (i + 1) st) (ho : Out E i st) :
    Out E (i + 1) (addOut E i n hi (by omega) st) := by
  subst hn
  intro R hR d
  by_cases hR' : (R : ℕ) < 256 * i
  · rw [addOut_of_lt E i _ hi _ st R hR' d]; exact ho R hR' d
  · obtain ⟨r, hr⟩ : ∃ r : Fin 256, (R : ℕ) = 256 * i + r := ⟨⟨(R : ℕ) - 256 * i, by omega⟩, by show (R : ℕ) = 256 * i + ((R : ℕ) - 256 * i); omega⟩
    have hRe : R = ⟨256 * i + r, by omega⟩ := Fin.ext hr
    rw [hRe]
    refine (addOut_apply E i _ hi _ st r d).trans ?_
    rw [outN, Row.kOut]
    refine congrArg₂ Ideal.div (congrArg (· * _) ?_) ?_
    · have h1 : ∀ k : Fin (256 * (i + 1)), View.canon st.p (ix3 (sl i) r ⟨k, by omega⟩) * E.x2 (ix3 0 ⟨k, by omega⟩ d) =
          (fun k : ℕ => Row.clip (pN E (256 * i + r) k) * E.x2 (ix3 0 (Fin.ofNat 4096 k) d)) k := fun k => by
        refine congrArg₂ (· * ·) (h.1 r ⟨k, by omega⟩ k.isLt) ?_
        simp only [ofNat_eq]
      refine (Finset.sum_congr rfl fun k _ => h1 k).trans ?_
      rw [Fin.sum_univ_eq_sum_range (fun k : ℕ => Row.clip (pN E (256 * i + r) k) * E.x2 (ix3 0 (Fin.ofNat 4096 k) d)),
        sum_all _ _ (by omega) fun k hk => by rw [pN_above E (by have := r.isLt; omega), Row.clip_zero, zero_mul]]
      refine Finset.sum_congr rfl fun k _ => congrArg₂ (· * ·) rfl (congrArg E.x2 ?_)
      rw [← ofNat_eq k.isLt]
    · refine (Finset.sum_congr rfl fun l _ => h.2 (by omega) r l).trans ?_
      refine (sum_lanes (pN E (256 * i + r)) (i + 1)).trans ?_
      exact sum_all _ _ (by omega) fun k hk => pN_above E (by have := r.isLt; omega)

/-- A block's chunks. -/
theorem chunks_inv (i : ℕ) (hi : i + 1 < 16) (st : St Ideal) (h : Score E i (i + 1) st) (n : ℕ) (hn : n ≤ i + 1) :
    Prob E i n (chunks E i hi (mmOf E i (by omega) st.m) (qsOf E i (by omega)) n hn st) ∧
    Score E (i + 1) n (chunks E i hi (mmOf E i (by omega) st.m) (qsOf E i (by omega)) n hn st) ∧
    (∀ (r : Fin 256) (k : Fin 4096), View.canon (chunks E i hi (mmOf E i (by omega) st.m) (qsOf E i (by omega)) n hn st).t (ix3 (sl i) r k) =
      View.canon st.t (ix3 (sl i) r k)) ∧
    (chunks E i hi (mmOf E i (by omega) st.m) (qsOf E i (by omega)) n hn st).o = st.o := by
  induction n with
  | zero => exact ⟨⟨fun r k hk => absurd hk (by omega), fun h0 => absurd h0 (by omega)⟩,
      ⟨fun r k hk => absurd hk (by omega), fun h0 => absurd h0 (by omega)⟩, fun _ _ => rfl, rfl⟩
  | succ n ih =>
    obtain ⟨hp, hs, ht, ho⟩ := ih (by omega)
    have hs' := addScore_score E (i + 1) n (by omega) (score E (i + 1) n hi (by omega)) _ hs
      (fun r c => score_below E (i + 1) n hi (by omega) r c)
    have ht' : ∀ (r : Fin 256) (k : Fin 4096), _ = View.canon st.t (ix3 (sl i) r k) := fun r k =>
      (addScore_other E i (i + 1) n (by omega) (score E (i + 1) n hi (by omega)) _ (by omega) r k).trans (ht r k)
    refine ⟨addProb_prob E i n (by omega) _ _ _ _ hp (mmOf_eq E i (by omega) st h) (qsOf_eq E i (by omega)) fun r c => ?_, hs', ht', ho⟩
    refine (loadT_apply E i n (by omega) _ r c).trans ((ht' r _).trans ?_)
    exact h.1 r _ (by show 256 * n + (c : ℕ) < 256 * (i + 1); have := c.isLt; omega)

/-- The last block's chunks. -/
theorem lastChunks_inv (st : St Ideal) (h : Score E 15 16 st) (n : ℕ) (hn : n ≤ 16) :
    Prob E 15 n (lastChunks E (mmOf E 15 (by decide) st.m) (qsOf E 15 (by decide)) n hn st) ∧
    (lastChunks E (mmOf E 15 (by decide) st.m) (qsOf E 15 (by decide)) n hn st).t = st.t ∧
    (lastChunks E (mmOf E 15 (by decide) st.m) (qsOf E 15 (by decide)) n hn st).o = st.o := by
  induction n with
  | zero => exact ⟨⟨fun r k hk => absurd hk (by omega), fun h0 => absurd h0 (by omega)⟩, rfl, rfl⟩
  | succ n ih =>
    obtain ⟨hp, ht, ho⟩ := ih (by omega)
    refine ⟨addProb_prob E 15 n (by omega) _ _ _ _ hp (mmOf_eq E 15 (by decide) st h) (qsOf_eq E 15 (by decide)) fun r c => ?_, ht, ho⟩
    refine (loadT_apply E 15 n (by omega) _ r c).trans ?_
    rw [ht]
    exact h.1 r _ (by show 256 * n + (c : ℕ) < 256 * 16; have := c.isLt; omega)

theorem blocks_inv (n : ℕ) (hn : n < 16) : Score E n (n + 1) (blocks E n hn) ∧ Out E n (blocks E n hn) := by
  induction n with
  | zero =>
    refine ⟨addScore_score E 0 0 _ _ _ ⟨fun r k hk => absurd hk (by omega), fun h0 => absurd h0 (by omega)⟩
      fun r c => score_diag E 0 (by decide) r c, fun R hR => absurd hR (by omega)⟩
  | succ n ih =>
    obtain ⟨hs, ho⟩ := ih (by omega)
    obtain ⟨hp, hs', -, ho'⟩ := chunks_inv E n hn _ hs (n + 1) le_rfl
    refine ⟨addScore_score E (n + 1) (n + 1) hn _ _ hs' fun r c => score_diag E (n + 1) hn r c, ?_⟩
    refine addOut_out E n (256 * (n + 1)) (by omega) rfl _ hp fun R hR d => ?_
    have := ho R hR d
    rw [← ho'] at this
    exact this

/-- All the output rows. -/
theorem final_out (R : Fin 4096) (d : Fin 128) : View.canon (final E).o (ix3 0 R d) = outN E R d := by
  obtain ⟨hs, ho⟩ := blocks_inv E 15 (by decide)
  obtain ⟨hp, -, ho'⟩ := lastChunks_inv E _ hs 16 le_rfl
  refine addOut_out E 15 4096 (by decide) rfl _ hp (fun R hR d => ?_) R R.isLt d
  have := ho R hR d
  rw [← ho'] at this
  exact this

end Cert.KernelIdeal.Model
-- ==== Proof.ModelEq.lean ====
module

public import proofs.«01_k».proof.Proof.Model

@[expose] public section

set_option maxRecDepth 16384

noncomputable section

namespace Cert.KernelIdeal.Model

open Idealize.ShloMosaic Idealize.ShloMosaic.TcCoe Idealize.ShloMosaic.Tactic Cert.KernelIdeal.Gen

variable {F : FTy → Type} [FloatOps F] [Named F]

/-- The run's pieces of the output are the loops'. -/
theorem run_eq (c : Dev nD) (i : grid0.Coords) (E : Env F) (arg8 : Memref sig .tc .vmem S1x4096x128 .bf16) (harg8 : arg8.IsWhole)
    (harg9 : E.arg9.IsWhole) (harg10 : E.arg10.IsWhole) (harg11 : E.arg11.IsWhole) (harg12 : E.arg12.IsWhole) (harg13 : E.arg13.IsWhole) :
    (kernelRun0_A c i E.arg2 E.harg2 E.arg3 E.harg3 E.arg4 E.harg4 E.arg5 E.harg5 E.arg6 E.harg6 E.arg7 E.harg7 arg8 harg8
      E.arg9 harg9 E.arg10 harg10 E.arg11 harg11 E.arg12 harg12 E.arg13 harg13 E.x0 E.x1 E.x2 E.x3 E.x4 E.x5).1 = (final E).o := by
  sl_kernel_rfl

end Cert.KernelIdeal.Model
-- ==== Proof.KernelValue.lean ====
/- The kernel's output array after the run, element by element, over the extended reals. -/
module

public import proofs.«01_k».proof.Proof.Sem
public import proofs.«01_k».proof.Proof.ModelEq
public import proofs.«01_k».proof.Proof.Gen.KernelIdeal.Value

@[expose] public section

set_option maxRecDepth 16384

noncomputable section

namespace Cert.KernelIdeal.Model

open Idealize.ShloMosaic Idealize.ShloMosaic.TcCoe Idealize.ShloMosaic.Pointwise Cert.KernelIdeal.Gen
open Idealize.ShloMosaic.Pipeline (Dat)
open Cert.Row (col pt)

/-- The score of a query against a key, with the key's scale and the kernel's constant, not masked. -/
def scA (a0 : Vec Ideal S8x4096x1024 .fp8e4m3) (a1 : Vec Ideal S8x8x128x4096 .fp8e4m3) (a4 : Vec Ideal S64x1x4096 .f32)
    (b h : Fin 8) (R K : Fin 4096) : EReal :=
  (∑ d : Fin 128, a0 (ix3 b R (col h d)) * a1 (ix4 b h d K)) * (a4 (ix3 (pt b h) 0 K) * named κ "sm_scale_log2e" 0x3E0293EE#32)

/-- The masked score. -/
def tA (a0 : Vec Ideal S8x4096x1024 .fp8e4m3) (a1 : Vec Ideal S8x8x128x4096 .fp8e4m3) (a4 : Vec Ideal S64x1x4096 .f32)
    (b h : Fin 8) (R K : Fin 4096) : EReal := if K ≤ R then scA a0 a1 a4 b h R K else ⊥

/-- An element of the output. -/
def outA (a0 : Vec Ideal S8x4096x1024 .fp8e4m3) (a1 : Vec Ideal S8x8x128x4096 .fp8e4m3) (a2 : Vec Ideal S8x4096x1024 .fp8e4m3)
    (a3 a4 : Vec Ideal S64x1x4096 .f32) (a5 : Vec Ideal S64x1x128 .f32) (b h : Fin 8) (R : Fin 4096) (d : Fin 128) : EReal :=
  Row.kOut (fun K => tA a0 a1 a4 b h R K) (fun K => a2 (ix3 b K (col h d)))
    (max (a3 (ix3 (pt b h) 0 R)) (((2 : ℝ) ^ (-120 : ℤ) : ℝ) : EReal)) (a5 (ix3 (pt b h) 0 d))

variable (m : (ℓ : Loc nD τ sig) → Buf (Elt Ideal) ℓ)

/-- The grid point of head `h` of batch `b`. -/
abbrev pnt (b h : Fin 8) : Fin cfg0.N := ⟨8 * b + h, by have := h.isLt; have := b.isLt; show _ < 64; omega⟩

theorem ind0 : ∀ b h : Fin 8, win0_0.index (pnt b h) 0 = b ∧ win0_0.index (pnt b h) 1 = 0 ∧ win0_0.index (pnt b h) 2 = h := by decide +kernel
theorem ind1 : ∀ b h : Fin 8, win0_1.index (pnt b h) 0 = b ∧ win0_1.index (pnt b h) 1 = h ∧ win0_1.index (pnt b h) 2 = 0 ∧
  win0_1.index (pnt b h) 3 = 0 := by decide +kernel
theorem ind2 : ∀ b h : Fin 8, win0_2.index (pnt b h) 0 = b ∧ win0_2.index (pnt b h) 1 = 0 ∧ win0_2.index (pnt b h) 2 = h := by decide +kernel
theorem ind3 : ∀ b h : Fin 8, win0_3.index (pnt b h) 0 = 8 * b + h ∧ win0_3.index (pnt b h) 1 = 0 ∧ win0_3.index (pnt b h) 2 = 0 := by decide +kernel
theorem ind4 : ∀ b h : Fin 8, win0_4.index (pnt b h) 0 = 8 * b + h ∧ win0_4.index (pnt b h) 1 = 0 ∧ win0_4.index (pnt b h) 2 = 0 := by decide +kernel
theorem ind5 : ∀ b h : Fin 8, win0_5.index (pnt b h) 0 = 8 * b + h ∧ win0_5.index (pnt b h) 1 = 0 ∧ win0_5.index (pnt b h) 2 = 0 := by decide +kernel
theorem ind6 : ∀ b h : Fin 8, win0_6.index (pnt b h) 0 = b ∧ win0_6.index (pnt b h) 1 = 0 ∧ win0_6.index (pnt b h) 2 = h := by decide +kernel

section
variable (c : Dev nD) (b h : Fin 8)

theorem blk0 (R : Fin 4096) (d : Fin 128) : (iblk m c 0 (pnt b h) : Vec Ideal S1x4096x128 .fp8e4m3) (ix3 0 R d) =
    m ((c : Thread nD τ).loc main_arg0) (ix3 b R (col h d)) := by
  obtain ⟨h0, h1, h2⟩ := ind0 b h
  unfold iblk
  rw [View.read_apply]
  show V m c main_arg0 _ = m (c.tc.loc main_arg0) _
  unfold V
  congr 1
  funext a
  apply Fin.ext
  match a with
  | ⟨0, _⟩ => show win0_0.index (pnt b h) 0 * 1 + 1 * 0 = (b : ℕ); omega
  | ⟨1, _⟩ => show win0_0.index (pnt b h) 1 * 4096 + 1 * (R : ℕ) = (R : ℕ); omega
  | ⟨2, _⟩ => show win0_0.index (pnt b h) 2 * 128 + 1 * (d : ℕ) = 128 * (h : ℕ) + d; omega

theorem blk1 (d : Fin 128) (K : Fin 4096) : (iblk m c 1 (pnt b h) : Vec Ideal S1x1x128x4096 .fp8e4m3) (ix4 0 0 d K) =
    m ((c : Thread nD τ).loc main_arg1) (ix4 b h d K) := by
  obtain ⟨h0, h1, h2, h3⟩ := ind1 b h
  unfold iblk
  rw [View.read_apply]
  show V m c main_arg1 _ = m (c.tc.loc main_arg1) _
  unfold V
  congr 1
  funext a
  apply Fin.ext
  match a with
  | ⟨0, _⟩ => show win0_1.index (pnt b h) 0 * 1 + 1 * 0 = (b : ℕ); omega
  | ⟨1, _⟩ => show win0_1.index (pnt b h) 1 * 1 + 1 * 0 = (h : ℕ); omega
  | ⟨2, _⟩ => show win0_1.index (pnt b h) 2 * 128 + 1 * (d : ℕ) = (d : ℕ); omega
  | ⟨3, _⟩ => show win0_1.index (pnt b h) 3 * 4096 + 1 * (K : ℕ) = (K : ℕ); omega

theorem blk2 (R : Fin 4096) (d : Fin 128) : (iblk m c 2 (pnt b h) : Vec Ideal S1x4096x128 .fp8e4m3) (ix3 0 R d) =
    m ((c : Thread nD τ).loc main_arg2) (ix3 b R (col h d)) := by
  obtain ⟨h0, h1, h2⟩ := ind2 b h
  unfold iblk
  rw [View.read_apply]
  show V m c main_arg2 _ = m (c.tc.loc main_arg2) _
  unfold V
  congr 1
  funext a
  apply Fin.ext
  match a with
  | ⟨0, _⟩ => show win0_2.index (pnt b h) 0 * 1 + 1 * 0 = (b : ℕ); omega
  | ⟨1, _⟩ => show win0_2.index (pnt b h) 1 * 4096 + 1 * (R : ℕ) = (R : ℕ); omega
  | ⟨2, _⟩ => show win0_2.index (pnt b h) 2 * 128 + 1 * (d : ℕ) = 128 * (h : ℕ) + d; omega

theorem blk3 (R : Fin 4096) : (iblk m c 3 (pnt b h) : Vec Ideal S1x1x4096 .f32) (ix3 0 0 R) =
    m ((c : Thread nD τ).loc main_arg3) (ix3 (pt b h) 0 R) := by
  obtain ⟨h0, h1, h2⟩ := ind3 b h
  unfold iblk
  rw [View.read_apply]
  show V m c main_arg3 _ = m (c.tc.loc main_arg3) _
  unfold V
  congr 1
  funext a
  apply Fin.ext
  match a with
  | ⟨0, _⟩ => show win0_3.index (pnt b h) 0 * 1 + 1 * 0 = 8 * (b : ℕ) + h; omega
  | ⟨1, _⟩ => show win0_3.index (pnt b h) 1 * 1 + 1 * 0 = 0; omega
  | ⟨2, _⟩ => show win0_3.index (pnt b h) 2 * 4096 + 1 * (R : ℕ) = (R : ℕ); omega

theorem blk4 (R : Fin 4096) : (iblk m c 4 (pnt b h) : Vec Ideal S1x1x4096 .f32) (ix3 0 0 R) =
    m ((c : Thread nD τ).loc main_arg4) (ix3 (pt b h) 0 R) := by
  obtain ⟨h0, h1, h2⟩ := ind4 b h
  unfold iblk
  rw [View.read_apply]
  show V m c main_arg4 _ = m (c.tc.loc main_arg4) _
  unfold V
  congr 1
  funext a
  apply Fin.ext
  match a with
  | ⟨0, _⟩ => show win0_4.index (pnt b h) 0 * 1 + 1 * 0 = 8 * (b : ℕ) + h; omega
  | ⟨1, _⟩ => show win0_4.index (pnt b h) 1 * 1 + 1 * 0 = 0; omega
  | ⟨2, _⟩ => show win0_4.index (pnt b h) 2 * 4096 + 1 * (R : ℕ) = (R : ℕ); omega

theorem blk5 (d : Fin 128) : (iblk m c 5 (pnt b h) : Vec Ideal S1x1x128 .f32) (ix3 0 0 d) =
    m ((c : Thread nD τ).loc main_arg5) (ix3 (pt b h) 0 d) := by
  obtain ⟨h0, h1, h2⟩ := ind5 b h
  unfold iblk
  rw [View.read_apply]
  show V m c main_arg5 _ = m (c.tc.loc main_arg5) _
  unfold V
  congr 1
  funext a
  apply Fin.ext
  match a with
  | ⟨0, _⟩ => show win0_5.index (pnt b h) 0 * 1 + 1 * 0 = 8 * (b : ℕ) + h; omega
  | ⟨1, _⟩ => show win0_5.index (pnt b h) 1 * 1 + 1 * 0 = 0; omega
  | ⟨2, _⟩ => show win0_5.index (pnt b h) 2 * 128 + 1 * (d : ℕ) = (d : ℕ); omega

/-- What the body reads and where, at the point of a batch and head. -/
def envA : Env Ideal where
  arg2 := ms0_0 (pnt b h)
  harg2 := hs0_0 (pnt b h)
  arg3 := ms0_1 (pnt b h)
  harg3 := hs0_1 (pnt b h)
  arg4 := ms0_2 (pnt b h)
  harg4 := hs0_2 (pnt b h)
  arg5 := ms0_3 (pnt b h)
  harg5 := hs0_3 (pnt b h)
  arg6 := ms0_4 (pnt b h)
  harg6 := hs0_4 (pnt b h)
  arg7 := ms0_5 (pnt b h)
  harg7 := hs0_5 (pnt b h)
  arg9 := scM0_0
  arg10 := scM0_1
  arg11 := scM0_2
  arg12 := scM0_3
  arg13 := scM0_4
  x0 := iblk m c 0 (pnt b h)
  x1 := iblk m c 1 (pnt b h)
  x2 := iblk m c 2 (pnt b h)
  x3 := iblk m c 3 (pnt b h)
  x4 := iblk m c 4 (pnt b h)
  x5 := iblk m c 5 (pnt b h)

/-- The point's output rows are the elements of its block. -/
theorem outN_env (R : Fin 4096) (d : Fin 128) : outN (envA m c b h) R d =
    outA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b h R d := by
  unfold outN outA
  congr 1
  · funext K
    unfold tN tA scN scA
    simp only [Fin.ofNat_val_eq_self, Fin.val_fin_le]
    refine if_congr Iff.rfl ?_ rfl
    refine congrArg₂ (· * ·) (Finset.sum_congr rfl fun e _ => congrArg₂ (· * ·) (blk0 m c b h R e) (blk1 m c b h e K)) ?_
    exact congrArg (· * _) (blk4 m c b h K)
  · exact funext fun K => blk2 m c b h K d
  · unfold qN
    rw [Fin.ofNat_val_eq_self]
    exact congrArg (max · _) (blk3 m c b h R)
  · exact blk5 m c b h d

/-- The output array after the run. -/
theorem arr_apply (R : Fin 4096) (d : Fin 128) : (dats m 0 c).arrAt 6 cfg0.N (ix3 b R (col h d)) =
    outA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b h R d := by
  have hb := congrFun (Value.blocks6 m c (pnt b h) (flush0_6 _)) (ix3 0 R d)
  rw [Value.flushed6_A, View.read_apply] at hb
  obtain ⟨h0, h1, h2⟩ := ind6 b h
  have hi : ((cfg0.win 6).blk (pnt b h)).view.emb (ix3 0 R d) = ix3 b R (col h d) := by
    funext a
    apply Fin.ext
    match a with
    | ⟨0, _⟩ => show win0_6.index (pnt b h) 0 * 1 + 1 * 0 = (b : ℕ); omega
    | ⟨1, _⟩ => show win0_6.index (pnt b h) 1 * 4096 + 1 * (R : ℕ) = (R : ℕ); omega
    | ⟨2, _⟩ => show win0_6.index (pnt b h) 2 * 128 + 1 * (d : ℕ) = 128 * (h : ℕ) + d; omega
  rw [hi] at hb
  refine hb.trans ?_
  refine Eq.trans ?_ (outN_env m c b h R d)
  refine Eq.trans ?_ (final_out (envA m c b h) R d)
  rw [← run_eq c (grid0.coords (pnt b h)) (envA m c b h) (ms0_6 (pnt b h)) (hs0_6 (pnt b h)) (Memref.isWhole_whole _) (Memref.isWhole_whole _)
    (Memref.isWhole_whole _) (Memref.isWhole_whole _) (Memref.isWhole_whole _)]
  exact View.read_writes_apply_eq_canon VO0_6 VO0_6.junk (ix3 0 R d) _ (cover0_A_6 (F := Ideal) c _ _ _ _ _ _ _ _ _ _ _ _ _ _ _ _ _ _ _ _ _ _ _ _ _ _ _ _ _ _ _ _)

end

end Cert.KernelIdeal.Model
-- ==== Proof.RefValue.lean ====
/- The reference's output array, element by element, over the extended reals. -/
module

public import proofs.«01_k».proof.Proof.Row
public import proofs.«01_k».proof.Proof.Ops
public import proofs.«01_k».proof.Proof.Gen.ReferenceIdeal.Value

@[expose] public section

set_option maxRecDepth 16384

noncomputable section

namespace Cert.ReferenceIdeal.Ref

open Idealize.ShloMosaic Idealize.ShloMosaic.TcCoe Idealize.ShloMosaic.Pointwise Cert.ReferenceIdeal.Gen
open Cert.Row (col pt)
open Cert.KernelIdeal.Model (ofBits_448 ofBits_neg_448 ofBits_bot ofBits_inv_448)

section Layout
variable {α : Type} (b h : Fin 8) (R : Fin 4096)

/-- The heads split off the columns. -/
theorem heads_apply (v : S8x4096x1024.Idx → α) (d : Fin 128) :
    shapeCast S64x4096x128 (transpose S8x8x4096x128 [0, 2, 1, 3] (shapeCast S8x4096x8x128 v shapeCasts_S8x4096x1024_S8x4096x8x128)
      transposes_S8x4096x8x128_p0_2_1_3_S8x8x4096x128) shapeCasts_S8x8x4096x128_S64x4096x128 (ix3 (pt b h) R d) = v (ix3 b R (col h d)) := by
  pointwise
  congr 1
  have := h.isLt
  ext a; fin_cases a <;> simp <;> omega

/-- The heads put back among the columns. -/
theorem unheads_apply (v : S64x4096x128.Idx → α) (d : Fin 128) :
    shapeCast S8x4096x1024 (transpose S8x4096x8x128 [0, 2, 1, 3] (shapeCast S8x8x4096x128 v shapeCasts_S64x4096x128_S8x8x4096x128)
      transposes_S8x8x4096x128_p0_2_1_3_S8x4096x8x128) shapeCasts_S8x4096x8x128_S8x4096x1024 (ix3 b R (col h d)) = v (ix3 (pt b h) R d) := by
  pointwise
  congr 1
  have := d.isLt
  ext a; fin_cases a <;> simp <;> omega

theorem keys_apply (v : S8x8x128x4096.Idx → α) (d : Fin 128) :
    shapeCast S64x128x4096 v shapeCasts_S8x8x128x4096_S64x128x4096 (ix3 (pt b h) d R) = v (ix4 b h d R) := by
  pointwise
  congr 1
  have := h.isLt
  ext a; fin_cases a <;> simp <;> omega

end Layout

/-- A row's sum. -/
theorem sum_apply (v : FVec Ideal S64x4096x4096 .f32) (n : Fin 64) (R : Fin 4096) (z : Fin 1) :
    shapeCast S64x4096x1 (multiReduction .add [2] S64x4096 v 0x00000000#32 reduces_S64x4096x4096_S64x4096 (.inl rfl) rfl)
      shapeCasts_S64x4096_S64x4096x1 (ix3 n R z) = ∑ k : Fin 4096, v (ix3 n R k) := by
  pointwise

/-- A row's maximum. -/
theorem max_apply (v : FVec Ideal S64x4096x4096 .f32) (n : Fin 64) (R : Fin 4096) (z : Fin 1) :
    shapeCast S64x4096x1 (multiReduction .maximumf [2] S64x4096 v 0xFF800000#32 reduces_S64x4096x4096_S64x4096 (.inl rfl) rfl)
      shapeCasts_S64x4096_S64x4096x1 (ix3 n R z) = Finset.univ.sup fun k : Fin 4096 => v (ix3 n R k) := by
  pointwise
  rw [ofBits_bot]
  rfl

/-- A score with the scales, not masked. -/
def raw (a0 : FVec Ideal S8x4096x1024 .fp8e4m3) (a1 : FVec Ideal S8x8x128x4096 .fp8e4m3) (a3 a4 : FVec Ideal S64x1x4096 .f32)
    (b h : Fin 8) (R K : Fin 4096) : EReal :=
  (∑ d : Fin 128, a0 (ix3 b R (col h d)) * a1 (ix4 b h d K)) * (a3 (ix3 (pt b h) 0 R) * named κ "sm_scale" 0x3DB504F3#32) *
    a4 (ix3 (pt b h) 0 K)

/-- The masked score. -/
def sA (a0 : FVec Ideal S8x4096x1024 .fp8e4m3) (a1 : FVec Ideal S8x8x128x4096 .fp8e4m3) (a3 a4 : FVec Ideal S64x1x4096 .f32)
    (b h : Fin 8) (R K : Fin 4096) : EReal := if K ≤ R then raw a0 a1 a3 a4 b h R K else ⊥

/-- Softmax's numerator over scores already masked. -/
theorem soft_apply (v : FVec Ideal S64x4096x4096 .f32) (n : Fin 64) (R K : Fin 4096) :
    exp (subf v (broadcastTo S64x4096x4096 (shapeCast S64x4096x1 (multiReduction .maximumf [2] S64x4096 v 0xFF800000#32
      reduces_S64x4096x4096_S64x4096 (.inl rfl) rfl) shapeCasts_S64x4096_S64x4096x1) broadcasts_S64x4096x1_S64x4096x4096)) (ix3 n R K) =
    Ideal.exp (v (ix3 n R K) - Finset.univ.sup fun k : Fin 4096 => v (ix3 n R k)) := by
  refine congrArg Ideal.exp (congrArg (v (ix3 n R K) - ·) ?_)
  refine Eq.trans ?_ (max_apply v n R 0)
  generalize shapeCast S64x4096x1 (multiReduction .maximumf [2] S64x4096 v 0xFF800000#32
      reduces_S64x4096x4096_S64x4096 (.inl rfl) rfl) shapeCasts_S64x4096_S64x4096x1 = u
  pointwise

theorem soft_of (v : FVec Ideal S64x4096x4096 .f32) (s : Fin 4096 → EReal) (n : Fin 64) (R : Fin 4096)
    (hv : ∀ K, v (ix3 n R K) = s K) (K : Fin 4096) :
    exp (subf v (broadcastTo S64x4096x4096 (shapeCast S64x4096x1 (multiReduction .maximumf [2] S64x4096 v 0xFF800000#32
      reduces_S64x4096x4096_S64x4096 (.inl rfl) rfl) shapeCasts_S64x4096_S64x4096x1) broadcasts_S64x4096x1_S64x4096x4096)) (ix3 n R K) =
    Row.rProb s K := by
  rw [soft_apply, hv, Row.rProb]
  simp only [hv]

/-- The mask: keys up to the query's own. -/
theorem mask_apply (s : FVec Ideal S64x4096x4096 .f32) (n : Fin 64) (R K : Fin 4096) :
    select (broadcastTo S64x4096x4096 (shapeCast S1x4096x4096 (cmpi .sle (iota .tc S1x4096x4096 32 [2] iota_S1x4096x4096_d2_w32)
      (iota .tc S1x4096x4096 32 [1] iota_S1x4096x4096_d1_w32)) shapeCasts_S1x4096x4096_S1x4096x4096) broadcasts_S1x4096x4096_S64x4096x4096)
      s (broadcast S64x4096x4096 (Scalar.ofBits .f32 0xFF800000#32)) (ix3 n R K) = if K ≤ R then s (ix3 n R K) else ⊥ := by
  pointwise
  rw [WordCmp.cmpi_sle_ofNat (by have := K.isLt; omega) (by have := R.isLt; omega), ofBits_bot]
  by_cases hk : K ≤ R <;> simp [hk, Scalar.select]

theorem scale_apply (q : FVec Ideal S64x4096x128 .fp8e4m3) (k : FVec Ideal S64x128x4096 .fp8e4m3) (a3 a4 : FVec Ideal S64x1x4096 .f32)
    (n : Fin 64) (R K : Fin 4096) :
    mulf (mulf (matmul dot_S64x4096x128_S64x128x4096_S64x4096x4096_2_1_1_2_0_0 none q k (constant S64x4096x4096 .f32 0x00000000#32))
      (broadcastTo S64x4096x4096 (mulf (shapeCast S64x4096x1 a3 shapeCasts_S64x1x4096_S64x4096x1)
        (broadcast S64x4096x1 (Named.named κ "sm_scale" 0x3DB504F3#32))) broadcasts_S64x4096x1_S64x4096x4096))
      (broadcastTo S64x4096x4096 a4 broadcasts_S64x1x4096_S64x4096x4096) (ix3 n R K) =
    (∑ d : Fin 128, q (ix3 n R d) * k (ix3 n d K)) * (a3 (ix3 n 0 R) * named κ "sm_scale" 0x3DB504F3#32) * a4 (ix3 n 0 K) := by
  pointwise
  rfl

variable (a0 : FVec Ideal S8x4096x1024 .fp8e4m3) (a1 : FVec Ideal S8x8x128x4096 .fp8e4m3) (a2 : FVec Ideal S8x4096x1024 .fp8e4m3)
  (a3 a4 : FVec Ideal S64x1x4096 .f32) (a5 : FVec Ideal S64x1x128 .f32) (b h : Fin 8) (R : Fin 4096)

/-- The probabilities. -/
theorem pay3_apply (K : Fin 4096) : k0_pay3 (F := Ideal) a0 a1 a3 a4 (ix3 (pt b h) R K) = Row.rProb (fun K => sA a0 a1 a3 a4 b h R K) K := by
  refine soft_of _ _ (pt b h) R (fun K => ?_) K
  refine (mask_apply _ (pt b h) R K).trans ?_
  unfold sA raw
  refine if_congr Iff.rfl ((scale_apply _ _ a3 a4 (pt b h) R K).trans ?_) rfl
  exact congrArg (· * _) (congrArg (· * _) (Finset.sum_congr rfl fun d _ =>
    congrArg₂ (· * ·) (heads_apply b h R a0 d) (keys_apply b h K a1 d)))

/-- Their sum. -/
theorem pay4_apply (z : Fin 1) : k0_pay4 (F := Ideal) a0 a1 a3 a4 (ix3 (pt b h) R z) = ∑ K, Row.rProb (fun K => sA a0 a1 a3 a4 b h R K) K :=
  (sum_apply _ (pt b h) R z).trans (Finset.sum_congr rfl fun K _ => pay3_apply a0 a1 a3 a4 b h R K)

/-- Their greatest magnitude. -/
theorem pay5_apply (z : Fin 1) : k0_pay5 (F := Ideal) a0 a1 a3 a4 (ix3 (pt b h) R z) = Finset.univ.sup fun K =>
    max (Row.rProb (fun K => sA a0 a1 a3 a4 b h R K) K) (-Row.rProb (fun K => sA a0 a1 a3 a4 b h R K) K) := by
  refine (max_apply _ (pt b h) R z).trans ?_
  have e : ∀ K : Fin 4096, absf (k0_pay3 (F := Ideal) a0 a1 a3 a4) (ix3 (pt b h) R K) =
    max (k0_pay3 (F := Ideal) a0 a1 a3 a4 (ix3 (pt b h) R K)) (-k0_pay3 (F := Ideal) a0 a1 a3 a4 (ix3 (pt b h) R K)) := fun K => rfl
  simp only [e, pay3_apply]

/-- The quantiser's exponent. -/
theorem expo_apply (x : FVec Ideal S64x4096x1 .f32) (c : Ideal .f32) (n : Fin 64) (R : Fin 4096) (z : Fin 1) :
    select (cmpf .oeq x (broadcast S64x4096x1 (Scalar.ofBits .f32 0x00000000#32))) (broadcast S64x4096x1 (Scalar.ofBits .f32 0x00000000#32))
      (addf (floor (divf (log (mulf x (broadcast S64x4096x1 c))) (broadcast S64x4096x1 (Named.named κ "ln2" 0x3F317218#32))))
        (broadcast S64x4096x1 (Scalar.ofBits .f32 0x3F800000#32))) (ix3 n R z) = Row.expo c (x (ix3 n R z)) := by
  pointwise [Row.expo]
  have hn : Named.named (F := Ideal) κ "ln2" (φ := .f32) 0x3F317218#32 = ((Real.log 2 : ℝ) : EReal) :=
    IdealRules.named_const.ideal_named_scalar _ _ _ _ rfl
  exact congrArg (fun l : EReal => if x (ix3 n R z) = 0 then (0 : EReal) else
    Ideal.liftRound Int.floor (Ideal.div (Ideal.log (x (ix3 n R z) * c)) l) + 1) hn

/-- The quantised probabilities against the values. -/
theorem quant_apply (v : FVec Ideal S64x4096x128 .fp8e4m3) (p : FVec Ideal S64x4096x4096 .f32) (e : FVec Ideal S64x4096x1 .f32)
    (n : Fin 64) (R : Fin 4096) (d : Fin 128) :
    matmul dot_S64x4096x4096_S64x4096x128_S64x4096x128_2_1_1_2_0_0 none (truncf .fp8e4m3
      (minimumf (broadcast S64x4096x4096 (Scalar.ofBits .f32 0x43E00000#32)) (maximumf (broadcast S64x4096x4096 (Scalar.ofBits .f32 0xC3E00000#32))
        (mulf p (broadcastTo S64x4096x4096 (exp2 (subf (broadcast S64x4096x1 (Scalar.ofBits .f32 0x00000000#32)) e))
          broadcasts_S64x4096x1_S64x4096x4096)))) bitsLt_fp8e4m3_f32) v (constant S64x4096x128 .f32 0x00000000#32) (ix3 n R d) =
    ∑ k : Fin 4096, Row.clip (p (ix3 n R k) * Ideal.exp2 (0 - e (ix3 n R 0))) * v (ix3 n k d) := by
  pointwise [Row.clip]
  rw [ofBits_448, ofBits_neg_448]
  rfl

/-- The scales put back and the row divided by its sum. -/
theorem norm_apply (x : FVec Ideal S64x4096x128 .f32) (e s : FVec Ideal S64x4096x1 .f32) (w : FVec Ideal S64x1x128 .f32)
    (n : Fin 64) (R : Fin 4096) (d : Fin 128) :
    truncf .bf16 (divf (mulf (mulf x (broadcastTo S64x4096x128 (exp2 e) broadcasts_S64x4096x1_S64x4096x128))
      (broadcastTo S64x4096x128 w broadcasts_S64x1x128_S64x4096x128)) (broadcastTo S64x4096x128 s broadcasts_S64x4096x1_S64x4096x128))
      bitsLt_bf16_f32 (ix3 n R d) =
    Ideal.div (x (ix3 n R d) * Ideal.exp2 (e (ix3 n R 0)) * w (ix3 n 0 d)) (s (ix3 n R 0)) := by
  pointwise
  rfl

/-- An element of the reference's output. -/
def outR (d : Fin 128) : EReal :=
  Row.rOut (((9586981 : ℝ) * (2 : ℝ) ^ (-32 : ℤ) : ℝ) : EReal) (fun K => sA a0 a1 a3 a4 b h R K) (fun K => a2 (ix3 b K (col h d)))
    (a5 (ix3 (pt b h) 0 d))

theorem pay1_apply (d : Fin 128) : k0_pay1 (F := Ideal) (k0_pay2 a2) (k0_pay3 a0 a1 a3 a4) (k0_pay4 a0 a1 a3 a4) (k0_pay5 a0 a1 a3 a4)
    (Scalar.ofBits .f32 0x3B124925#32) a5 (ix3 b R (col h d)) = outR a0 a1 a2 a3 a4 a5 b h R d := by
  refine (unheads_apply b h R _ d).trans ?_
  refine (norm_apply _ _ _ _ (pt b h) R d).trans ?_
  have he : ∀ z : Fin 1, _ = Row.rExpo (((9586981 : ℝ) * (2 : ℝ) ^ (-32 : ℤ) : ℝ) : EReal) (fun K => sA a0 a1 a3 a4 b h R K) := fun z =>
    (expo_apply (k0_pay5 (F := Ideal) a0 a1 a3 a4) (Scalar.ofBits .f32 0x3B124925#32) (pt b h) R z).trans (by
      rw [pay5_apply]; exact congrArg (Row.expo · _) ofBits_inv_448)
  rw [pay4_apply, he]
  unfold outR Row.rOut
  refine congrArg (Ideal.div · _) (congrArg (· * _) (congrArg (· * _) ?_))
  refine (quant_apply _ _ _ (pt b h) R d).trans (Finset.sum_congr rfl fun K _ => ?_)
  rw [he, pay3_apply]
  exact congrArg (_ * ·) (heads_apply b h K a2 d)

end Cert.ReferenceIdeal.Ref
-- ==== Proof.Claims.lean ====
/- The claims: the kernel's output array and the reference's are one function of the arguments, over the extended reals,
   where every query scale is a number not below 2 ^ -120. -/
module

public import proofs.«01_k».proof.Defs
public import proofs.«01_k».proof.Proof.KernelValue
public import proofs.«01_k».proof.Proof.RefValue
public import proofs.«01_k».proof.Proof.Gen.Kernel.Frame
public import proofs.«01_k».proof.Proof.Gen.ReferenceIdeal.Frame

@[expose] public section

set_option maxRecDepth 16384

noncomputable section

/-! ## The precondition -/

namespace Cert.Pre_query_scales_in_range

open Idealize.ShloMosaic Idealize.ShloMosaic.Pointwise

/-- The precondition's stated shape fact. -/
instance facts : Facts where
  bcast_S_S64x1x4096 := by decide

/-- What the precondition says of a query scale. -/
theorem scale_of (a0 : FVec Ideal S8x4096x1024 .fp8e4m3) (a1 : FVec Ideal S8x8x128x4096 .fp8e4m3) (a2 : FVec Ideal S8x4096x1024 .fp8e4m3)
    (a3 a4 : FVec Ideal S64x1x4096 .f32) (a5 : FVec Ideal S64x1x128 .f32) (i : S64x1x4096.Idx)
    (h : fn (F := Ideal) a0 a1 a2 a3 a4 a5 i = 1#1) : ∃ q : ℝ, a3 i = (q : EReal) ∧ (2 : ℝ) ^ (-120 : ℤ) ≤ q := by
  idx_vars i
  pointwise [fn] at h
  have key : ∀ p r : Prop, ∀ [Decidable p] [Decidable r],
      IntOp.andi (BitVec.ofBool (decide p)) (BitVec.ofBool (decide r)) = 1#1 → p ∧ r := by
    intro p r _ _ hpr
    by_cases hp : p <;> by_cases hr : r <;> simp_all [IntOp.andi]
  obtain ⟨hlo, hhi⟩ := key _ _ h
  rw [Cert.KernelIdeal.Model.ofBits_tiny] at hlo
  rw [Cert.KernelIdeal.Model.ofBits_top] at hhi
  generalize a3 (ix3 i0 i1 i2) = x at hlo hhi ⊢
  induction x using EReal.rec with
  | bot => exact absurd hlo (not_le.mpr (EReal.bot_lt_coe _))
  | top => exact absurd hhi (lt_irrefl _)
  | coe q => exact ⟨q, rfl, EReal.coe_le_coe_iff.mp hlo⟩

end Cert.Pre_query_scales_in_range

/-! ## An element -/

namespace Cert.Proof.Claims

open Idealize.ShloMosaic Idealize.ShloMosaic.TcCoe Idealize.SL.Sem
open Cert.Row (col pt)

theorem sm_scale : named Cert.ReferenceIdeal.κ "sm_scale" 0x3DB504F3#32 = (((Real.sqrt 128)⁻¹ : ℝ) : EReal) :=
  IdealRules.named_const.ideal_named_scalar _ _ _ _ rfl

theorem sm_scale_log2e : named Cert.KernelIdeal.κ "sm_scale_log2e" 0x3E0293EE#32 =
    (((Real.sqrt 128)⁻¹ * (Real.log 2)⁻¹ : ℝ) : EReal) := IdealRules.named_const.ideal_named_scalar _ _ _ _ rfl

/-- A score of the reference is the kernel's, times the query's scale and `ln 2`. -/
theorem score_eq (x y : EReal) (q : ℝ) :
    x * ((q : EReal) * (((Real.sqrt 128)⁻¹ : ℝ) : EReal)) * y =
      x * (y * (((Real.sqrt 128)⁻¹ * (Real.log 2)⁻¹ : ℝ) : EReal)) * ((q * Real.log 2 : ℝ) : EReal) := by
  have hl : Real.log 2 ≠ 0 := (Real.log_pos (by norm_num)).ne'
  rw [mul_assoc x, mul_assoc x, ← EReal.coe_mul, mul_comm _ y, mul_assoc y, ← EReal.coe_mul]
  congr 3
  field_simp

/-- The two outputs are one, element by element. -/
theorem out_eq (a0 : FVec Ideal Cert.KernelIdeal.S8x4096x1024 .fp8e4m3) (a1 : FVec Ideal Cert.KernelIdeal.S8x8x128x4096 .fp8e4m3)
    (a2 : FVec Ideal Cert.KernelIdeal.S8x4096x1024 .fp8e4m3) (a3 a4 : FVec Ideal Cert.KernelIdeal.S64x1x4096 .f32)
    (a5 : FVec Ideal Cert.KernelIdeal.S64x1x128 .f32) (b h : Fin 8) (R : Fin 4096) (d : Fin 128)
    (hq : ∃ q : ℝ, a3 (ix3 (pt b h) 0 R) = (q : EReal) ∧ (2 : ℝ) ^ (-120 : ℤ) ≤ q) :
    Cert.ReferenceIdeal.Ref.outR a0 a1 a2 a3 a4 a5 b h R d = Cert.KernelIdeal.Model.outA a0 a1 a2 a3 a4 a5 b h R d := by
  obtain ⟨q, hq, hle⟩ := hq
  have hq0 : 0 < q := lt_of_lt_of_le (by positivity) hle
  have hr : 0 < q * Real.log 2 := mul_pos hq0 (Real.log_pos (by norm_num))
  unfold Cert.ReferenceIdeal.Ref.outR Cert.KernelIdeal.Model.outA
  rw [hq, max_eq_left (by exact_mod_cast hle)]
  refine Cert.Row.rOut_eq_kOut _ (by norm_num) (by norm_num) _ _ _ q _ hq0 fun K => ?_
  unfold Cert.ReferenceIdeal.Ref.sA Cert.KernelIdeal.Model.tA
  split_ifs
  · unfold Cert.ReferenceIdeal.Ref.raw Cert.KernelIdeal.Model.scA
    rw [sm_scale, sm_scale_log2e, hq]
    exact score_eq _ _ q
  · exact (EReal.bot_mul_coe_of_pos hr).symm

/-- The two output arrays are one. -/
theorem arr_eq (m : (ℓ : Loc Cert.KernelIdeal.nD Cert.KernelIdeal.τ Cert.KernelIdeal.sig) → Buf (Elt Ideal) ℓ)
    (hpre : Cert.Pre_KernelIdeal_query_scales_in_range m) (c : Dev Cert.KernelIdeal.nD) :
    Cert.ReferenceIdeal.Value.G6 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) =
    (Cert.KernelIdeal.Gen.dats m 0 c).arrAt 6 Cert.KernelIdeal.cfg0.N := by
  refine funext fun j => ?_
  obtain ⟨b, R, e, rfl⟩ : ∃ (b : Fin 8) (R : Fin 4096) (e : Fin 1024), j = ix3 b R e := ⟨j 0, j 1, j 2, eq_ix3 j⟩
  obtain ⟨h, d, rfl⟩ : ∃ (h : Fin 8) (d : Fin 128), e = col h d :=
    ⟨⟨e / 128, by have := e.isLt; omega⟩, ⟨e % 128, by omega⟩, Fin.ext (by show (e : ℕ) = 128 * (e / 128) + e % 128; omega)⟩
  refine (Cert.ReferenceIdeal.Ref.pay1_apply _ _ _ _ _ _ b h R d).trans ?_
  refine (out_eq _ _ _ _ _ _ b h R d ?_).trans (Cert.KernelIdeal.Model.arr_apply m c b h R d).symm
  exact Cert.Pre_query_scales_in_range.scale_of _ _ _ _ _ _ _ (congrFun (hpre c) (ix3 (pt b h) 0 R))

/-! ## The claims -/

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_query_scales_in_range := fun m ρ _ => Cert.KernelIdeal.Gen.frame m ρ

theorem frame_ri : Cert.quiescent_ReferenceIdeal := fun m ρ _ => Cert.ReferenceIdeal.Gen.frame m ρ

theorem frame_ri_pre : Cert.quiescent_ReferenceIdeal_pre_query_scales_in_range := fun m ρ _ => Cert.ReferenceIdeal.Gen.frame m ρ

theorem preserves : Cert.preserves_Kernel_KernelIdeal :=
  IdealRules.named_const.statement Cert.KernelIdeal.κ "sm_scale_log2e" .f32 0x3E0293EE#32
    (((Real.sqrt 128)⁻¹ * (Real.log 2)⁻¹ : ℝ) : EReal) rfl

theorem algebraic : Cert.algebraic_KernelIdeal_ReferenceIdeal_pre_query_scales_in_range := by
  intro m ρ m' ρ' hpre hag
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hag c).1, (hag c).2.1, (hag c).2.2.1, (hag c).2.2.2.1, (hag c).2.2.2.2.1, (hag c).2.2.2.2.2]
  exact arr_eq m hpre c

end Cert.Proof.Claims
-- ==== Proof.Expo.lean ====
/- The exponent of a float by comparisons with powers of two, as the quantising kernels find it, and the powers of two
   that they build from it: over the extended reals these are the quantiser's `2 ^ e` and `2 ^ (-e)`. -/
module

public import proofs.«01_k».proof.Proof.Row
public import Idealize.ShloMosaic.Lib.Pointwise
public import Idealize.ShloMosaic.Lib.Pointwise.IndexVar

@[expose] public section

noncomputable section

namespace Cert.Expo

open Idealize.ShloMosaic

/-! ## The kernels' operations, on vectors of any shape -/

section Vectors
variable {F : FTy → Type} [FloatOps F] {s : Shape}

/-- One comparison with `t`: where it is reached, the value is taken times `p`. -/
def stepC (t p : BitVec 32) (c : FVec F s .f32) : FVec F s .f32 :=
  select (cmpf .oge c (broadcast s (Scalar.ofBits .f32 t))) (mulf c (broadcast s (Scalar.ofBits .f32 p))) c

/-- And the exponent goes up by `n`. -/
def stepE (t n : BitVec 32) (c : FVec F s .f32) (e : IVec s 32) : IVec s 32 :=
  select (cmpf .oge c (broadcast s (Scalar.ofBits .f32 t))) (addi e (broadcast s n)) e

def c0 (c : FVec F s .f32) : FVec F s .f32 :=
  select (cmpf .olt c (broadcast s (Scalar.ofBits .f32 0x3F800000#32))) (mulf c (broadcast s (Scalar.ofBits .f32 0x7E800000#32))) c
def e0 (c : FVec F s .f32) : IVec s 32 :=
  select (cmpf .olt c (broadcast s (Scalar.ofBits .f32 0x3F800000#32))) (broadcast s 4294967170#32) (broadcast s 0#32)
def c1 (c : FVec F s .f32) : FVec F s .f32 := stepC 0x5F800000#32 0x1F800000#32 (c0 c)
def e1 (c : FVec F s .f32) : IVec s 32 := stepE 0x5F800000#32 64#32 (c0 c) (e0 c)
def c2 (c : FVec F s .f32) : FVec F s .f32 := stepC 0x4F800000#32 0x2F800000#32 (c1 c)
def e2 (c : FVec F s .f32) : IVec s 32 := stepE 0x4F800000#32 32#32 (c1 c) (e1 c)
def c3 (c : FVec F s .f32) : FVec F s .f32 := stepC 0x47800000#32 0x37800000#32 (c2 c)
def e3 (c : FVec F s .f32) : IVec s 32 := stepE 0x47800000#32 16#32 (c2 c) (e2 c)
def c4 (c : FVec F s .f32) : FVec F s .f32 := stepC 0x43800000#32 0x3B800000#32 (c3 c)
def e4 (c : FVec F s .f32) : IVec s 32 := stepE 0x43800000#32 8#32 (c3 c) (e3 c)
def c5 (c : FVec F s .f32) : FVec F s .f32 := stepC 0x41800000#32 0x3D800000#32 (c4 c)
def e5 (c : FVec F s .f32) : IVec s 32 := stepE 0x41800000#32 4#32 (c4 c) (e4 c)
def c6 (c : FVec F s .f32) : FVec F s .f32 := stepC 0x40800000#32 0x3E800000#32 (c5 c)
def e6 (c : FVec F s .f32) : IVec s 32 := stepE 0x40800000#32 2#32 (c5 c) (e5 c)
def e7 (c : FVec F s .f32) : IVec s 32 := stepE 0x40000000#32 1#32 (c6 c) (e6 c)

/-- The quantiser's exponent: zero below the least normal number. -/
def expo (c : FVec F s .f32) : IVec s 32 :=
  select (cmpf .olt c (broadcast s (Scalar.ofBits .f32 0x00800000#32))) (broadcast s 0#32) (addi (e7 c) (broadcast s 1#32))

/-- `2 ^ e` from the exponent's bits. -/
def scale (c : FVec F s .f32) : FVec F s .f32 :=
  bitcastToFloat .f32 (shli (addi (expo c) (broadcast s 127#32)) (broadcast s 23#32))

/-- `2 ^ (-e)` likewise. -/
def inv (c : FVec F s .f32) : FVec F s .f32 :=
  bitcastToFloat .f32 (shli (subi (broadcast s 127#32) (expo c)) (broadcast s 23#32))

end Vectors

/-! ## Over the extended reals -/

private theorem bits_of_fin : ∀ k : Fin 256, ((BitVec.ofNat 32 k.val) <<< 23).extractLsb' 31 1 = 0#1 ∧
    (((BitVec.ofNat 32 k.val) <<< 23).extractLsb' 23 8).toNat = k.val ∧ (((BitVec.ofNat 32 k.val) <<< 23).extractLsb' 0 23).toNat = 0 := by
  decide +kernel

theorem bits_of (k : ℕ) (h : k < 256) : ((BitVec.ofNat 32 k) <<< 23).extractLsb' 31 1 = 0#1 ∧
    (((BitVec.ofNat 32 k) <<< 23).extractLsb' 23 8).toNat = k ∧ (((BitVec.ofNat 32 k) <<< 23).extractLsb' 0 23).toNat = 0 :=
  bits_of_fin ⟨k, h⟩

/-- A biased exponent with no fraction is a power of two. -/
theorem ofBits_shl (k : ℕ) (h1 : 1 ≤ k) (h2 : k ≤ 254) :
    Ideal.ofBits .f32 ((BitVec.ofNat 32 k) <<< 23) = (((2 : ℝ) ^ ((k : ℤ) - 127) : ℝ) : EReal) := by
  obtain ⟨ha, hb, hc⟩ := bits_of k (by omega)
  generalize (BitVec.ofNat 32 k) <<< 23 = b at *
  show Ideal.ieee 8 23 _ = _
  unfold Ideal.ieee
  simp only [show (8 : ℕ) + 23 = 31 from rfl, ha, hb, hc]
  rw [if_neg (by norm_num; omega), if_neg (by omega)]
  congr 1
  have : ((k : ℤ) - 127) = 23 + ((k : ℤ) - (2 ^ (8 - 1) - 1) - (23 : ℕ)) := by norm_num
  rw [this, zpow_add₀ (by norm_num)]
  norm_num

theorem ofBits_pow (b : BitVec 32) (k : ℕ) (n : ℤ) (h : b = (BitVec.ofNat 32 k) <<< 23) (h1 : 1 ≤ k) (h2 : k ≤ 254) (hn : n = (k : ℤ) - 127) :
    Ideal.ofBits .f32 b = (((2 : ℝ) ^ n : ℝ) : EReal) := by
  subst h hn; exact ofBits_shl k h1 h2

variable {s : Shape}

/-- What is known before a comparison: the value `y` is in `[1, 2 ^ (2 k))`, and `x` is `y` times `2 ^ j`. -/
structure At (x : ℝ) (w : EReal) (e : BitVec 32) (hi : ℤ) : Prop where
  out : ∃ (y : ℝ) (j : ℤ), w = (y : EReal) ∧ e = BitVec.ofInt 32 j ∧ 1 ≤ y ∧ y < (2 : ℝ) ^ hi ∧ x = y * (2 : ℝ) ^ j

theorem step (x : ℝ) (c : FVec Ideal s .f32) (e : IVec s 32) (i : s.Idx) (t p n : BitVec 32) (k : ℕ) (hi hi' : ℤ) (hk : hi = hi' + k)
    (hle : k ≤ hi') (hn : n = BitVec.ofInt 32 k) (ht : Ideal.ofBits .f32 t = (((2 : ℝ) ^ (k : ℤ) : ℝ) : EReal))
    (hp : Ideal.ofBits .f32 p = (((2 : ℝ) ^ (-(k : ℤ)) : ℝ) : EReal)) (h : At x (c i) (e i) hi) :
    At x (stepC t p c i) (stepE t n c e i) hi' := by
  obtain ⟨y, j, hw, he, h1, h2, hx⟩ := h.out
  have hc : ∀ a b : EReal, FloatOps.cmpf (F := Ideal) (φ := .f32) .oge a b = BitVec.ofBool (decide (b ≤ a)) := fun _ _ => rfl
  have h1t : Scalar.ofBits (F := Ideal) .f32 t = (((2 : ℝ) ^ (k : ℤ) : ℝ) : EReal) := ht
  have h1p : Scalar.ofBits (F := Ideal) .f32 p = (((2 : ℝ) ^ (-(k : ℤ)) : ℝ) : EReal) := hp
  have hpos : (0 : ℝ) < (2 : ℝ) ^ (k : ℤ) := by positivity
  simp only [stepC, stepE, select, cmpf, broadcast, mulf, addi, hc, h1t, h1p, hw, he, EReal.coe_le_coe_iff]
  by_cases hy : (2 : ℝ) ^ (k : ℤ) ≤ y
  · refine ⟨y * (2 : ℝ) ^ (-(k : ℤ)), j + k, ?_, ?_, ?_, ?_, ?_⟩
    · simp only [hy, decide_true]
      show Scalar.select 1#1 _ _ = _
      exact (EReal.coe_mul _ _).symm
    · simp only [hy, decide_true]
      show IntOp.addi (BitVec.ofInt 32 j) n = _
      rw [hn, BitVec.ofInt_add]; rfl
    · rw [zpow_neg, ← div_eq_mul_inv, le_div_iff₀ hpos, one_mul]; exact hy
    · rw [zpow_neg, ← div_eq_mul_inv, div_lt_iff₀ hpos, ← zpow_add₀ (by norm_num), ← hk]; exact h2
    · rw [hx, zpow_add₀ (by norm_num), zpow_neg]; field_simp
  · refine ⟨y, j, ?_, ?_, h1, ?_, hx⟩
    · simp only [hy, decide_false]; rfl
    · simp only [hy, decide_false]; rfl
    · exact lt_of_lt_of_le (not_le.1 hy) (zpow_le_zpow_right₀ (by norm_num) (by exact_mod_cast hle))

theorem first (x : ℝ) (c : FVec Ideal s .f32) (i : s.Idx) (hx : c i = (x : EReal)) (hlo : (2 : ℝ) ^ (-126 : ℤ) ≤ x)
    (hhi : x < (2 : ℝ) ^ (128 : ℤ)) : At x (c0 c i) (e0 c i) 128 := by
  have hc : ∀ a b : EReal, FloatOps.cmpf (F := Ideal) (φ := .f32) .olt a b = BitVec.ofBool (decide (a < b)) := fun _ _ => rfl
  have h1t : Scalar.ofBits (F := Ideal) .f32 0x3F800000#32 = ((1 : ℝ) : EReal) := by
    refine (ofBits_pow _ 127 0 (by decide) (by norm_num) (by norm_num) (by norm_num)).trans ?_
    norm_num
  have h1p : Scalar.ofBits (F := Ideal) .f32 0x7E800000#32 = (((2 : ℝ) ^ (126 : ℤ) : ℝ) : EReal) :=
    ofBits_pow _ 253 126 (by decide) (by norm_num) (by norm_num) (by norm_num)
  simp only [c0, e0, select, cmpf, broadcast, mulf, hc, h1t, h1p, hx, EReal.coe_lt_coe_iff]
  by_cases hy : x < 1
  · refine ⟨x * (2 : ℝ) ^ (126 : ℤ), -126, ?_, ?_, ?_, ?_, ?_⟩
    · simp only [hy, decide_true]
      exact (EReal.coe_mul _ _).symm
    · simp only [hy, decide_true]; rfl
    · calc (1 : ℝ) = (2 : ℝ) ^ (-126 : ℤ) * (2 : ℝ) ^ (126 : ℤ) := by norm_num
        _ ≤ _ := by gcongr
    · calc x * (2 : ℝ) ^ (126 : ℤ) < 1 * (2 : ℝ) ^ (126 : ℤ) := by gcongr
        _ ≤ _ := by norm_num
    · rw [mul_assoc, ← zpow_add₀ (by norm_num)]; norm_num
  · refine ⟨x, 0, ?_, ?_, not_lt.1 hy, hhi, by simp⟩
    · simp only [hy, decide_false]; rfl
    · simp only [hy, decide_false]; rfl

/-- The search finds the exponent: `2 ^ j ≤ x < 2 ^ (j + 1)`. -/
theorem search (x : ℝ) (c : FVec Ideal s .f32) (i : s.Idx) (hx : c i = (x : EReal)) (hlo : (2 : ℝ) ^ (-126 : ℤ) ≤ x)
    (hhi : x < (2 : ℝ) ^ (128 : ℤ)) : ∃ j : ℤ, e7 c i = BitVec.ofInt 32 j ∧ (2 : ℝ) ^ j ≤ x ∧ x < (2 : ℝ) ^ (j + 1) := by
  have a0 := first x c i hx hlo hhi
  have a1 : At x (c1 c i) (e1 c i) 64 := step x (c0 c) (e0 c) i _ _ _ 64 128 64 (by norm_num) (by norm_num) (by decide)
    (ofBits_pow _ 191 _ (by decide) (by norm_num) (by norm_num) (by norm_num)) (ofBits_pow _ 63 _ (by decide) (by norm_num) (by norm_num) (by norm_num)) a0
  have a2 : At x (c2 c i) (e2 c i) 32 := step x (c1 c) (e1 c) i _ _ _ 32 64 32 (by norm_num) (by norm_num) (by decide)
    (ofBits_pow _ 159 _ (by decide) (by norm_num) (by norm_num) (by norm_num)) (ofBits_pow _ 95 _ (by decide) (by norm_num) (by norm_num) (by norm_num)) a1
  have a3 : At x (c3 c i) (e3 c i) 16 := step x (c2 c) (e2 c) i _ _ _ 16 32 16 (by norm_num) (by norm_num) (by decide)
    (ofBits_pow _ 143 _ (by decide) (by norm_num) (by norm_num) (by norm_num)) (ofBits_pow _ 111 _ (by decide) (by norm_num) (by norm_num) (by norm_num)) a2
  have a4 : At x (c4 c i) (e4 c i) 8 := step x (c3 c) (e3 c) i _ _ _ 8 16 8 (by norm_num) (by norm_num) (by decide)
    (ofBits_pow _ 135 _ (by decide) (by norm_num) (by norm_num) (by norm_num)) (ofBits_pow _ 119 _ (by decide) (by norm_num) (by norm_num) (by norm_num)) a3
  have a5 : At x (c5 c i) (e5 c i) 4 := step x (c4 c) (e4 c) i _ _ _ 4 8 4 (by norm_num) (by norm_num) (by decide)
    (ofBits_pow _ 131 _ (by decide) (by norm_num) (by norm_num) (by norm_num)) (ofBits_pow _ 123 _ (by decide) (by norm_num) (by norm_num) (by norm_num)) a4
  have a6 : At x (c6 c i) (e6 c i) 2 := step x (c5 c) (e5 c) i _ _ _ 2 4 2 (by norm_num) (by norm_num) (by decide)
    (ofBits_pow _ 129 _ (by decide) (by norm_num) (by norm_num) (by norm_num)) (ofBits_pow _ 125 _ (by decide) (by norm_num) (by norm_num) (by norm_num)) a5
  have a7 : At x (stepC 0x40000000#32 0x3F000000#32 (c6 c) i) (e7 c i) 1 := step x (c6 c) (e6 c) i _ _ _ 1 2 1 (by norm_num) (by norm_num) (by decide)
    (ofBits_pow _ 128 _ (by decide) (by norm_num) (by norm_num) (by norm_num)) (ofBits_pow _ 126 _ (by decide) (by norm_num) (by norm_num) (by norm_num)) a6
  obtain ⟨y, j, hw, he, h1, h2, hx'⟩ := a7.out
  refine ⟨j, he, ?_, ?_⟩
  · rw [hx']; exact le_mul_of_one_le_left (by positivity) h1
  · rw [hx', zpow_add₀ (by norm_num), mul_comm]
    exact mul_lt_mul_of_pos_left (by simpa using h2) (by positivity)

/-- The quantiser's exponent of a real maximum, as an integer. -/
theorem row_expo (a k : ℝ) (ha : 0 < a) (hk : 0 < k) (j : ℤ) (h1 : (2 : ℝ) ^ j ≤ a * k) (h2 : a * k < (2 : ℝ) ^ (j + 1)) :
    Row.expo (k : EReal) (a : EReal) = (((j + 1 : ℤ) : ℝ) : EReal) := by
  have hx : 0 < a * k := mul_pos ha hk
  have hl : 0 < Real.log 2 := Real.log_pos (by norm_num)
  have e1 : Ideal.log ((a * k : ℝ) : EReal) = ((Real.log (a * k) : ℝ) : EReal) := if_neg (not_le.2 hx)
  have e2 : Ideal.div ((Real.log (a * k) : ℝ) : EReal) ((Real.log 2 : ℝ) : EReal) = ((Real.log (a * k) / Real.log 2 : ℝ) : EReal) := by
    unfold Ideal.div
    rw [if_neg (by exact_mod_cast hl.ne'), ← EReal.coe_inv, ← EReal.coe_mul, div_eq_mul_inv]
  have e3 : ⌊Real.log (a * k) / Real.log 2⌋ = j := by
    rw [Int.floor_eq_iff, le_div_iff₀ hl, div_lt_iff₀ hl]
    constructor
    · have := Real.log_le_log (by positivity) h1
      rwa [Real.log_zpow] at this
    · have := Real.log_lt_log hx h2
      rw [Real.log_zpow] at this
      exact_mod_cast this
  rw [Row.expo, if_neg (by exact_mod_cast ha.ne'), ← EReal.coe_mul, e1, e2]
  show (((⌊Real.log (a * k) / Real.log 2⌋ : ℤ) : ℝ) : EReal) + 1 = _
  rw [e3]; push_cast; rfl

theorem exp2_int (j : ℤ) : Ideal.exp2 (((j : ℤ) : ℝ) : EReal) = (((2 : ℝ) ^ j : ℝ) : EReal) := by
  rw [Row.exp2_coe, Real.rpow_intCast]

theorem shl_of (b : BitVec 32) (n : ℤ) (k : ℕ) (hb : b = BitVec.ofInt 32 n) (hn : n = k) (h1 : 1 ≤ k) (h2 : k ≤ 254) :
    FloatOps.ofBits (F := Ideal) .f32 (IntOp.shli .vector b 23#32) = (((2 : ℝ) ^ (n - 127) : ℝ) : EReal) := by
  subst hn hb
  have : BitVec.ofInt 32 (k : ℤ) = BitVec.ofNat 32 k := BitVec.ofInt_natCast 32 k
  rw [this]
  exact ofBits_shl k h1 h2

/-- The exponent's bits, for a maximum that is zero or gives a normal number. -/
theorem expo_bits (a k : ℝ) (ha : 0 ≤ a) (hk : 0 < k) (c : FVec Ideal s .f32) (i : s.Idx) (hc : c i = ((a * k : ℝ) : EReal))
    (hlo : a = 0 ∨ (2 : ℝ) ^ (-126 : ℤ) ≤ a * k) (hhi : a * k < (2 : ℝ) ^ (125 : ℤ)) :
    ∃ E : ℤ, expo c i = BitVec.ofInt 32 E ∧ Row.expo (k : EReal) (a : EReal) = ((E : ℝ) : EReal) ∧ -125 ≤ E ∧ E ≤ 125 ∧
      (a ≠ 0 → a * k < (2 : ℝ) ^ E) := by
  have hcm : ∀ a b : EReal, FloatOps.cmpf (F := Ideal) (φ := .f32) .olt a b = BitVec.ofBool (decide (a < b)) := fun _ _ => rfl
  have ht : Scalar.ofBits (F := Ideal) .f32 0x00800000#32 = (((2 : ℝ) ^ (-126 : ℤ) : ℝ) : EReal) :=
    ofBits_pow _ 1 (-126) (by decide) (by norm_num) (by norm_num) (by norm_num)
  rcases hlo with h0 | hlo
  · refine ⟨0, ?_, ?_, by norm_num, by norm_num, fun h => absurd h0 h⟩
    · have hlt : a * k < (2 : ℝ) ^ (-126 : ℤ) := by rw [h0, zero_mul]; positivity
      simp only [expo, select, cmpf, broadcast, hcm, ht, hc, EReal.coe_lt_coe_iff, hlt, decide_true]
      rfl
    · rw [Row.expo, h0, if_pos EReal.coe_zero]; simp
  · obtain ⟨j, hj, h1, h2⟩ := search (a * k) c i hc hlo (hhi.trans (by norm_num))
    have hpos : 0 < a := by
      rcases ha.eq_or_lt with h | h
      · rw [← h, zero_mul] at hlo; exact absurd hlo (not_le.2 (by positivity))
      · exact h
    have hj1 : -126 ≤ j := by
      by_contra hn
      exact absurd (lt_of_lt_of_le h2 (zpow_le_zpow_right₀ (by norm_num) (by omega : j + 1 ≤ -126))) (not_lt.2 hlo)
    have hj2 : j ≤ 124 := by
      by_contra hn
      exact absurd ((zpow_le_zpow_right₀ (by norm_num) (by omega : (125 : ℤ) ≤ j)).trans h1) (not_le.2 hhi)
    refine ⟨j + 1, ?_, row_expo a k hpos hk j h1 h2, by omega, by omega, fun _ => h2⟩
    simp only [expo, select, cmpf, broadcast, addi, hcm, ht, hc, EReal.coe_lt_coe_iff, not_lt.2 hlo, decide_false, hj]
    show IntOp.addi (BitVec.ofInt 32 j) 1#32 = _
    rw [BitVec.ofInt_add]; rfl

/-- The two powers of two are the quantiser's. -/
theorem scale_inv (a k : ℝ) (ha : 0 ≤ a) (hk : 0 < k) (c : FVec Ideal s .f32) (i : s.Idx) (hc : c i = ((a * k : ℝ) : EReal))
    (hlo : a = 0 ∨ (2 : ℝ) ^ (-126 : ℤ) ≤ a * k) (hhi : a * k < (2 : ℝ) ^ (125 : ℤ)) :
    scale c i = Ideal.exp2 (Row.expo (k : EReal) (a : EReal)) ∧ inv c i = Ideal.exp2 (0 - Row.expo (k : EReal) (a : EReal)) := by
  obtain ⟨E, hE, hR, h1, h2, -⟩ := expo_bits a k ha hk c i hc hlo hhi
  rw [hR, ← EReal.coe_zero, ← EReal.coe_sub, exp2_int, show ((0 : ℝ) - (E : ℝ)) = ((-E : ℤ) : ℝ) by push_cast; ring, exp2_int]
  constructor
  · refine (shl_of (IntOp.addi (expo c i) 127#32) (E + 127) (E + 127).toNat ?_ (by omega) (by omega) (by omega)).trans ?_
    · rw [hE, BitVec.ofInt_add]; rfl
    · congr 2; ring
  · refine (shl_of (IntOp.subi 127#32 (expo c i)) (127 + -E) (127 + -E).toNat ?_ (by omega) (by omega) (by omega)).trans ?_
    · rw [hE, BitVec.ofInt_add, BitVec.ofInt_neg, ← BitVec.sub_eq_add_neg]; rfl
    · congr 2; ring

/-- `1 / 448` as the float that the programs use. -/
abbrev kq : ℝ := (9586981 : ℝ) * (2 : ℝ) ^ (-32 : ℤ)

/-- The greatest magnitude. -/
def amax {ι : Type} [Fintype ι] (a : ι → EReal) : EReal := Finset.univ.sup fun k => max (a k) (-a k)

theorem fold_max {ι : Type} [Fintype ι] (a : ι → EReal) : Finset.fold max ⊥ (fun k => max (a k) (-a k)) Finset.univ = amax a := rfl

theorem amax_nonneg {ι : Type} [Fintype ι] [Nonempty ι] (a : ι → EReal) : 0 ≤ amax a := by
  obtain ⟨k⟩ := ‹Nonempty ι›
  refine le_trans ?_ (Finset.le_sup (f := fun k => max (a k) (-a k)) (Finset.mem_univ k))
  rcases le_total 0 (a k) with h | h
  · exact le_max_of_le_left h
  · exact le_max_of_le_right (EReal.neg_nonneg.2 h)

/-- What a precondition says of a greatest magnitude. -/
def InRange (a : EReal) : Prop :=
  a = 0 ∨ (((2 : ℝ) ^ (-126 : ℤ) : ℝ) : EReal) ≤ a * ((kq : ℝ) : EReal) ∧ a ≤ (((2 : ℝ) ^ (128 : ℤ) : ℝ) : EReal)

theorem ofBits_max_bf16 : Ideal.ofBits .f32 0x7F7F0000#32 ≤ (((2 : ℝ) ^ (128 : ℤ) : ℝ) : EReal) := by
  have : Ideal.ofBits .f32 0x7F7F0000#32 = (((255 : ℝ) * (2 : ℝ) ^ (120 : ℤ) : ℝ) : EReal) := by
    simp [Ideal.ofBits, Ideal.ieee, -EReal.coe_mul]; norm_num
  rw [this, EReal.coe_le_coe_iff]
  norm_num

/-- The precondition's test, read. -/
theorem inRange_of_bits (a : EReal) (h : IntOp.ori (BitVec.ofBool (decide (a = 0)))
    (IntOp.andi (BitVec.ofBool (decide (Ideal.ofBits .f32 0x00800000#32 ≤ a * ((kq : ℝ) : EReal))))
      (BitVec.ofBool (decide (a ≤ Ideal.ofBits .f32 0x7F7F0000#32)))) = 1#1) : InRange a := by
  have key : ∀ p q r : Prop, ∀ [Decidable p] [Decidable q] [Decidable r],
      IntOp.ori (BitVec.ofBool (decide p)) (IntOp.andi (BitVec.ofBool (decide q)) (BitVec.ofBool (decide r))) = 1#1 → p ∨ q ∧ r := by
    intro p q r _ _ _ hpr
    by_cases hp : p <;> by_cases hq : q <;> by_cases hr : r <;> simp_all [IntOp.andi, IntOp.ori]
  rcases key _ _ _ h with h | ⟨h1, h2⟩
  · exact Or.inl h
  · refine Or.inr ⟨?_, h2.trans ofBits_max_bf16⟩
    rwa [ofBits_pow 0x00800000#32 1 (-126) (by decide) (by norm_num) (by norm_num) (by norm_num)] at h1

/-- The kernel's powers of two for such a magnitude. -/
theorem scale_inv_of (a : EReal) (h0 : 0 ≤ a) (h : InRange a) (c : FVec Ideal s .f32) (i : s.Idx) (hc : c i = a * ((kq : ℝ) : EReal)) :
    scale c i = Ideal.exp2 (Row.expo ((kq : ℝ) : EReal) a) ∧ inv c i = Ideal.exp2 (0 - Row.expo ((kq : ℝ) : EReal) a) := by
  have hk : 0 < kq := by norm_num
  have htop : a ≤ (((2 : ℝ) ^ (128 : ℤ) : ℝ) : EReal) := by
    rcases h with rfl | ⟨-, h⟩
    · exact_mod_cast (by positivity : (0 : ℝ) ≤ (2 : ℝ) ^ (128 : ℤ))
    · exact h
  induction a using EReal.rec with
  | bot => exact absurd h0 (by simp)
  | top => exact absurd htop (not_le.2 (EReal.coe_lt_top _))
  | coe x =>
    have hx : x ≤ (2 : ℝ) ^ (128 : ℤ) := by exact_mod_cast htop
    rw [← EReal.coe_mul] at hc
    refine scale_inv x kq (by exact_mod_cast h0) hk c i hc ?_ ?_
    · rcases h with h | ⟨h, -⟩
      · left; exact_mod_cast h
      · right; rw [← EReal.coe_mul] at h; exact EReal.coe_le_coe_iff.1 h
    · calc x * kq ≤ (2 : ℝ) ^ (128 : ℤ) * kq := by gcongr
        _ < _ := by norm_num

end Cert.Expo
-- ==== Proof.VBlocks.lean ====
/- The value quantiser's two output arrays after the run, block by block: what each grid point writes back, and that the blocks
   of two points share no index. -/
module

public import proofs.«01_k».proof.Proof.Gen.VPrepIdeal.Frame
public import Idealize.ShloMosaic.Lib.Pipeline.Value

@[expose] public section

noncomputable section

namespace Cert.VPrepIdeal.Blocks

open Cert.VPrepIdeal Cert.VPrepIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 1's array: the body's result for that window (`Gen.out0_1`: its stores
    as pieces over the input windows' blocks), read through the window's block. -/
theorem flushed1 (c : Dev nD) (t : Fin cfg0.N) :
    (dats m 0 c).flushed 1 t = (cfg0.win 1).cut (grid0.coords t) (out0_1 (iblk m c 0 t)) := by
  show (cfg0.win 1).cut (grid0.coords t) ((dats m 0 c).after 1 t) = _
  rw [after0_1]

/-- The index map sends distinct grid points to distinct block indices (decided over the 64 points). -/
theorem idx_inj1 : ∀ t t' : Fin cfg0.N, win0_1.index t = win0_1.index t' → t = t' :=
  (by decide +kernel : ∀ t t' : Fin grid0.N, win0_1.index t = win0_1.index t' → t = t')

/-- So two flushing points' blocks share no array index (Lib/Pipeline/Cells.lean `Window.disjoint_blk`). -/
theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

/-- BLOCK `t` OF THE FINAL ARRAY, read back through the window, is what point `t` wrote back (`flushed1`), for every
    point that writes back: no other point's block meets it. -/
theorem blocks1 (c : Dev nD) (t : Fin cfg0.N) (hf : (cfg0.win 1).flush t = true) :
    ((cfg0.win 1).blk t).view.read (Elt F) ((dats m 0 c).arrAt 1 cfg0.N) = (dats m 0 c).flushed 1 t :=
  (dats m 0 c).read_blk_arrAt_eq_flushed 1 disjoint1 cfg0.N t t.isLt hf

/-- An index that no flushing point's block covers keeps output window 1's array contents at region entry. -/
theorem entry1 (c : Dev nD) (i : S8x4096x1024.Idx) (h : ∀ t : Fin cfg0.N, (cfg0.win 1).flush t = true → i ∉ ((cfg0.win 1).blk t).view.set) :
    (dats m 0 c).arrAt 1 cfg0.N i = V m c (Pipeline.arrRef spec0 1) i := by
  rw [(dats m 0 c).arrAt_apply_of_forall_not_mem 1 cfg0.N i (fun t _ hf => h t hf), A_eq]

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t)) := by
  show (cfg0.win 2).cut (grid0.coords t) ((dats m 0 c).after 2 t) = _
  rw [after0_2]

/-- The index map sends distinct grid points to distinct block indices (decided over the 64 points). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S64x1x128.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- After the frame run, output window 1's array is `(dats m 0 c).arrAt 1 N`. -/
theorem post1 (r : PUnit × MemSt nD τ sig (Elt F)) (h : Pipeline.FramePost cfgs (dats m) 0 (V m) r) (c : Dev nD) :
    r.2.mem ((c : Thread nD τ).loc main_v0_0) = (dats m 0 c).arrAt 1 cfg0.N :=
  (h c).1 1

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_1) = (dats m 0 c).arrAt 2 cfg0.N :=
  (h c).1 2

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 1 cfg0.N
      ∧ r.2.mem ((c : Thread nD τ).loc main_v0_1) = (dats m 0 c).arrAt 2 cfg0.N
      ∧ r.2.mem ((c : Thread nD τ).loc main_arg0) = m ((c : Thread nD τ).loc main_arg0) :=
  (θ_run defs _ _).mono (fun r h c => ⟨post1 m r h c,
      post2 m r h c,
      kept_main_arg0 m r h c⟩)
    (run_main m ρ)

end Cert.VPrepIdeal.Blocks
-- ==== Proof.VValue.lean ====
/- The value quantiser: its two output arrays element by element over the extended reals. -/
module

public import proofs.«01_k».proof.Proof.Expo
public import proofs.«01_k».proof.Proof.Ops
public import proofs.«01_k».proof.Proof.VBlocks

@[expose] public section

set_option maxRecDepth 16384

noncomputable section

namespace Cert.VPrepIdeal.VQ

open Idealize.ShloMosaic Idealize.ShloMosaic.TcCoe Idealize.ShloMosaic.Pointwise Cert.VPrepIdeal.Gen
open Idealize.ShloMosaic.Pipeline (Dat)
open Cert.Row (col pt)
open Cert.KernelIdeal.Model (ofBits_448 ofBits_neg_448 ofBits_inv_448 canon_unit)

/-! ## The kernel's blocks -/

section Generic
variable {F : FTy → Type} [FloatOps F]

theorem scale_eq (x0 : Vec F S1x4096x128 .bf16) :
    k0_pay14 (k0_pay4 x0) (k0_pay9 x0) (k0_pay10 x0) (k0_pay11 x0) (k0_pay12 (F := F)) = Expo.scale (k0_pay3 x0) := rfl

theorem expo_eq (x0 : Vec F S1x4096x128 .bf16) :
    k0_pay13 (k0_pay4 x0) (k0_pay9 x0) (k0_pay10 x0) (k0_pay11 x0) (k0_pay12 (F := F)) = Expo.expo (k0_pay3 x0) := rfl

/-- The codes, from the inverse scale. -/
def codes (w : FVec F S1x128 .f32) (v : Vec F S1x4096x128 .bf16) : FVec F S1x4096x128 .fp8e4m3 :=
  shapeCast S1x4096x128 (truncf .fp8e4m3 (minimumf (broadcast S4096x128 (Scalar.truncf .bf16 bitsLt_bf16_f32 (Scalar.ofBits .f32 0x43E00000#32)))
    (maximumf (broadcast S4096x128 (Scalar.truncf .bf16 bitsLt_bf16_f32 (Scalar.ofBits .f32 0xC3E00000#32)))
      (mulf (shapeCast S4096x128 v shapeCasts_S1x4096x128_S4096x128)
        (broadcastTo S4096x128 (truncf .bf16 w bitsLt_bf16_f32) broadcasts_S1x128_S4096x128)))) bitsLt_fp8e4m3_bf16) shapeCasts_S4096x128_S1x4096x128

theorem codes_eq (x0 : Vec F S1x4096x128 .bf16) : k0_pay2 (Expo.expo (k0_pay3 x0)) 127#32 x0 = codes (Expo.inv (k0_pay3 x0)) x0 := rfl

end Generic

theorem ofBits_bot16 : Ideal.ofBits .bf16 0xFF80#16 = ⊥ := by
  simp [Ideal.ofBits, Ideal.ieee]

theorem codes_apply (w : FVec Ideal S1x128 .f32) (v : Vec Ideal S1x4096x128 .bf16) (R : Fin 4096) (d : Fin 128) :
    codes w v (ix3 0 R d) = Row.clip (v (ix3 0 R d) * w (ix2 0 d)) := by
  pointwise [codes, Row.clip]
  rw [ofBits_448, ofBits_neg_448]

theorem pay3_apply (v : Vec Ideal S1x4096x128 .bf16) (d : Fin 128) :
    k0_pay3 v (ix2 0 d) = Expo.amax (fun k => v (ix3 0 k d)) * ((Expo.kq : ℝ) : EReal) := by
  pointwise [k0_pay3, Expo.amax]
  rw [ofBits_inv_448]
  rw [ofBits_bot16]
  rfl

theorem out1_apply (x0 : Vec Ideal S1x4096x128 .bf16) (R : Fin 4096) (d : Fin 128) :
    out0_1 x0 (ix3 0 R d) = Row.clip (x0 (ix3 0 R d) * Expo.inv (k0_pay3 x0) (ix2 0 d)) := by
  have hl : View.ld x0 r0_0 = x0 := View.ld_unit_zero (S := S1x4096x128) (by decide) _ x0
  refine Eq.trans ?_ (codes_apply _ x0 R d)
  unfold out0_1
  refine (canon_unit _ _ _ (ix3 0 R d) (ix3 0 R d) (fun a => by fin_cases a <;> simp)).trans ?_
  show k0_pay2 (k0_pay13 (k0_pay4 (View.ld x0 r0_0)) (k0_pay9 (View.ld x0 r0_0)) (k0_pay10 (View.ld x0 r0_0)) (k0_pay11 (View.ld x0 r0_0)) k0_pay12)
    127#32 (View.ld x0 r0_0) (ix3 0 R d) = _
  rw [hl, expo_eq, codes_eq]

theorem out2_apply (x0 : Vec Ideal S1x4096x128 .bf16) (d : Fin 128) :
    out0_2 x0 (ix3 0 0 d) = Expo.scale (k0_pay3 x0) (ix2 0 d) := by
  have hl : View.ld x0 r0_0 = x0 := View.ld_unit_zero (S := S1x4096x128) (by decide) _ x0
  unfold out0_2
  refine (canon_unit _ _ _ (ix3 0 0 d) (ix3 0 0 d) (fun a => by fin_cases a <;> simp)).trans ?_
  show k0_pay1 (k0_pay14 (k0_pay4 (View.ld x0 r0_0)) (k0_pay9 (View.ld x0 r0_0)) (k0_pay10 (View.ld x0 r0_0)) (k0_pay11 (View.ld x0 r0_0)) k0_pay12)
    (ix3 0 0 d) = _
  rw [hl, scale_eq]
  generalize Expo.scale (k0_pay3 x0) = u
  pointwise [k0_pay1]

/-! ## The arrays -/

variable (m : (ℓ : Loc nD τ sig) → Buf (Elt Ideal) ℓ)

/-- The grid point of head `h` of batch `b`. -/
abbrev pnt (b h : Fin 8) : Fin cfg0.N := ⟨8 * b + h, by have := h.isLt; have := b.isLt; show _ < 64; omega⟩

theorem ind0 : ∀ b h : Fin 8, win0_0.index (pnt b h) 0 = b ∧ win0_0.index (pnt b h) 1 = 0 ∧ win0_0.index (pnt b h) 2 = h := by decide +kernel
theorem ind1 : ∀ b h : Fin 8, win0_1.index (pnt b h) 0 = b ∧ win0_1.index (pnt b h) 1 = 0 ∧ win0_1.index (pnt b h) 2 = h := by decide +kernel
theorem ind2 : ∀ b h : Fin 8, win0_2.index (pnt b h) 0 = 8 * b + h ∧ win0_2.index (pnt b h) 1 = 0 ∧ win0_2.index (pnt b h) 2 = 0 := by decide +kernel

variable (c : Dev nD) (b h : Fin 8)

theorem blk0 (R : Fin 4096) (d : Fin 128) : (iblk m c 0 (pnt b h) : Vec Ideal S1x4096x128 .bf16) (ix3 0 R d) =
    m ((c : Thread nD τ).loc main_arg0) (ix3 b R (col h d)) := by
  obtain ⟨h0, h1, h2⟩ := ind0 b h
  unfold iblk
  rw [View.read_apply]
  show V m c main_arg0 _ = m (c.tc.loc main_arg0) _
  unfold V
  congr 1
  funext a
  apply Fin.ext
  match a with
  | ⟨0, _⟩ => show win0_0.index (pnt b h) 0 * 1 + 1 * 0 = (b : ℕ); omega
  | ⟨1, _⟩ => show win0_0.index (pnt b h) 1 * 4096 + 1 * (R : ℕ) = (R : ℕ); omega
  | ⟨2, _⟩ => show win0_0.index (pnt b h) 2 * 128 + 1 * (d : ℕ) = 128 * (h : ℕ) + d; omega

/-- An element of the argument array. -/
abbrev xA (R : Fin 4096) (d : Fin 128) : EReal := m ((c : Thread nD τ).loc main_arg0) (ix3 b R (col h d))

/-- A channel's greatest magnitude, in the argument array. -/
abbrev amaxA (d : Fin 128) : EReal := Expo.amax fun k : Fin 4096 => xA m c b h k d

theorem pay3_blk (d : Fin 128) : k0_pay3 (iblk m c 0 (pnt b h) : Vec Ideal S1x4096x128 .bf16) (ix2 0 d) = amaxA m c b h d * ((Expo.kq : ℝ) : EReal) :=
  (pay3_apply _ d).trans (congrArg (fun f => Expo.amax f * ((Expo.kq : ℝ) : EReal)) (funext fun k => blk0 m c b h k d))

/-- The codes after the run. -/
theorem codes_arr (R : Fin 4096) (d : Fin 128) (hr : Expo.InRange (amaxA m c b h d)) :
    (dats m 0 c).arrAt 1 cfg0.N (ix3 b R (col h d)) = Row.clip (xA m c b h R d *
      Ideal.exp2 (0 - Row.expo ((Expo.kq : ℝ) : EReal) (amaxA m c b h d))) := by
  have hb := congrFun (Blocks.blocks1 m c (pnt b h) (flush0_1 _)) (ix3 0 R d)
  rw [Blocks.flushed1, View.read_apply] at hb
  obtain ⟨h0, h1, h2⟩ := ind1 b h
  have hi : ((cfg0.win 1).blk (pnt b h)).view.emb (ix3 0 R d) = ix3 b R (col h d) := by
    funext a
    apply Fin.ext
    match a with
    | ⟨0, _⟩ => show win0_1.index (pnt b h) 0 * 1 + 1 * 0 = (b : ℕ); omega
    | ⟨1, _⟩ => show win0_1.index (pnt b h) 1 * 4096 + 1 * (R : ℕ) = (R : ℕ); omega
    | ⟨2, _⟩ => show win0_1.index (pnt b h) 2 * 128 + 1 * (d : ℕ) = 128 * (h : ℕ) + d; omega
  rw [hi] at hb
  refine hb.trans ((out1_apply _ R d).trans ?_)
  rw [(Expo.scale_inv_of _ (Expo.amax_nonneg _) hr _ _ (pay3_blk m c b h d)).2]
  exact congrArg (fun x => Row.clip (x * _)) (blk0 m c b h R d)

/-- The scales after the run. -/
theorem scales_arr (d : Fin 128) (hr : Expo.InRange (amaxA m c b h d)) :
    (dats m 0 c).arrAt 2 cfg0.N (ix3 (pt b h) 0 d) = Ideal.exp2 (Row.expo ((Expo.kq : ℝ) : EReal) (amaxA m c b h d)) := by
  have hb := congrFun (Blocks.blocks2 m c (pnt b h) (flush0_2 _)) (ix3 0 0 d)
  rw [Blocks.flushed2, View.read_apply] at hb
  obtain ⟨h0, h1, h2⟩ := ind2 b h
  have hi : ((cfg0.win 2).blk (pnt b h)).view.emb (ix3 0 0 d) = ix3 (pt b h) 0 d := by
    funext a
    apply Fin.ext
    match a with
    | ⟨0, _⟩ => show win0_2.index (pnt b h) 0 * 1 + 1 * 0 = 8 * (b : ℕ) + h; omega
    | ⟨1, _⟩ => show win0_2.index (pnt b h) 1 * 1 + 1 * 0 = 0; omega
    | ⟨2, _⟩ => show win0_2.index (pnt b h) 2 * 128 + 1 * (d : ℕ) = (d : ℕ); omega
  rw [hi] at hb
  refine hb.trans ((out2_apply _ d).trans ?_)
  exact (Expo.scale_inv_of _ (Expo.amax_nonneg _) hr _ _ (pay3_blk m c b h d)).1

end Cert.VPrepIdeal.VQ
-- ==== Proof.VRef.lean ====
/- The value quantiser's reference, element by element over the extended reals. -/
module

public import proofs.«01_k».proof.Proof.Expo
public import proofs.«01_k».proof.Proof.Ops
public import proofs.«01_k».proof.Proof.Gen.VReferenceIdeal.Value

@[expose] public section

set_option maxRecDepth 16384

noncomputable section

namespace Cert.VReferenceIdeal.VQ

open Idealize.ShloMosaic Idealize.ShloMosaic.TcCoe Idealize.ShloMosaic.Pointwise Cert.VReferenceIdeal.Gen
open Cert.Row (col pt)
open Cert.KernelIdeal.Model (ofBits_448 ofBits_neg_448 ofBits_bot ofBits_inv_448)

/-- A channel's maximum. -/
theorem max_apply (x : FVec Ideal S8x4096x1024 .f32) (b : Fin 8) (z : Fin 1) (e : Fin 1024) :
    shapeCast S8x1x1024 (multiReduction .maximumf [1] S8x1024 x 0xFF800000#32 reduces_S8x4096x1024_S8x1024 (.inl rfl) rfl)
      shapeCasts_S8x1024_S8x1x1024 (ix3 b z e) = Finset.univ.sup fun k : Fin 4096 => x (ix3 b k e) := by
  pointwise
  rw [ofBits_bot]
  rfl

/-- The quantiser's exponent. -/
theorem expo_apply (x : FVec Ideal S8x1x1024 .f32) (c : Ideal .f32) (b : Fin 8) (z : Fin 1) (e : Fin 1024) :
    select (cmpf .oeq x (broadcast S8x1x1024 (Scalar.ofBits .f32 0x00000000#32))) (broadcast S8x1x1024 (Scalar.ofBits .f32 0x00000000#32))
      (addf (floor (divf (log (mulf x (broadcast S8x1x1024 c))) (broadcast S8x1x1024 (Named.named κ "ln2" 0x3F317218#32))))
        (broadcast S8x1x1024 (Scalar.ofBits .f32 0x3F800000#32))) (ix3 b z e) = Row.expo c (x (ix3 b z e)) := by
  pointwise [Row.expo]
  have hn : Named.named (F := Ideal) κ "ln2" (φ := .f32) 0x3F317218#32 = ((Real.log 2 : ℝ) : EReal) :=
    IdealRules.named_const.ideal_named_scalar _ _ _ _ rfl
  exact congrArg (fun l : EReal => if x (ix3 b z e) = 0 then (0 : EReal) else
    Ideal.liftRound Int.floor (Ideal.div (Ideal.log (x (ix3 b z e) * c)) l) + 1) hn

/-- The codes. -/
theorem codes_apply (x : FVec Ideal S8x4096x1024 .f32) (e : FVec Ideal S8x1x1024 .f32) (b : Fin 8) (R : Fin 4096) (j : Fin 1024) :
    (truncf .fp8e4m3 (minimumf (broadcast S8x4096x1024 (Scalar.ofBits .f32 0x43E00000#32)) (maximumf (broadcast S8x4096x1024 (Scalar.ofBits .f32 0xC3E00000#32))
      (mulf x (broadcastTo S8x4096x1024 (exp2 (subf (broadcast S8x1x1024 (Scalar.ofBits .f32 0x00000000#32)) e))
        broadcasts_S8x1x1024_S8x4096x1024)))) bitsLt_fp8e4m3_f32 : FVec Ideal S8x4096x1024 .fp8e4m3) (ix3 b R j) =
    Row.clip (x (ix3 b R j) * Ideal.exp2 (0 - e (ix3 b 0 j))) := by
  pointwise [Row.clip]
  rw [ofBits_448, ofBits_neg_448]
  rfl

/-- The scales laid out by head. -/
theorem heads_apply (x : FVec Ideal S8x1x1024 .f32) (b h : Fin 8) (z : Fin 1) (d : Fin 128) :
    shapeCast S64x1x128 x shapeCasts_S8x1x1024_S64x1x128 (ix3 (pt b h) z d) = x (ix3 b 0 (col h d)) := by
  pointwise
  congr 1
  have := h.isLt
  ext a; fin_cases a <;> simp <;> omega

theorem heads_exp2_apply (x : FVec Ideal S8x1x1024 .f32) (b h : Fin 8) (z : Fin 1) (d : Fin 128) :
    shapeCast S64x1x128 (exp2 x) shapeCasts_S8x1x1024_S64x1x128 (ix3 (pt b h) z d) = Ideal.exp2 (x (ix3 b 0 (col h d))) := by
  have hx : ∀ i, exp2 x i = Ideal.exp2 (x i) := fun i => rfl
  generalize exp2 x = y at hx ⊢
  rw [← hx, heads_apply]

variable (v : Vec Ideal S8x4096x1024 .bf16)

theorem pay2_apply (b : Fin 8) (z : Fin 1) (e : Fin 1024) :
    k0_pay2 v (ix3 b z e) = Row.expo ((Expo.kq : ℝ) : EReal) (Expo.amax fun k => v (ix3 b k e)) := by
  refine (expo_apply _ _ b z e).trans ?_
  refine (congrArg (fun c => Row.expo c _) ofBits_inv_448).trans (congrArg (Row.expo _) ?_)
  exact max_apply _ b z e

theorem pay3_apply (b : Fin 8) (R : Fin 4096) (e : Fin 1024) :
    k0_pay3 v (ix3 b R e) = Row.clip (v (ix3 b R e) * Ideal.exp2 (0 - Row.expo ((Expo.kq : ℝ) : EReal) (Expo.amax fun k => v (ix3 b k e)))) := by
  have h := codes_apply (extf .f32 v bitsLt_bf16_f32) (k0_pay2 v) b R e
  rw [pay2_apply] at h
  exact h

theorem pay4_apply (b h : Fin 8) (d : Fin 128) :
    k0_pay4 v (ix3 (pt b h) 0 d) = Ideal.exp2 (Row.expo ((Expo.kq : ℝ) : EReal) (Expo.amax fun k => v (ix3 b k (col h d)))) := by
  unfold k0_pay4
  rw [heads_exp2_apply (k0_pay2 v) b h 0 d, pay2_apply v b 0 (col h d)]

end Cert.VReferenceIdeal.VQ
-- ==== Proof.VClaims.lean ====
/- The value quantiser's claims: its codes and its scales are its reference's, over the extended reals, where every channel's
   greatest value is zero or in range. -/
module

public import proofs.«01_k».proof.Defs
public import proofs.«01_k».proof.Proof.VValue
public import proofs.«01_k».proof.Proof.VRef
public import proofs.«01_k».proof.Proof.Gen.VPrep.Frame
public import proofs.«01_k».proof.Proof.Gen.VReferenceIdeal.Frame

@[expose] public section

set_option maxRecDepth 16384

noncomputable section

/-! ## The precondition -/

namespace Cert.Pre_value_maxima_in_range

open Idealize.ShloMosaic Idealize.ShloMosaic.Pointwise

/-- The precondition's stated shape facts. -/
instance facts : Facts where
  bitsLt_bf16_f32 := by decide
  reducesTo_S8x4096x1024_S8x1024_d1 := by decide
  h_S_ := by decide
  bcast_S_S8x1024 := by decide

/-- The test, of the channels' maxima. -/
def test (u : FVec Ideal S8x1024 .f32) : IVec S8x1024 1 :=
  ori (cmpf .oeq u (broadcastInDim S8x1024 ![] Facts.bcast_S_S8x1024 (constant S_ .f32 0x00000000#32)))
    (andi (cmpf .oge (mulf u (broadcastInDim S8x1024 ![] Facts.bcast_S_S8x1024 (constant S_ .f32 0x3B124925#32)))
        (broadcastInDim S8x1024 ![] Facts.bcast_S_S8x1024 (constant S_ .f32 0x00800000#32)))
      (cmpf .ole u (broadcastInDim S8x1024 ![] Facts.bcast_S_S8x1024 (constant S_ .f32 0x7F7F0000#32))))

theorem fn_eq (a0 : FVec Ideal S8x4096x1024 .bf16) : fn (F := Ideal) a0 =
    test (Host.reduce FloatOps.maximumf (Host.absf (extf .f32 a0 Facts.bitsLt_bf16_f32)) (constant S_ .f32 0xFF800000#32)
      Facts.reducesTo_S8x4096x1024_S8x1024_d1 Facts.h_S_) := rfl

theorem test_apply (u : FVec Ideal S8x1024 .f32) (b : Fin 8) (e : Fin 1024) (h : test u (ix2 b e) = 1#1) : Expo.InRange (u (ix2 b e)) := by
  pointwise [test] at h
  rw [Cert.KernelIdeal.Model.ofBits_inv_448] at h
  exact Expo.inRange_of_bits _ h

/-- A channel's maximum on the host. -/
theorem max_apply (x : FVec Ideal S8x4096x1024 .f32) (b : Fin 8) (e : Fin 1024) :
    Host.reduce FloatOps.maximumf x (constant S_ .f32 0xFF800000#32) Facts.reducesTo_S8x4096x1024_S8x1024_d1 Facts.h_S_ (ix2 b e) =
      Finset.univ.sup fun k : Fin 4096 => x (ix3 b k e) := by
  pointwise
  rw [Cert.KernelIdeal.Model.ofBits_bot]
  rfl

/-- What the precondition says of a channel. -/
theorem range_of (a0 : FVec Ideal S8x4096x1024 .bf16) (b : Fin 8) (e : Fin 1024) (h : fn (F := Ideal) a0 (ix2 b e) = 1#1) :
    Expo.InRange (Expo.amax fun k : Fin 4096 => a0 (ix3 b k e)) := by
  have hx : ∀ i, Host.absf (extf .f32 a0 Facts.bitsLt_bf16_f32) i = max (a0 i) (-a0 i) := fun i => rfl
  rw [fn_eq] at h
  have h' := test_apply _ b e h
  rw [max_apply] at h'
  simp only [hx] at h'
  exact h'

end Cert.Pre_value_maxima_in_range

namespace Cert.Proof.VClaims

open Idealize.ShloMosaic Idealize.ShloMosaic.TcCoe Idealize.SL.Sem
open Cert.Row (col pt)

theorem in_range (m : (ℓ : Loc Cert.VPrepIdeal.nD Cert.VPrepIdeal.τ Cert.VPrepIdeal.sig) → Buf (Elt Ideal) ℓ)
    (hpre : Cert.Pre_VPrepIdeal_value_maxima_in_range m) (c : Dev Cert.VPrepIdeal.nD) (b h : Fin 8) (d : Fin 128) :
    Expo.InRange (Cert.VPrepIdeal.VQ.amaxA m c b h d) :=
  Cert.Pre_value_maxima_in_range.range_of _ b (col h d) (congrFun (hpre c) (ix2 b (col h d)))

/-- The codes are one. -/
theorem codes_eq (m : (ℓ : Loc Cert.VPrepIdeal.nD Cert.VPrepIdeal.τ Cert.VPrepIdeal.sig) → Buf (Elt Ideal) ℓ)
    (hpre : Cert.Pre_VPrepIdeal_value_maxima_in_range m) (c : Dev Cert.VPrepIdeal.nD) :
    Cert.VReferenceIdeal.Value.G1 (F := Ideal)
      (m ((c.tc : Thread Cert.VPrepIdeal.nD Cert.VPrepIdeal.τ).loc Cert.VPrepIdeal.main_arg0)) =
    (Cert.VPrepIdeal.Gen.dats m 0 c).arrAt 1 Cert.VPrepIdeal.cfg0.N := by
  refine funext fun j => ?_
  obtain ⟨b, R, e, rfl⟩ : ∃ (b : Fin 8) (R : Fin 4096) (e : Fin 1024), j = ix3 b R e := ⟨j 0, j 1, j 2, eq_ix3 j⟩
  obtain ⟨h, d, rfl⟩ : ∃ (h : Fin 8) (d : Fin 128), e = col h d :=
    ⟨⟨e / 128, by have := e.isLt; omega⟩, ⟨e % 128, by omega⟩, Fin.ext (by show (e : ℕ) = 128 * (e / 128) + e % 128; omega)⟩
  exact (Cert.VReferenceIdeal.VQ.pay3_apply _ b R (col h d)).trans
    (Cert.VPrepIdeal.VQ.codes_arr m c b h R d (in_range m hpre c b h d)).symm

/-- The scales are one. -/
theorem scales_eq (m : (ℓ : Loc Cert.VPrepIdeal.nD Cert.VPrepIdeal.τ Cert.VPrepIdeal.sig) → Buf (Elt Ideal) ℓ)
    (hpre : Cert.Pre_VPrepIdeal_value_maxima_in_range m) (c : Dev Cert.VPrepIdeal.nD) :
    Cert.VReferenceIdeal.Value.G2 (F := Ideal)
      (m ((c.tc : Thread Cert.VPrepIdeal.nD Cert.VPrepIdeal.τ).loc Cert.VPrepIdeal.main_arg0)) =
    (Cert.VPrepIdeal.Gen.dats m 0 c).arrAt 2 Cert.VPrepIdeal.cfg0.N := by
  refine funext fun j => ?_
  obtain ⟨n, z, d, rfl⟩ : ∃ (n : Fin 64) (z : Fin 1) (d : Fin 128), j = ix3 n z d := ⟨j 0, j 1, j 2, eq_ix3 j⟩
  obtain ⟨b, h, rfl⟩ : ∃ b h : Fin 8, n = pt b h :=
    ⟨⟨n / 8, by have := n.isLt; omega⟩, ⟨n % 8, by omega⟩, Fin.ext (by show (n : ℕ) = 8 * (n / 8) + n % 8; omega)⟩
  obtain rfl : z = 0 := Subsingleton.elim _ _
  exact (Cert.VReferenceIdeal.VQ.pay4_apply _ b h d).trans
    (Cert.VPrepIdeal.VQ.scales_arr m c b h d (in_range m hpre c b h d)).symm

/-! ## The claims -/

theorem frame_p : Cert.quiescent_VPrep := fun m ρ _ => Cert.VPrep.Gen.frame m ρ

theorem frame_pi : Cert.quiescent_VPrepIdeal := fun m ρ _ => Cert.VPrepIdeal.Gen.frame m ρ

theorem frame_pi_pre : Cert.quiescent_VPrepIdeal_pre_value_maxima_in_range := fun m ρ _ => Cert.VPrepIdeal.Gen.frame m ρ

theorem frame_ri : Cert.quiescent_VReferenceIdeal := fun m ρ _ => Cert.VReferenceIdeal.Gen.frame m ρ

theorem frame_ri_pre : Cert.quiescent_VReferenceIdeal_pre_value_maxima_in_range := fun m ρ _ => Cert.VReferenceIdeal.Gen.frame m ρ

theorem preserves : Cert.preserves_VPrep_VPrepIdeal := trivial

theorem algebraic : Cert.algebraic_VPrepIdeal_VReferenceIdeal_pre_value_maxima_in_range := by
  intro m ρ m' ρ' hpre hag
  refine ⟨_, _, Cert.VPrepIdeal.Blocks.run_blocks (F := Ideal) m ρ, ?_⟩
  refine (θ_run Cert.VReferenceIdeal.defs _ _).mono (fun _ h c => ⟨(h c).1.trans ?_, (h c).2.1.trans ?_, (h c).2.2⟩)
    (Cert.VReferenceIdeal.Value.run (F := Ideal) m' ρ')
  · rw [hag c]; exact codes_eq m hpre c
  · rw [hag c]; exact scales_eq m hpre c

end Cert.Proof.VClaims
-- ==== Proof.QkRow.lean ====
/- A token's head, normalised, rotated and quantised: the kernel takes the norm's factor out of the rotation and puts it into the
   codes' factor; over the extended reals, with the greatest value in range, that is the reference's row. -/
module

public import proofs.«01_k».proof.Proof.Expo

@[expose] public section

noncomputable section

namespace Cert.QRow

open Idealize.ShloMosaic

/-- A lane of the head's first half, and of its second. -/
abbrev lo (j : Fin 64) : Fin 128 := ⟨j, by omega⟩
abbrev hi (j : Fin 64) : Fin 128 := ⟨64 + j, by omega⟩

theorem lo_or_hi (d : Fin 128) : (∃ j, d = lo j) ∨ ∃ j, d = hi j := by
  rcases lt_or_ge (d : ℕ) 64 with h | h
  · exact Or.inl ⟨⟨d, h⟩, rfl⟩
  · exact Or.inr ⟨⟨d - 64, by omega⟩, Fin.ext (by show (d : ℕ) = 64 + (d - 64); omega)⟩

/-- The norm's constant. -/
abbrev eps : ℝ := 8796093 * (2 : ℝ) ^ (-43 : ℤ)

/-- A function on the head from its halves. -/
def join (y1 y2 : Fin 64 → EReal) (d : Fin 128) : EReal :=
  if h : (d : ℕ) < 64 then y1 ⟨d, h⟩ else y2 ⟨d - 64, by omega⟩

theorem join_lo (y1 y2 : Fin 64 → EReal) (j : Fin 64) : join y1 y2 (lo j) = y1 j := by
  have : ((lo j : Fin 128) : ℕ) < 64 := j.isLt
  unfold join; rw [dif_pos this]

theorem join_hi (y1 y2 : Fin 64 → EReal) (j : Fin 64) : join y1 y2 (hi j) = y2 j := by
  have : ¬ ((hi j : Fin 128) : ℕ) < 64 := by show ¬ 64 + (j : ℕ) < 64; omega
  unfold join; rw [dif_neg this]
  exact congrArg y2 (Fin.ext (by show 64 + (j : ℕ) - 64 = j; omega))

section Defs
variable (T w : Fin 128 → EReal) (cs sn : Fin 64 → EReal)

/-- The norm's factor. -/
def rr : EReal := Ideal.rsqrt (Ideal.div (∑ k, T k * T k) ((128 : ℝ) : EReal) + (eps : EReal))

/-- The normalised value. -/
def tn (d : Fin 128) : EReal := T d * rr T * w d

/-- And rotated: the value that is quantised. -/
def q : Fin 128 → EReal :=
  join (fun j => tn T w (lo j) * cs j - tn T w (hi j) * sn j) (fun j => tn T w (hi j) * cs j + tn T w (lo j) * sn j)

/-- The kernel's halves, before the norm's factor. -/
def k1 (j : Fin 64) : EReal := T (lo j) * (cs j * w (lo j)) - T (hi j) * (sn j * w (hi j))
def k2 (j : Fin 64) : EReal := T (hi j) * (cs j * w (hi j)) + T (lo j) * (sn j * w (lo j))

end Defs

/-- The greatest magnitude of two halves. -/
def am (y1 y2 : Fin 64 → EReal) : EReal := Finset.univ.sup fun j => max (max (y1 j) (-y1 j)) (max (y2 j) (-y2 j))

theorem am_eq (y1 y2 : Fin 64 → EReal) : am y1 y2 = Expo.amax (join y1 y2) := by
  apply le_antisymm
  · refine Finset.sup_le fun j _ => max_le ?_ ?_
    · exact le_of_eq_of_le (by rw [join_lo]) (Finset.le_sup (f := fun d => max (join y1 y2 d) (-join y1 y2 d)) (Finset.mem_univ (lo j)))
    · exact le_of_eq_of_le (by rw [join_hi]) (Finset.le_sup (f := fun d => max (join y1 y2 d) (-join y1 y2 d)) (Finset.mem_univ (hi j)))
  · refine Finset.sup_le fun d _ => ?_
    rcases lo_or_hi d with ⟨j, rfl⟩ | ⟨j, rfl⟩
    · rw [join_lo]
      exact (le_max_left _ _).trans (Finset.le_sup (f := fun j => max (max (y1 j) (-y1 j)) (max (y2 j) (-y2 j))) (Finset.mem_univ j))
    · rw [join_hi]
      exact (le_max_right _ _).trans (Finset.le_sup (f := fun j => max (max (y1 j) (-y1 j)) (max (y2 j) (-y2 j))) (Finset.mem_univ j))

theorem amax_mul {ι : Type} [Fintype ι] (a : ι → EReal) (r : ℝ) (hr : 0 < r) :
    Expo.amax (fun k => a k * (r : EReal)) = Expo.amax a * (r : EReal) := by
  have hm : Monotone fun x : EReal => x * (r : EReal) := fun x y h => mul_le_mul_of_nonneg_right h (EReal.coe_nonneg.2 hr.le)
  have h := Finset.comp_sup_eq_sup_comp_of_is_total (s := Finset.univ) (f := fun k => max (a k) (-a k)) (fun x : EReal => x * (r : EReal)) hm
    (EReal.bot_mul_coe_of_pos hr)
  refine Eq.trans ?_ h.symm
  refine congrArg (Finset.univ.sup) (funext fun k => ?_)
  show max (a k * (r : EReal)) (-(a k * (r : EReal))) = max (a k) (-a k) * (r : EReal)
  rw [← EReal.neg_mul]
  exact (hm.map_max (a := a k) (b := -a k)).symm

section Real
variable (t v : Fin 128 → ℝ) (c s : Fin 64 → ℝ)

/-- At a finite head the factor is a positive real, no greater than the constant allows. -/
theorem rr_real : ∃ r : ℝ, rr (fun d => ((t d : ℝ) : EReal)) = (r : EReal) ∧ 0 < r ∧ r ≤ 1001 := by
  have hs : (∑ k, ((t k : ℝ) : EReal) * ((t k : ℝ) : EReal)) = ((∑ k, t k * t k : ℝ) : EReal) := by
    simp only [← EReal.coe_mul]
    exact (map_sum (⟨⟨Real.toEReal, EReal.coe_zero⟩, EReal.coe_add⟩ : ℝ →+ EReal) _ _).symm
  have hd : Ideal.div ((∑ k, t k * t k : ℝ) : EReal) ((128 : ℝ) : EReal) = (((∑ k, t k * t k) / 128 : ℝ) : EReal) := by
    unfold Ideal.div
    rw [if_neg (by exact_mod_cast (by norm_num : (128 : ℝ) ≠ 0)), ← EReal.coe_inv, ← EReal.coe_mul, div_eq_mul_inv]
  have h0 : 0 ≤ ∑ k, t k * t k := Finset.sum_nonneg fun k _ => mul_self_nonneg _
  have he : 0 < eps := by norm_num
  have hx : 0 < (∑ k, t k * t k) / 128 + eps := by positivity
  refine ⟨(Real.sqrt ((∑ k, t k * t k) / 128 + eps))⁻¹, ?_, inv_pos.2 (Real.sqrt_pos.2 hx), ?_⟩
  · unfold rr
    rw [hs, hd, ← EReal.coe_add]
    show (if _ < (0 : ℝ) then ⊥ else if _ = (0 : ℝ) then ⊤ else _) = _
    rw [if_neg (not_lt.2 hx.le), if_neg hx.ne']
  · rw [inv_le_comm₀ (Real.sqrt_pos.2 hx) (by norm_num)]
    refine Real.le_sqrt_of_sq_le ?_
    have : ((1001 : ℝ)⁻¹) ^ 2 ≤ eps := by norm_num
    have h1 : 0 ≤ (∑ k, t k * t k) / 128 := by positivity
    linarith

theorem q_eq (r : ℝ) (hr : rr (fun d => ((t d : ℝ) : EReal)) = (r : EReal)) (d : Fin 128) :
    q (fun d => ((t d : ℝ) : EReal)) (fun d => ((v d : ℝ) : EReal)) (fun j => ((c j : ℝ) : EReal)) (fun j => ((s j : ℝ) : EReal)) d =
      join (k1 (fun d => ((t d : ℝ) : EReal)) (fun d => ((v d : ℝ) : EReal)) (fun j => ((c j : ℝ) : EReal)) (fun j => ((s j : ℝ) : EReal)))
        (k2 (fun d => ((t d : ℝ) : EReal)) (fun d => ((v d : ℝ) : EReal)) (fun j => ((c j : ℝ) : EReal)) (fun j => ((s j : ℝ) : EReal))) d * (r : EReal) := by
  rcases lo_or_hi d with ⟨j, rfl⟩ | ⟨j, rfl⟩
  · unfold q tn; rw [join_lo, join_lo, hr]; unfold k1
    simp only [← EReal.coe_mul, ← EReal.coe_sub]
    congr 1; ring
  · unfold q tn; rw [join_hi, join_hi, hr]; unfold k2
    simp only [← EReal.coe_mul, ← EReal.coe_add]
    congr 1; ring

end Real

/-- What the greatest value must be: zero, or finite with a quotient not below `2 ^ -119`. -/
def InRange (a : EReal) : Prop :=
  a = 0 ∨ (((2 : ℝ) ^ (-119 : ℤ) : ℝ) : EReal) ≤ a * ((Expo.kq : ℝ) : EReal) ∧ a ≤ (((2 : ℝ) ^ (128 : ℤ) : ℝ) : EReal)

theorem InRange.toExpo {a : EReal} (h : InRange a) : Expo.InRange a :=
  h.imp id fun h => ⟨le_trans (EReal.coe_le_coe_iff.2 (by norm_num)) h.1, h.2⟩

/-- So the inverse scale is a real no greater than `2 ^ 118`. -/
theorem inv_le (a : EReal) (h0 : 0 ≤ a) (h : InRange a) :
    ∃ x : ℝ, Ideal.exp2 (0 - Row.expo ((Expo.kq : ℝ) : EReal) a) = (x : EReal) ∧ 0 < x ∧ x ≤ (2 : ℝ) ^ (118 : ℤ) := by
  have hk : 0 < Expo.kq := by norm_num
  have key : ∀ n : ℤ, -118 ≤ n → ∃ x : ℝ, Ideal.exp2 (0 - ((n : ℝ) : EReal)) = (x : EReal) ∧ 0 < x ∧ x ≤ (2 : ℝ) ^ (118 : ℤ) := by
    intro n hn
    refine ⟨(2 : ℝ) ^ (-n), ?_, by positivity, zpow_le_zpow_right₀ (by norm_num) (by omega)⟩
    rw [← EReal.coe_zero, ← EReal.coe_sub, show ((0 : ℝ) - (n : ℝ)) = ((-n : ℤ) : ℝ) by push_cast; ring, Expo.exp2_int]
  rcases h with rfl | ⟨h1, h2⟩
  · have : Row.expo ((Expo.kq : ℝ) : EReal) 0 = ((((0 : ℤ)) : ℝ) : EReal) := by
      unfold Row.expo; simp
    rw [this]; exact key 0 (by norm_num)
  · obtain ⟨y, rfl⟩ : ∃ y : ℝ, a = (y : EReal) := by
      induction a with
      | bot => exact absurd h0 (by simp)
      | top => exact absurd (top_le_iff.1 h2) (EReal.coe_ne_top _)
      | coe y => exact ⟨y, rfl⟩
    rw [← EReal.coe_mul, EReal.coe_le_coe_iff] at h1
    have hy : 0 < y := by
      by_contra hc
      have : y * Expo.kq ≤ 0 := mul_nonpos_of_nonpos_of_nonneg (not_lt.1 hc) hk.le
      have : (0 : ℝ) < (2 : ℝ) ^ (-119 : ℤ) := by positivity
      linarith
    have hp : 0 < y * Expo.kq := mul_pos hy hk
    obtain ⟨n, e1, e2⟩ := exists_mem_Ico_zpow hp (by norm_num : (1 : ℝ) < 2)
    rw [Expo.row_expo y Expo.kq hy hk _ e1 e2]
    refine key _ ?_
    have h3 : (2 : ℝ) ^ (-119 : ℤ) < (2 : ℝ) ^ (n + 1) := lt_of_le_of_lt h1 e2
    rw [zpow_lt_zpow_iff_right₀ (by norm_num)] at h3
    omega

/-- The greatest float. -/
abbrev fmax : ℝ := (2 : ℝ) ^ (128 : ℤ) - (2 : ℝ) ^ (104 : ℤ)

section Finite
variable (T w : Fin 128 → EReal) (cs sn : Fin 64 → EReal) (hT : ∀ d, ∃ y : ℝ, T d = (y : EReal)) (hw : ∀ d, ∃ y : ℝ, w d = (y : EReal))
  (hc : ∀ j, ∃ y : ℝ, cs j = (y : EReal)) (hs : ∀ j, ∃ y : ℝ, sn j = (y : EReal))
include hT hw hc hs

/-- At finite values the kernel's maximum is the reference's. -/
theorem am_mul_real : am (k1 T w cs sn) (k2 T w cs sn) * rr T = Expo.amax (q T w cs sn) := by
  choose t ht using hT
  choose v hv using hw
  choose c hc using hc
  choose s hs using hs
  obtain rfl : T = fun d => ((t d : ℝ) : EReal) := funext ht
  obtain rfl : w = fun d => ((v d : ℝ) : EReal) := funext hv
  obtain rfl : cs = fun d => ((c d : ℝ) : EReal) := funext hc
  obtain rfl : sn = fun d => ((s d : ℝ) : EReal) := funext hs
  obtain ⟨r, hr, hr0, -⟩ := rr_real t
  rw [am_eq, hr, ← amax_mul _ r hr0]
  exact congrArg Expo.amax (funext fun d => (q_eq t v c s r hr d).symm)

/-- And its codes the reference's. -/
theorem code_eq_real (hr : InRange (Expo.amax (q T w cs sn))) (d : Fin 128) :
    Row.clip (join (k1 T w cs sn) (k2 T w cs sn) d *
      min (rr T * Ideal.exp2 (0 - Row.expo ((Expo.kq : ℝ) : EReal) (Expo.amax (q T w cs sn)))) (fmax : EReal)) =
    Row.clip (q T w cs sn d * Ideal.exp2 (0 - Row.expo ((Expo.kq : ℝ) : EReal) (Expo.amax (q T w cs sn)))) := by
  obtain ⟨x, hx, hx0, hx1⟩ := inv_le _ (Expo.amax_nonneg _) hr
  rw [hx]
  clear hx hr
  choose t ht using hT
  choose v hv using hw
  choose c hc using hc
  choose s hs using hs
  obtain rfl : T = fun d => ((t d : ℝ) : EReal) := funext ht
  obtain rfl : w = fun d => ((v d : ℝ) : EReal) := funext hv
  obtain rfl : cs = fun d => ((c d : ℝ) : EReal) := funext hc
  obtain rfl : sn = fun d => ((s d : ℝ) : EReal) := funext hs
  obtain ⟨r, hr, hr0, hr1⟩ := rr_real t
  rw [q_eq t v c s r hr d, hr, ← EReal.coe_mul]
  have hb : r * x ≤ fmax := by
    calc r * x ≤ 1001 * (2 : ℝ) ^ (118 : ℤ) := mul_le_mul hr1 hx1 hx0.le (by norm_num)
      _ ≤ fmax := by norm_num
  rw [min_eq_left (EReal.coe_le_coe_iff.2 hb), EReal.coe_mul, mul_assoc]

end Finite

/-! ## Infinite values -/

/-- The infinities. -/
def Inf (x : EReal) : Prop := x = ⊤ ∨ x = ⊥

theorem real_or_inf (x : EReal) : (∃ y : ℝ, x = (y : EReal)) ∨ Inf x := by
  induction x with
  | bot => exact Or.inr (Or.inr rfl)
  | top => exact Or.inr (Or.inl rfl)
  | coe y => exact Or.inl ⟨y, rfl⟩

/-- A sum with an infinite term is infinite, and a product of an infinite value and a real that is not zero. -/
theorem Inf.add {x : EReal} (h : Inf x) (y : EReal) : Inf (x + y) := by
  rcases h with rfl | rfl
  · induction y with
    | bot => exact Or.inr (by simp)
    | top => exact Or.inl (by simp)
    | coe y => exact Or.inl (by simp)
  · exact Or.inr (by simp)

theorem Inf.add' {x : EReal} (h : Inf x) (y : EReal) : Inf (y + x) := by
  rw [add_comm]; exact h.add y

theorem Inf.neg {x : EReal} (h : Inf x) : Inf (-x) := by
  rcases h with rfl | rfl
  · exact Or.inr (by simp)
  · exact Or.inl (by simp)

theorem Inf.mul {x : EReal} (h : Inf x) (r : ℝ) (hr : r ≠ 0) : Inf (x * (r : EReal)) := by
  rcases lt_or_gt_of_ne hr with h0 | h0 <;> rcases h with rfl | rfl
  · exact Or.inr (EReal.top_mul_coe_of_neg h0)
  · exact Or.inl (EReal.bot_mul_coe_of_neg h0)
  · exact Or.inl (EReal.top_mul_coe_of_pos h0)
  · exact Or.inr (EReal.bot_mul_coe_of_pos h0)

theorem amax_top {ι : Type} [Fintype ι] (a : ι → EReal) (d : ι) (h : Inf (a d)) : Expo.amax a = ⊤ := by
  refine top_le_iff.1 (le_trans ?_ (Finset.le_sup (f := fun k => max (a k) (-a k)) (Finset.mem_univ d)))
  rcases h with h | h <;> rw [h] <;> simp

theorem not_inRange_top : ¬ InRange ⊤ := by
  rintro (h | ⟨-, h⟩)
  · exact absurd h (by simp)
  · exact absurd (top_le_iff.1 h) (EReal.coe_ne_top _)

/-- At an infinite head the norm's factor is zero. -/
theorem rr_inf (T : Fin 128 → EReal) (d : Fin 128) (h : Inf (T d)) : rr T = 0 := by
  have h0 : ∀ x : EReal, 0 ≤ x * x := fun x => by
    induction x with
    | bot => simp
    | top => simp
    | coe y => rw [← EReal.coe_mul]; exact EReal.coe_nonneg.2 (mul_self_nonneg y)
  have hs : (∑ k, T k * T k) = ⊤ := by
    refine top_le_iff.1 (le_trans ?_ (Finset.single_le_sum (f := fun k => T k * T k) (fun k _ => h0 (T k)) (Finset.mem_univ d)))
    rcases h with h | h <;> simp [h]
  have hd : Ideal.div ⊤ ((128 : ℝ) : EReal) = ⊤ := by
    unfold Ideal.div
    rw [if_neg (by exact_mod_cast (by norm_num : (128 : ℝ) ≠ 0)), ← EReal.coe_inv]
    exact EReal.top_mul_coe_of_pos (by norm_num)
  unfold rr
  rw [hs, hd, EReal.top_add_coe]
  rfl

section Cases
variable (T w : Fin 128 → EReal) (cs sn : Fin 64 → EReal)

theorem q_zero (h : ∀ d, tn T w d = 0) (d : Fin 128) : q T w cs sn d = 0 := by
  unfold q
  rcases lo_or_hi d with ⟨j, rfl⟩ | ⟨j, rfl⟩
  · rw [join_lo, h, h]; simp
  · rw [join_hi, h, h]; simp

theorem amax_zero (h : ∀ d, tn T w d = 0) : Expo.amax (q T w cs sn) = 0 := by
  rw [show q T w cs sn = fun _ => 0 from funext (q_zero T w cs sn h)]
  unfold Expo.amax
  simp [Finset.sup_const]

/-- The weights, zero where the head is. -/
def w0 (d : Fin 128) : EReal := if T d = 0 then 0 else w d

theorem mul_w0 (d : Fin 128) (x : EReal) : T d * x * w0 T w d = T d * x * w d := by
  unfold w0
  split_ifs with h
  · rw [h]; simp
  · rfl

theorem mul_w0' (d : Fin 128) (x : EReal) : T d * (x * w0 T w d) = T d * (x * w d) := by
  unfold w0
  split_ifs with h
  · rw [h]; simp
  · rfl

theorem tn_w0 : tn T (w0 T w) = tn T w := funext fun d => mul_w0 T w d _

theorem q_w0 : q T (w0 T w) cs sn = q T w cs sn := by
  unfold q; rw [tn_w0]

theorem k1_w0 : k1 T (w0 T w) cs sn = k1 T w cs sn := funext fun j => by
  unfold k1; rw [mul_w0', mul_w0']

theorem k2_w0 : k2 T (w0 T w) cs sn = k2 T w cs sn := funext fun j => by
  unfold k2; rw [mul_w0', mul_w0']

/-- An infinite normalised value makes the greatest rotated one infinite. -/
theorem amax_inf (c s : Fin 64 → ℝ) (hcs : ∀ j, c j ≠ 0 ∨ s j ≠ 0) (d : Fin 128) (h : Inf (tn T w d)) :
    Expo.amax (q T w (fun j => ((c j : ℝ) : EReal)) (fun j => ((s j : ℝ) : EReal))) = ⊤ := by
  rcases lo_or_hi d with ⟨j, rfl⟩ | ⟨j, rfl⟩ <;> rcases hcs j with h0 | h0
  · refine amax_top _ (lo j) ?_
    unfold q; rw [join_lo, sub_eq_add_neg]; exact (h.mul _ h0).add _
  · refine amax_top _ (hi j) ?_
    unfold q; rw [join_hi]; exact (h.mul _ h0).add' _
  · refine amax_top _ (hi j) ?_
    unfold q; rw [join_hi]; exact (h.mul _ h0).add _
  · refine amax_top _ (lo j) ?_
    unfold q; rw [join_lo, sub_eq_add_neg]; exact (h.mul _ h0).neg.add' _

/-- With the greatest rotated value in range, the norm's factor is zero, or the head is finite and the weights may be taken finite. -/
theorem zero_or_real (hc : ∀ j, ∃ y : ℝ, cs j = (y : EReal)) (hs : ∀ j, ∃ y : ℝ, sn j = (y : EReal)) (hcs : ∀ j, cs j ≠ 0 ∨ sn j ≠ 0)
    (hr : InRange (Expo.amax (q T w cs sn))) :
    rr T = 0 ∨ (∀ d, ∃ y : ℝ, T d = (y : EReal)) ∧ ∀ d, ∃ y : ℝ, w0 T w d = (y : EReal) := by
  by_cases hT : ∃ d, Inf (T d)
  · obtain ⟨d, hd⟩ := hT
    exact Or.inl (rr_inf T d hd)
  · have hT' : ∀ d, ∃ y : ℝ, T d = (y : EReal) := fun d => (real_or_inf (T d)).resolve_right fun h => hT ⟨d, h⟩
    refine Or.inr ⟨hT', fun d => ?_⟩
    by_cases h0 : T d = 0
    · exact ⟨0, by unfold w0; rw [if_pos h0]; rfl⟩
    · unfold w0
      rw [if_neg h0]
      refine (real_or_inf (w d)).resolve_right fun hw => ?_
      choose t ht using hT'
      choose c hc using hc
      choose s hs using hs
      obtain rfl : T = fun d => ((t d : ℝ) : EReal) := funext ht
      obtain rfl : cs = fun d => ((c d : ℝ) : EReal) := funext hc
      obtain rfl : sn = fun d => ((s d : ℝ) : EReal) := funext hs
      obtain ⟨r, hr', hr0, -⟩ := rr_real t
      have h1 : t d ≠ 0 := fun h => h0 (congrArg Real.toEReal h)
      refine not_inRange_top ?_
      rw [← amax_inf _ w c s (fun j => (hcs j).imp (fun h e => h (congrArg Real.toEReal e)) (fun h e => h (congrArg Real.toEReal e))) d ?_]
      · exact hr
      · unfold tn
        rw [hr', ← EReal.coe_mul, mul_comm]
        exact hw.mul _ (mul_ne_zero h1 hr0.ne')

end Cases

section Row
variable (T w : Fin 128 → EReal) (cs sn : Fin 64 → EReal)
  (hc : ∀ j, ∃ y : ℝ, cs j = (y : EReal)) (hs : ∀ j, ∃ y : ℝ, sn j = (y : EReal)) (hcs : ∀ j, cs j ≠ 0 ∨ sn j ≠ 0)
  (hr : InRange (Expo.amax (q T w cs sn)))
include hc hs hcs hr

/-- The kernel's maximum is the reference's. -/
theorem am_mul : am (k1 T w cs sn) (k2 T w cs sn) * rr T = Expo.amax (q T w cs sn) := by
  rcases zero_or_real T w cs sn hc hs hcs hr with h | ⟨hT, hw⟩
  · rw [h, mul_zero, amax_zero T w cs sn fun d => by unfold tn; rw [h]; simp]
  · rw [← k1_w0, ← k2_w0, ← q_w0 T w]
    exact am_mul_real T _ cs sn hT hw hc hs

/-- And its codes the reference's. -/
theorem code_eq (d : Fin 128) :
    Row.clip (join (k1 T w cs sn) (k2 T w cs sn) d *
      min (rr T * Ideal.exp2 (0 - Row.expo ((Expo.kq : ℝ) : EReal) (Expo.amax (q T w cs sn)))) (fmax : EReal)) =
    Row.clip (q T w cs sn d * Ideal.exp2 (0 - Row.expo ((Expo.kq : ℝ) : EReal) (Expo.amax (q T w cs sn)))) := by
  rcases zero_or_real T w cs sn hc hs hcs hr with h | ⟨hT, hw⟩
  · rw [h, zero_mul, min_eq_left (EReal.coe_nonneg.2 (by norm_num)), mul_zero, q_zero T w cs sn (fun d => by unfold tn; rw [h]; simp) d, zero_mul]
  · rw [← q_w0 T w] at hr ⊢
    rw [← k1_w0, ← k2_w0]
    exact code_eq_real T _ cs sn hT hw hc hs hr d

end Row

/-! ## The rotation's tables -/

/-- The frequency of lane `j`, and token `s`'s position from the batch's first. -/
def fr (j : Fin 64) : EReal :=
  Ideal.pow (Ideal.ofBits .f32 0x49742400#32) (Ideal.div (-(Ideal.ofBits .f32 0x40000000#32 * FloatOps.sitofp (F := Ideal) .f32 (BitVec.ofNat 32 j)))
    (Ideal.ofBits .f32 0x43000000#32))
def po (p : BitVec 32) (s : Fin 4096) : EReal := FloatOps.sitofp (F := Ideal) .f32 (IntOp.addi p (BitVec.ofNat 32 s))

/-- The cosine and the sine of their product. -/
def tc (p : BitVec 32) (s : Fin 4096) (j : Fin 64) : EReal := Ideal.cos (po p s * fr j)
def ts (p : BitVec 32) (s : Fin 4096) (j : Fin 64) : EReal := Ideal.sin (po p s * fr j)

theorem fr_real (j : Fin 64) : ∃ y : ℝ, fr j = (y : EReal) := by
  have h1 : Ideal.ofBits .f32 0x49742400#32 = ((1000000 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x43000000#32 = ((128 : ℝ) : EReal) := by
    simp [Ideal.ofBits, Ideal.ieee, -EReal.coe_mul]; norm_num
  have h4 : FloatOps.sitofp (F := Ideal) .f32 (BitVec.ofNat 32 j) = ((((BitVec.ofNat 32 j).toInt : ℤ) : ℝ) : EReal) := rfl
  unfold fr
  rw [h1, h2, h3, h4, ← EReal.coe_mul, ← EReal.coe_neg]
  unfold Ideal.div
  rw [if_neg (by exact_mod_cast (by norm_num : (128 : ℝ) ≠ 0)), ← EReal.coe_inv, ← EReal.coe_mul]
  exact ⟨_, rfl⟩

theorem po_real (p : BitVec 32) (s : Fin 4096) : ∃ y : ℝ, po p s = (y : EReal) := ⟨_, rfl⟩

theorem tc_real (p : BitVec 32) (s : Fin 4096) (j : Fin 64) : ∃ y : ℝ, tc p s j = (y : EReal) := by
  obtain ⟨y, hy⟩ := fr_real j
  obtain ⟨x, hx⟩ := po_real p s
  unfold tc
  rw [hx, hy, ← EReal.coe_mul]
  exact ⟨_, rfl⟩

theorem ts_real (p : BitVec 32) (s : Fin 4096) (j : Fin 64) : ∃ y : ℝ, ts p s j = (y : EReal) := by
  obtain ⟨y, hy⟩ := fr_real j
  obtain ⟨x, hx⟩ := po_real p s
  unfold ts
  rw [hx, hy, ← EReal.coe_mul]
  exact ⟨_, rfl⟩

/-- A token's cosine and sine are not both zero. -/
theorem tc_or_ts (p : BitVec 32) (s : Fin 4096) (j : Fin 64) : tc p s j ≠ 0 ∨ ts p s j ≠ 0 := by
  obtain ⟨y, hy⟩ := fr_real j
  obtain ⟨x, hx⟩ := po_real p s
  unfold tc ts
  rw [hx, hy, ← EReal.coe_mul]
  show ((Real.cos (x * y) : ℝ) : EReal) ≠ 0 ∨ ((Real.sin (x * y) : ℝ) : EReal) ≠ 0
  by_contra hn
  rw [not_or, not_not, not_not] at hn
  have h1 : Real.cos (x * y) = 0 := by exact_mod_cast hn.1
  have h2 : Real.sin (x * y) = 0 := by exact_mod_cast hn.2
  have := Real.sin_sq_add_cos_sq (x * y)
  rw [h1, h2] at this
  norm_num at this

end Cert.QRow
-- ==== Proof.QkModel.lean ====
/- The query and key quantiser's body: what it stores for one head and 128 tokens, as one function of the tables, the
   weights and the inputs that it reads for them. -/
module

public import proofs.«01_k».proof.Proof.Expo
public import proofs.«01_k».proof.Proof.Gen.QkPrepIdeal.Value

@[expose] public section

set_option maxRecDepth 16384

noncomputable section

namespace Cert.QkPrepIdeal.QK

open Idealize.ShloMosaic Idealize.ShloMosaic.TcCoe Idealize.ShloMosaic.Pointwise Cert.QkPrepIdeal.Gen

variable {F : FTy → Type} [FloatOps F]

/-- The two halves of the head, rotated, before the row's factor; `a`, `b` the cosines and sines, `w1`, `w2` the weights' halves. -/
def u1 (a b : Vec F S1x64x128 .f32) (w1 w2 : Vec F S64x128 .f32) (v : Vec F S1x128x128 .bf16) : FVec F S64x128 .f32 := k0_pay14 a b w1 w2 v
def u2 (a b : Vec F S1x64x128 .f32) (w1 w2 : Vec F S64x128 .f32) (v : Vec F S1x128x128 .bf16) : FVec F S64x128 .f32 := k0_pay15 a b w1 w2 v

/-- The rows' factors. -/
def rr (v : Vec F S1x128x128 .bf16) : FVec F S1x128 .f32 := k0_pay11 v

/-- The rows' maxima times the quantiser's constant. -/
def cc (r : FVec F S1x128 .f32) (y1 y2 : FVec F S64x128 .f32) : FVec F S1x128 .f32 :=
  mulf (mulf (shapeCast S1x128 (multiReduction .maximumf [0] S128 (maximumf (absf y1) (absf y2)) 0xFF800000#32 reduces_S64x128_S128 (.inl rfl) rfl)
    shapeCasts_S128_S1x128) r) (broadcast S1x128 (Scalar.ofBits .f32 0x3B124925#32))

/-- The codes before the cast, transposed. -/
def code (r w : FVec F S1x128 .f32) (y1 y2 : FVec F S64x128 .f32) : FVec F S128x128 .f32 :=
  minimumf (broadcast S128x128 (Scalar.ofBits .f32 0x43E00000#32)) (maximumf (broadcast S128x128 (Scalar.ofBits .f32 0xC3E00000#32))
    (mulf (concatenate S128x128 0 [⟨S64x128, y1⟩, ⟨S64x128, y2⟩] concatenates_S64x128_S64x128_S128x128_d0)
      (broadcastTo S128x128 (minimumf (mulf r w) (broadcast S1x128 (Scalar.ofBits .f32 0x7F7FFFFF#32))) broadcasts_S1x128_S128x128)))

def store (u : FVec F S128x128 .f32) : FVec F S1x128x128 .fp8e4m3 :=
  shapeCast S1x128x128 (truncf .fp8e4m3 (transpose S128x128 [1, 0] u transposes_S128x128_p1_0_S128x128) bitsLt_fp8e4m3_f32) shapeCasts_S128x128_S1x128x128

def storeT (u : FVec F S128x128 .f32) : FVec F S1x1x128x128 .fp8e4m3 :=
  shapeCast S1x1x128x128 (truncf .fp8e4m3 u bitsLt_fp8e4m3_f32) shapeCasts_S128x128_S1x1x128x128

def storeS (u : FVec F S1x128 .f32) : FVec F S1x1x128 .f32 :=
  shapeCast S1x1x128 (shapeCast S128 u shapeCasts_S1x128_S128) shapeCasts_S128_S1x1x128

variable (a b : Vec F S1x64x128 .f32) (w1 w2 : Vec F S64x128 .f32) (v : Vec F S1x128x128 .bf16)

def ccv : FVec F S1x128 .f32 := cc (rr v) (u1 a b w1 w2 v) (u2 a b w1 w2 v)
def codev : FVec F S128x128 .f32 := code (rr v) (Expo.inv (ccv a b w1 w2 v)) (u1 a b w1 w2 v) (u2 a b w1 w2 v)

end Cert.QkPrepIdeal.QK
-- ==== Proof.QkPieces.lean ====
/- The query and key quantiser's output blocks: every piece that the body stores is the one function of QkModel. -/
module

public import proofs.«01_k».proof.Proof.QkModel

@[expose] public section

set_option maxRecDepth 16384
set_option maxHeartbeats 4000000

noncomputable section

namespace Cert.QkPrepIdeal.QK

open Idealize.ShloMosaic Idealize.ShloMosaic.TcCoe Idealize.ShloMosaic.Pointwise Cert.QkPrepIdeal.Gen

variable {F : FTy → Type} [FloatOps F] (x0 : Vec F S1x512x1024 .bf16) (x1 : Vec F S1x512x1024 .bf16) (x2 : Vec F S1x64x512 .f32)
  (x3 : Vec F S1x64x512 .f32) (x4 : Vec F S128x128 .f32) (x5 : Vec F S128x128 .f32)

theorem out6 : out0_6 x0 x1 x2 x3 x4 x5 = View.canon [
    ⟨r0_92, store (codev (View.ld x2 r0_77) (View.ld x3 r0_77) (View.ld x4 r0_1) (View.ld x4 r0_2) (View.ld x0 r0_92))⟩,
    ⟨r0_90, store (codev (View.ld x2 r0_77) (View.ld x3 r0_77) (View.ld x4 r0_1) (View.ld x4 r0_2) (View.ld x0 r0_90))⟩,
    ⟨r0_88, store (codev (View.ld x2 r0_77) (View.ld x3 r0_77) (View.ld x4 r0_1) (View.ld x4 r0_2) (View.ld x0 r0_88))⟩,
    ⟨r0_86, store (codev (View.ld x2 r0_77) (View.ld x3 r0_77) (View.ld x4 r0_1) (View.ld x4 r0_2) (View.ld x0 r0_86))⟩,
    ⟨r0_84, store (codev (View.ld x2 r0_77) (View.ld x3 r0_77) (View.ld x4 r0_1) (View.ld x4 r0_2) (View.ld x0 r0_84))⟩,
    ⟨r0_82, store (codev (View.ld x2 r0_77) (View.ld x3 r0_77) (View.ld x4 r0_1) (View.ld x4 r0_2) (View.ld x0 r0_82))⟩,
    ⟨r0_80, store (codev (View.ld x2 r0_77) (View.ld x3 r0_77) (View.ld x4 r0_1) (View.ld x4 r0_2) (View.ld x0 r0_80))⟩,
    ⟨r0_78, store (codev (View.ld x2 r0_77) (View.ld x3 r0_77) (View.ld x4 r0_1) (View.ld x4 r0_2) (View.ld x0 r0_78))⟩,
    ⟨r0_67, store (codev (View.ld x2 r0_52) (View.ld x3 r0_52) (View.ld x4 r0_1) (View.ld x4 r0_2) (View.ld x0 r0_67))⟩,
    ⟨r0_65, store (codev (View.ld x2 r0_52) (View.ld x3 r0_52) (View.ld x4 r0_1) (View.ld x4 r0_2) (View.ld x0 r0_65))⟩,
    ⟨r0_63, store (codev (View.ld x2 r0_52) (View.ld x3 r0_52) (View.ld x4 r0_1) (View.ld x4 r0_2) (View.ld x0 r0_63))⟩,
    ⟨r0_61, store (codev (View.ld x2 r0_52) (View.ld x3 r0_52) (View.ld x4 r0_1) (View.ld x4 r0_2) (View.ld x0 r0_61))⟩,
    ⟨r0_59, store (codev (View.ld x2 r0_52) (View.ld x3 r0_52) (View.ld x4 r0_1) (View.ld x4 r0_2) (View.ld x0 r0_59))⟩,
    ⟨r0_57, store (codev (View.ld x2 r0_52) (View.ld x3 r0_52) (View.ld x4 r0_1) (View.ld x4 r0_2) (View.ld x0 r0_57))⟩,
    ⟨r0_55, store (codev (View.ld x2 r0_52) (View.ld x3 r0_52) (View.ld x4 r0_1) (View.ld x4 r0_2) (View.ld x0 r0_55))⟩,
    ⟨r0_53, store (codev (View.ld x2 r0_52) (View.ld x3 r0_52) (View.ld x4 r0_1) (View.ld x4 r0_2) (View.ld x0 r0_53))⟩,
    ⟨r0_42, store (codev (View.ld x2 r0_27) (View.ld x3 r0_27) (View.ld x4 r0_1) (View.ld x4 r0_2) (View.ld x0 r0_42))⟩,
    ⟨r0_40, store (codev (View.ld x2 r0_27) (View.ld x3 r0_27) (View.ld x4 r0_1) (View.ld x4 r0_2) (View.ld x0 r0_40))⟩,
    ⟨r0_38, store (codev (View.ld x2 r0_27) (View.ld x3 r0_27) (View.ld x4 r0_1) (View.ld x4 r0_2) (View.ld x0 r0_38))⟩,
    ⟨r0_36, store (codev (View.ld x2 r0_27) (View.ld x3 r0_27) (View.ld x4 r0_1) (View.ld x4 r0_2) (View.ld x0 r0_36))⟩,
    ⟨r0_34, store (codev (View.ld x2 r0_27) (View.ld x3 r0_27) (View.ld x4 r0_1) (View.ld x4 r0_2) (View.ld x0 r0_34))⟩,
    ⟨r0_32, store (codev (View.ld x2 r0_27) (View.ld x3 r0_27) (View.ld x4 r0_1) (View.ld x4 r0_2) (View.ld x0 r0_32))⟩,
    ⟨r0_30, store (codev (View.ld x2 r0_27) (View.ld x3 r0_27) (View.ld x4 r0_1) (View.ld x4 r0_2) (View.ld x0 r0_30))⟩,
    ⟨r0_28, store (codev (View.ld x2 r0_27) (View.ld x3 r0_27) (View.ld x4 r0_1) (View.ld x4 r0_2) (View.ld x0 r0_28))⟩,
    ⟨r0_17, store (codev (View.ld x2 r0_0) (View.ld x3 r0_0) (View.ld x4 r0_1) (View.ld x4 r0_2) (View.ld x0 r0_17))⟩,
    ⟨r0_15, store (codev (View.ld x2 r0_0) (View.ld x3 r0_0) (View.ld x4 r0_1) (View.ld x4 r0_2) (View.ld x0 r0_15))⟩,
    ⟨r0_13, store (codev (View.ld x2 r0_0) (View.ld x3 r0_0) (View.ld x4 r0_1) (View.ld x4 r0_2) (View.ld x0 r0_13))⟩,
    ⟨r0_11, store (codev (View.ld x2 r0_0) (View.ld x3 r0_0) (View.ld x4 r0_1) (View.ld x4 r0_2) (View.ld x0 r0_11))⟩,
    ⟨r0_9, store (codev (View.ld x2 r0_0) (View.ld x3 r0_0) (View.ld x4 r0_1) (View.ld x4 r0_2) (View.ld x0 r0_9))⟩,
    ⟨r0_7, store (codev (View.ld x2 r0_0) (View.ld x3 r0_0) (View.ld x4 r0_1) (View.ld x4 r0_2) (View.ld x0 r0_7))⟩,
    ⟨r0_5, store (codev (View.ld x2 r0_0) (View.ld x3 r0_0) (View.ld x4 r0_1) (View.ld x4 r0_2) (View.ld x0 r0_5))⟩,
    ⟨r0_3, store (codev (View.ld x2 r0_0) (View.ld x3 r0_0) (View.ld x4 r0_1) (View.ld x4 r0_2) (View.ld x0 r0_3))⟩] := rfl

theorem out7 : out0_7 x0 x1 x2 x3 x4 x5 = View.canon [
    ⟨r0_92, store (codev (View.ld x2 r0_77) (View.ld x3 r0_77) (View.ld x5 r0_1) (View.ld x5 r0_2) (View.ld x1 r0_92))⟩,
    ⟨r0_90, store (codev (View.ld x2 r0_77) (View.ld x3 r0_77) (View.ld x5 r0_1) (View.ld x5 r0_2) (View.ld x1 r0_90))⟩,
    ⟨r0_88, store (codev (View.ld x2 r0_77) (View.ld x3 r0_77) (View.ld x5 r0_1) (View.ld x5 r0_2) (View.ld x1 r0_88))⟩,
    ⟨r0_86, store (codev (View.ld x2 r0_77) (View.ld x3 r0_77) (View.ld x5 r0_1) (View.ld x5 r0_2) (View.ld x1 r0_86))⟩,
    ⟨r0_84, store (codev (View.ld x2 r0_77) (View.ld x3 r0_77) (View.ld x5 r0_1) (View.ld x5 r0_2) (View.ld x1 r0_84))⟩,
    ⟨r0_82, store (codev (View.ld x2 r0_77) (View.ld x3 r0_77) (View.ld x5 r0_1) (View.ld x5 r0_2) (View.ld x1 r0_82))⟩,
    ⟨r0_80, store (codev (View.ld x2 r0_77) (View.ld x3 r0_77) (View.ld x5 r0_1) (View.ld x5 r0_2) (View.ld x1 r0_80))⟩,
    ⟨r0_78, store (codev (View.ld x2 r0_77) (View.ld x3 r0_77) (View.ld x5 r0_1) (View.ld x5 r0_2) (View.ld x1 r0_78))⟩,
    ⟨r0_67, store (codev (View.ld x2 r0_52) (View.ld x3 r0_52) (View.ld x5 r0_1) (View.ld x5 r0_2) (View.ld x1 r0_67))⟩,
    ⟨r0_65, store (codev (View.ld x2 r0_52) (View.ld x3 r0_52) (View.ld x5 r0_1) (View.ld x5 r0_2) (View.ld x1 r0_65))⟩,
    ⟨r0_63, store (codev (View.ld x2 r0_52) (View.ld x3 r0_52) (View.ld x5 r0_1) (View.ld x5 r0_2) (View.ld x1 r0_63))⟩,
    ⟨r0_61, store (codev (View.ld x2 r0_52) (View.ld x3 r0_52) (View.ld x5 r0_1) (View.ld x5 r0_2) (View.ld x1 r0_61))⟩,
    ⟨r0_59, store (codev (View.ld x2 r0_52) (View.ld x3 r0_52) (View.ld x5 r0_1) (View.ld x5 r0_2) (View.ld x1 r0_59))⟩,
    ⟨r0_57, store (codev (View.ld x2 r0_52) (View.ld x3 r0_52) (View.ld x5 r0_1) (View.ld x5 r0_2) (View.ld x1 r0_57))⟩,
    ⟨r0_55, store (codev (View.ld x2 r0_52) (View.ld x3 r0_52) (View.ld x5 r0_1) (View.ld x5 r0_2) (View.ld x1 r0_55))⟩,
    ⟨r0_53, store (codev (View.ld x2 r0_52) (View.ld x3 r0_52) (View.ld x5 r0_1) (View.ld x5 r0_2) (View.ld x1 r0_53))⟩,
    ⟨r0_42, store (codev (View.ld x2 r0_27) (View.ld x3 r0_27) (View.ld x5 r0_1) (View.ld x5 r0_2) (View.ld x1 r0_42))⟩,
    ⟨r0_40, store (codev (View.ld x2 r0_27) (View.ld x3 r0_27) (View.ld x5 r0_1) (View.ld x5 r0_2) (View.ld x1 r0_40))⟩,
    ⟨r0_38, store (codev (View.ld x2 r0_27) (View.ld x3 r0_27) (View.ld x5 r0_1) (View.ld x5 r0_2) (View.ld x1 r0_38))⟩,
    ⟨r0_36, store (codev (View.ld x2 r0_27) (View.ld x3 r0_27) (View.ld x5 r0_1) (View.ld x5 r0_2) (View.ld x1 r0_36))⟩,
    ⟨r0_34, store (codev (View.ld x2 r0_27) (View.ld x3 r0_27) (View.ld x5 r0_1) (View.ld x5 r0_2) (View.ld x1 r0_34))⟩,
    ⟨r0_32, store (codev (View.ld x2 r0_27) (View.ld x3 r0_27) (View.ld x5 r0_1) (View.ld x5 r0_2) (View.ld x1 r0_32))⟩,
    ⟨r0_30, store (codev (View.ld x2 r0_27) (View.ld x3 r0_27) (View.ld x5 r0_1) (View.ld x5 r0_2) (View.ld x1 r0_30))⟩,
    ⟨r0_28, store (codev (View.ld x2 r0_27) (View.ld x3 r0_27) (View.ld x5 r0_1) (View.ld x5 r0_2) (View.ld x1 r0_28))⟩,
    ⟨r0_17, store (codev (View.ld x2 r0_0) (View.ld x3 r0_0) (View.ld x5 r0_1) (View.ld x5 r0_2) (View.ld x1 r0_17))⟩,
    ⟨r0_15, store (codev (View.ld x2 r0_0) (View.ld x3 r0_0) (View.ld x5 r0_1) (View.ld x5 r0_2) (View.ld x1 r0_15))⟩,
    ⟨r0_13, store (codev (View.ld x2 r0_0) (View.ld x3 r0_0) (View.ld x5 r0_1) (View.ld x5 r0_2) (View.ld x1 r0_13))⟩,
    ⟨r0_11, store (codev (View.ld x2 r0_0) (View.ld x3 r0_0) (View.ld x5 r0_1) (View.ld x5 r0_2) (View.ld x1 r0_11))⟩,
    ⟨r0_9, store (codev (View.ld x2 r0_0) (View.ld x3 r0_0) (View.ld x5 r0_1) (View.ld x5 r0_2) (View.ld x1 r0_9))⟩,
    ⟨r0_7, store (codev (View.ld x2 r0_0) (View.ld x3 r0_0) (View.ld x5 r0_1) (View.ld x5 r0_2) (View.ld x1 r0_7))⟩,
    ⟨r0_5, store (codev (View.ld x2 r0_0) (View.ld x3 r0_0) (View.ld x5 r0_1) (View.ld x5 r0_2) (View.ld x1 r0_5))⟩,
    ⟨r0_3, store (codev (View.ld x2 r0_0) (View.ld x3 r0_0) (View.ld x5 r0_1) (View.ld x5 r0_2) (View.ld x1 r0_3))⟩] := rfl

theorem out8 : out0_8 x0 x1 x2 x3 x4 x5 = View.canon [
    ⟨r0_101, storeT (codev (View.ld x2 r0_77) (View.ld x3 r0_77) (View.ld x5 r0_1) (View.ld x5 r0_2) (View.ld x1 r0_92))⟩,
    ⟨r0_100, storeT (codev (View.ld x2 r0_77) (View.ld x3 r0_77) (View.ld x5 r0_1) (View.ld x5 r0_2) (View.ld x1 r0_90))⟩,
    ⟨r0_99, storeT (codev (View.ld x2 r0_77) (View.ld x3 r0_77) (View.ld x5 r0_1) (View.ld x5 r0_2) (View.ld x1 r0_88))⟩,
    ⟨r0_98, storeT (codev (View.ld x2 r0_77) (View.ld x3 r0_77) (View.ld x5 r0_1) (View.ld x5 r0_2) (View.ld x1 r0_86))⟩,
    ⟨r0_97, storeT (codev (View.ld x2 r0_77) (View.ld x3 r0_77) (View.ld x5 r0_1) (View.ld x5 r0_2) (View.ld x1 r0_84))⟩,
    ⟨r0_96, storeT (codev (View.ld x2 r0_77) (View.ld x3 r0_77) (View.ld x5 r0_1) (View.ld x5 r0_2) (View.ld x1 r0_82))⟩,
    ⟨r0_95, storeT (codev (View.ld x2 r0_77) (View.ld x3 r0_77) (View.ld x5 r0_1) (View.ld x5 r0_2) (View.ld x1 r0_80))⟩,
    ⟨r0_94, storeT (codev (View.ld x2 r0_77) (View.ld x3 r0_77) (View.ld x5 r0_1) (View.ld x5 r0_2) (View.ld x1 r0_78))⟩,
    ⟨r0_76, storeT (codev (View.ld x2 r0_52) (View.ld x3 r0_52) (View.ld x5 r0_1) (View.ld x5 r0_2) (View.ld x1 r0_67))⟩,
    ⟨r0_75, storeT (codev (View.ld x2 r0_52) (View.ld x3 r0_52) (View.ld x5 r0_1) (View.ld x5 r0_2) (View.ld x1 r0_65))⟩,
    ⟨r0_74, storeT (codev (View.ld x2 r0_52) (View.ld x3 r0_52) (View.ld x5 r0_1) (View.ld x5 r0_2) (View.ld x1 r0_63))⟩,
    ⟨r0_73, storeT (codev (View.ld x2 r0_52) (View.ld x3 r0_52) (View.ld x5 r0_1) (View.ld x5 r0_2) (View.ld x1 r0_61))⟩,
    ⟨r0_72, storeT (codev (View.ld x2 r0_52) (View.ld x3 r0_52) (View.ld x5 r0_1) (View.ld x5 r0_2) (View.ld x1 r0_59))⟩,
    ⟨r0_71, storeT (codev (View.ld x2 r0_52) (View.ld x3 r0_52) (View.ld x5 r0_1) (View.ld x5 r0_2) (View.ld x1 r0_57))⟩,
    ⟨r0_70, storeT (codev (View.ld x2 r0_52) (View.ld x3 r0_52) (View.ld x5 r0_1) (View.ld x5 r0_2) (View.ld x1 r0_55))⟩,
    ⟨r0_69, storeT (codev (View.ld x2 r0_52) (View.ld x3 r0_52) (View.ld x5 r0_1) (View.ld x5 r0_2) (View.ld x1 r0_53))⟩,
    ⟨r0_51, storeT (codev (View.ld x2 r0_27) (View.ld x3 r0_27) (View.ld x5 r0_1) (View.ld x5 r0_2) (View.ld x1 r0_42))⟩,
    ⟨r0_50, storeT (codev (View.ld x2 r0_27) (View.ld x3 r0_27) (View.ld x5 r0_1) (View.ld x5 r0_2) (View.ld x1 r0_40))⟩,
    ⟨r0_49, storeT (codev (View.ld x2 r0_27) (View.ld x3 r0_27) (View.ld x5 r0_1) (View.ld x5 r0_2) (View.ld x1 r0_38))⟩,
    ⟨r0_48, storeT (codev (View.ld x2 r0_27) (View.ld x3 r0_27) (View.ld x5 r0_1) (View.ld x5 r0_2) (View.ld x1 r0_36))⟩,
    ⟨r0_47, storeT (codev (View.ld x2 r0_27) (View.ld x3 r0_27) (View.ld x5 r0_1) (View.ld x5 r0_2) (View.ld x1 r0_34))⟩,
    ⟨r0_46, storeT (codev (View.ld x2 r0_27) (View.ld x3 r0_27) (View.ld x5 r0_1) (View.ld x5 r0_2) (View.ld x1 r0_32))⟩,
    ⟨r0_45, storeT (codev (View.ld x2 r0_27) (View.ld x3 r0_27) (View.ld x5 r0_1) (View.ld x5 r0_2) (View.ld x1 r0_30))⟩,
    ⟨r0_44, storeT (codev (View.ld x2 r0_27) (View.ld x3 r0_27) (View.ld x5 r0_1) (View.ld x5 r0_2) (View.ld x1 r0_28))⟩,
    ⟨r0_26, storeT (codev (View.ld x2 r0_0) (View.ld x3 r0_0) (View.ld x5 r0_1) (View.ld x5 r0_2) (View.ld x1 r0_17))⟩,
    ⟨r0_25, storeT (codev (View.ld x2 r0_0) (View.ld x3 r0_0) (View.ld x5 r0_1) (View.ld x5 r0_2) (View.ld x1 r0_15))⟩,
    ⟨r0_24, storeT (codev (View.ld x2 r0_0) (View.ld x3 r0_0) (View.ld x5 r0_1) (View.ld x5 r0_2) (View.ld x1 r0_13))⟩,
    ⟨r0_23, storeT (codev (View.ld x2 r0_0) (View.ld x3 r0_0) (View.ld x5 r0_1) (View.ld x5 r0_2) (View.ld x1 r0_11))⟩,
    ⟨r0_22, storeT (codev (View.ld x2 r0_0) (View.ld x3 r0_0) (View.ld x5 r0_1) (View.ld x5 r0_2) (View.ld x1 r0_9))⟩,
    ⟨r0_21, storeT (codev (View.ld x2 r0_0) (View.ld x3 r0_0) (View.ld x5 r0_1) (View.ld x5 r0_2) (View.ld x1 r0_7))⟩,
    ⟨r0_20, storeT (codev (View.ld x2 r0_0) (View.ld x3 r0_0) (View.ld x5 r0_1) (View.ld x5 r0_2) (View.ld x1 r0_5))⟩,
    ⟨r0_19, storeT (codev (View.ld x2 r0_0) (View.ld x3 r0_0) (View.ld x5 r0_1) (View.ld x5 r0_2) (View.ld x1 r0_3))⟩] := rfl

theorem out9 : out0_9 x0 x1 x2 x3 x4 x5 = View.canon [
    ⟨r0_93, storeS (Expo.scale (ccv (View.ld x2 r0_77) (View.ld x3 r0_77) (View.ld x4 r0_1) (View.ld x4 r0_2) (View.ld x0 r0_92)))⟩,
    ⟨r0_91, storeS (Expo.scale (ccv (View.ld x2 r0_77) (View.ld x3 r0_77) (View.ld x4 r0_1) (View.ld x4 r0_2) (View.ld x0 r0_90)))⟩,
    ⟨r0_89, storeS (Expo.scale (ccv (View.ld x2 r0_77) (View.ld x3 r0_77) (View.ld x4 r0_1) (View.ld x4 r0_2) (View.ld x0 r0_88)))⟩,
    ⟨r0_87, storeS (Expo.scale (ccv (View.ld x2 r0_77) (View.ld x3 r0_77) (View.ld x4 r0_1) (View.ld x4 r0_2) (View.ld x0 r0_86)))⟩,
    ⟨r0_85, storeS (Expo.scale (ccv (View.ld x2 r0_77) (View.ld x3 r0_77) (View.ld x4 r0_1) (View.ld x4 r0_2) (View.ld x0 r0_84)))⟩,
    ⟨r0_83, storeS (Expo.scale (ccv (View.ld x2 r0_77) (View.ld x3 r0_77) (View.ld x4 r0_1) (View.ld x4 r0_2) (View.ld x0 r0_82)))⟩,
    ⟨r0_81, storeS (Expo.scale (ccv (View.ld x2 r0_77) (View.ld x3 r0_77) (View.ld x4 r0_1) (View.ld x4 r0_2) (View.ld x0 r0_80)))⟩,
    ⟨r0_79, storeS (Expo.scale (ccv (View.ld x2 r0_77) (View.ld x3 r0_77) (View.ld x4 r0_1) (View.ld x4 r0_2) (View.ld x0 r0_78)))⟩,
    ⟨r0_68, storeS (Expo.scale (ccv (View.ld x2 r0_52) (View.ld x3 r0_52) (View.ld x4 r0_1) (View.ld x4 r0_2) (View.ld x0 r0_67)))⟩,
    ⟨r0_66, storeS (Expo.scale (ccv (View.ld x2 r0_52) (View.ld x3 r0_52) (View.ld x4 r0_1) (View.ld x4 r0_2) (View.ld x0 r0_65)))⟩,
    ⟨r0_64, storeS (Expo.scale (ccv (View.ld x2 r0_52) (View.ld x3 r0_52) (View.ld x4 r0_1) (View.ld x4 r0_2) (View.ld x0 r0_63)))⟩,
    ⟨r0_62, storeS (Expo.scale (ccv (View.ld x2 r0_52) (View.ld x3 r0_52) (View.ld x4 r0_1) (View.ld x4 r0_2) (View.ld x0 r0_61)))⟩,
    ⟨r0_60, storeS (Expo.scale (ccv (View.ld x2 r0_52) (View.ld x3 r0_52) (View.ld x4 r0_1) (View.ld x4 r0_2) (View.ld x0 r0_59)))⟩,
    ⟨r0_58, storeS (Expo.scale (ccv (View.ld x2 r0_52) (View.ld x3 r0_52) (View.ld x4 r0_1) (View.ld x4 r0_2) (View.ld x0 r0_57)))⟩,
    ⟨r0_56, storeS (Expo.scale (ccv (View.ld x2 r0_52) (View.ld x3 r0_52) (View.ld x4 r0_1) (View.ld x4 r0_2) (View.ld x0 r0_55)))⟩,
    ⟨r0_54, storeS (Expo.scale (ccv (View.ld x2 r0_52) (View.ld x3 r0_52) (View.ld x4 r0_1) (View.ld x4 r0_2) (View.ld x0 r0_53)))⟩,
    ⟨r0_43, storeS (Expo.scale (ccv (View.ld x2 r0_27) (View.ld x3 r0_27) (View.ld x4 r0_1) (View.ld x4 r0_2) (View.ld x0 r0_42)))⟩,
    ⟨r0_41, storeS (Expo.scale (ccv (View.ld x2 r0_27) (View.ld x3 r0_27) (View.ld x4 r0_1) (View.ld x4 r0_2) (View.ld x0 r0_40)))⟩,
    ⟨r0_39, storeS (Expo.scale (ccv (View.ld x2 r0_27) (View.ld x3 r0_27) (View.ld x4 r0_1) (View.ld x4 r0_2) (View.ld x0 r0_38)))⟩,
    ⟨r0_37, storeS (Expo.scale (ccv (View.ld x2 r0_27) (View.ld x3 r0_27) (View.ld x4 r0_1) (View.ld x4 r0_2) (View.ld x0 r0_36)))⟩,
    ⟨r0_35, storeS (Expo.scale (ccv (View.ld x2 r0_27) (View.ld x3 r0_27) (View.ld x4 r0_1) (View.ld x4 r0_2) (View.ld x0 r0_34)))⟩,
    ⟨r0_33, storeS (Expo.scale (ccv (View.ld x2 r0_27) (View.ld x3 r0_27) (View.ld x4 r0_1) (View.ld x4 r0_2) (View.ld x0 r0_32)))⟩,
    ⟨r0_31, storeS (Expo.scale (ccv (View.ld x2 r0_27) (View.ld x3 r0_27) (View.ld x4 r0_1) (View.ld x4 r0_2) (View.ld x0 r0_30)))⟩,
    ⟨r0_29, storeS (Expo.scale (ccv (View.ld x2 r0_27) (View.ld x3 r0_27) (View.ld x4 r0_1) (View.ld x4 r0_2) (View.ld x0 r0_28)))⟩,
    ⟨r0_18, storeS (Expo.scale (ccv (View.ld x2 r0_0) (View.ld x3 r0_0) (View.ld x4 r0_1) (View.ld x4 r0_2) (View.ld x0 r0_17)))⟩,
    ⟨r0_16, storeS (Expo.scale (ccv (View.ld x2 r0_0) (View.ld x3 r0_0) (View.ld x4 r0_1) (View.ld x4 r0_2) (View.ld x0 r0_15)))⟩,
    ⟨r0_14, storeS (Expo.scale (ccv (View.ld x2 r0_0) (View.ld x3 r0_0) (View.ld x4 r0_1) (View.ld x4 r0_2) (View.ld x0 r0_13)))⟩,
    ⟨r0_12, storeS (Expo.scale (ccv (View.ld x2 r0_0) (View.ld x3 r0_0) (View.ld x4 r0_1) (View.ld x4 r0_2) (View.ld x0 r0_11)))⟩,
    ⟨r0_10, storeS (Expo.scale (ccv (View.ld x2 r0_0) (View.ld x3 r0_0) (View.ld x4 r0_1) (View.ld x4 r0_2) (View.ld x0 r0_9)))⟩,
    ⟨r0_8, storeS (Expo.scale (ccv (View.ld x2 r0_0) (View.ld x3 r0_0) (View.ld x4 r0_1) (View.ld x4 r0_2) (View.ld x0 r0_7)))⟩,
    ⟨r0_6, storeS (Expo.scale (ccv (View.ld x2 r0_0) (View.ld x3 r0_0) (View.ld x4 r0_1) (View.ld x4 r0_2) (View.ld x0 r0_5)))⟩,
    ⟨r0_4, storeS (Expo.scale (ccv (View.ld x2 r0_0) (View.ld x3 r0_0) (View.ld x4 r0_1) (View.ld x4 r0_2) (View.ld x0 r0_3)))⟩] := rfl

theorem out10 : out0_10 x0 x1 x2 x3 x4 x5 = View.canon [
    ⟨r0_93, storeS (Expo.scale (ccv (View.ld x2 r0_77) (View.ld x3 r0_77) (View.ld x5 r0_1) (View.ld x5 r0_2) (View.ld x1 r0_92)))⟩,
    ⟨r0_91, storeS (Expo.scale (ccv (View.ld x2 r0_77) (View.ld x3 r0_77) (View.ld x5 r0_1) (View.ld x5 r0_2) (View.ld x1 r0_90)))⟩,
    ⟨r0_89, storeS (Expo.scale (ccv (View.ld x2 r0_77) (View.ld x3 r0_77) (View.ld x5 r0_1) (View.ld x5 r0_2) (View.ld x1 r0_88)))⟩,
    ⟨r0_87, storeS (Expo.scale (ccv (View.ld x2 r0_77) (View.ld x3 r0_77) (View.ld x5 r0_1) (View.ld x5 r0_2) (View.ld x1 r0_86)))⟩,
    ⟨r0_85, storeS (Expo.scale (ccv (View.ld x2 r0_77) (View.ld x3 r0_77) (View.ld x5 r0_1) (View.ld x5 r0_2) (View.ld x1 r0_84)))⟩,
    ⟨r0_83, storeS (Expo.scale (ccv (View.ld x2 r0_77) (View.ld x3 r0_77) (View.ld x5 r0_1) (View.ld x5 r0_2) (View.ld x1 r0_82)))⟩,
    ⟨r0_81, storeS (Expo.scale (ccv (View.ld x2 r0_77) (View.ld x3 r0_77) (View.ld x5 r0_1) (View.ld x5 r0_2) (View.ld x1 r0_80)))⟩,
    ⟨r0_79, storeS (Expo.scale (ccv (View.ld x2 r0_77) (View.ld x3 r0_77) (View.ld x5 r0_1) (View.ld x5 r0_2) (View.ld x1 r0_78)))⟩,
    ⟨r0_68, storeS (Expo.scale (ccv (View.ld x2 r0_52) (View.ld x3 r0_52) (View.ld x5 r0_1) (View.ld x5 r0_2) (View.ld x1 r0_67)))⟩,
    ⟨r0_66, storeS (Expo.scale (ccv (View.ld x2 r0_52) (View.ld x3 r0_52) (View.ld x5 r0_1) (View.ld x5 r0_2) (View.ld x1 r0_65)))⟩,
    ⟨r0_64, storeS (Expo.scale (ccv (View.ld x2 r0_52) (View.ld x3 r0_52) (View.ld x5 r0_1) (View.ld x5 r0_2) (View.ld x1 r0_63)))⟩,
    ⟨r0_62, storeS (Expo.scale (ccv (View.ld x2 r0_52) (View.ld x3 r0_52) (View.ld x5 r0_1) (View.ld x5 r0_2) (View.ld x1 r0_61)))⟩,
    ⟨r0_60, storeS (Expo.scale (ccv (View.ld x2 r0_52) (View.ld x3 r0_52) (View.ld x5 r0_1) (View.ld x5 r0_2) (View.ld x1 r0_59)))⟩,
    ⟨r0_58, storeS (Expo.scale (ccv (View.ld x2 r0_52) (View.ld x3 r0_52) (View.ld x5 r0_1) (View.ld x5 r0_2) (View.ld x1 r0_57)))⟩,
    ⟨r0_56, storeS (Expo.scale (ccv (View.ld x2 r0_52) (View.ld x3 r0_52) (View.ld x5 r0_1) (View.ld x5 r0_2) (View.ld x1 r0_55)))⟩,
    ⟨r0_54, storeS (Expo.scale (ccv (View.ld x2 r0_52) (View.ld x3 r0_52) (View.ld x5 r0_1) (View.ld x5 r0_2) (View.ld x1 r0_53)))⟩,
    ⟨r0_43, storeS (Expo.scale (ccv (View.ld x2 r0_27) (View.ld x3 r0_27) (View.ld x5 r0_1) (View.ld x5 r0_2) (View.ld x1 r0_42)))⟩,
    ⟨r0_41, storeS (Expo.scale (ccv (View.ld x2 r0_27) (View.ld x3 r0_27) (View.ld x5 r0_1) (View.ld x5 r0_2) (View.ld x1 r0_40)))⟩,
    ⟨r0_39, storeS (Expo.scale (ccv (View.ld x2 r0_27) (View.ld x3 r0_27) (View.ld x5 r0_1) (View.ld x5 r0_2) (View.ld x1 r0_38)))⟩,
    ⟨r0_37, storeS (Expo.scale (ccv (View.ld x2 r0_27) (View.ld x3 r0_27) (View.ld x5 r0_1) (View.ld x5 r0_2) (View.ld x1 r0_36)))⟩,
    ⟨r0_35, storeS (Expo.scale (ccv (View.ld x2 r0_27) (View.ld x3 r0_27) (View.ld x5 r0_1) (View.ld x5 r0_2) (View.ld x1 r0_34)))⟩,
    ⟨r0_33, storeS (Expo.scale (ccv (View.ld x2 r0_27) (View.ld x3 r0_27) (View.ld x5 r0_1) (View.ld x5 r0_2) (View.ld x1 r0_32)))⟩,
    ⟨r0_31, storeS (Expo.scale (ccv (View.ld x2 r0_27) (View.ld x3 r0_27) (View.ld x5 r0_1) (View.ld x5 r0_2) (View.ld x1 r0_30)))⟩,
    ⟨r0_29, storeS (Expo.scale (ccv (View.ld x2 r0_27) (View.ld x3 r0_27) (View.ld x5 r0_1) (View.ld x5 r0_2) (View.ld x1 r0_28)))⟩,
    ⟨r0_18, storeS (Expo.scale (ccv (View.ld x2 r0_0) (View.ld x3 r0_0) (View.ld x5 r0_1) (View.ld x5 r0_2) (View.ld x1 r0_17)))⟩,
    ⟨r0_16, storeS (Expo.scale (ccv (View.ld x2 r0_0) (View.ld x3 r0_0) (View.ld x5 r0_1) (View.ld x5 r0_2) (View.ld x1 r0_15)))⟩,
    ⟨r0_14, storeS (Expo.scale (ccv (View.ld x2 r0_0) (View.ld x3 r0_0) (View.ld x5 r0_1) (View.ld x5 r0_2) (View.ld x1 r0_13)))⟩,
    ⟨r0_12, storeS (Expo.scale (ccv (View.ld x2 r0_0) (View.ld x3 r0_0) (View.ld x5 r0_1) (View.ld x5 r0_2) (View.ld x1 r0_11)))⟩,
    ⟨r0_10, storeS (Expo.scale (ccv (View.ld x2 r0_0) (View.ld x3 r0_0) (View.ld x5 r0_1) (View.ld x5 r0_2) (View.ld x1 r0_9)))⟩,
    ⟨r0_8, storeS (Expo.scale (ccv (View.ld x2 r0_0) (View.ld x3 r0_0) (View.ld x5 r0_1) (View.ld x5 r0_2) (View.ld x1 r0_7)))⟩,
    ⟨r0_6, storeS (Expo.scale (ccv (View.ld x2 r0_0) (View.ld x3 r0_0) (View.ld x5 r0_1) (View.ld x5 r0_2) (View.ld x1 r0_5)))⟩,
    ⟨r0_4, storeS (Expo.scale (ccv (View.ld x2 r0_0) (View.ld x3 r0_0) (View.ld x5 r0_1) (View.ld x5 r0_2) (View.ld x1 r0_3)))⟩] := rfl

end Cert.QkPrepIdeal.QK
-- ==== Proof.QkValue.lean ====
/- The query and key quantiser's output blocks, element by element over the extended reals. -/
module

public import proofs.«01_k».proof.Proof.Ops
public import proofs.«01_k».proof.Proof.QkRow
public import proofs.«01_k».proof.Proof.QkPieces

@[expose] public section

set_option maxRecDepth 16384

noncomputable section

namespace Cert.QkPrepIdeal.QK

open Idealize.ShloMosaic Idealize.ShloMosaic.TcCoe Idealize.ShloMosaic.Pointwise Cert.QkPrepIdeal.Gen
open Cert.Row (col)
open Cert.QRow (lo hi lo_or_hi join join_lo join_hi eps fmax)
open Cert.KernelIdeal.Model (ofBits_448 ofBits_neg_448 ofBits_inv_448 ofBits_bot)

/-! ## The body's operations -/

theorem ofBits_128 : Ideal.ofBits .f32 0x43000000#32 = ((128 : ℝ) : EReal) := by
  simp [Ideal.ofBits, Ideal.ieee, -EReal.coe_mul]; norm_num

theorem ofBits_eps : Ideal.ofBits .f32 0x358637BD#32 = ((eps : ℝ) : EReal) := by
  simp [Ideal.ofBits, Ideal.ieee, -EReal.coe_mul]

theorem ofBits_fmax : Ideal.ofBits .f32 0x7F7FFFFF#32 = ((fmax : ℝ) : EReal) := by
  have h : fmax = 340282346638528859811704183484516925440 := by norm_num
  rw [h]
  simp [Ideal.ofBits, Ideal.ieee, -EReal.coe_mul]; norm_num

section Body
variable (a b : Vec Ideal S1x64x128 .f32) (w1 w2 : Vec Ideal S64x128 .f32) (v : Vec Ideal S1x128x128 .bf16)

theorem u1_apply (j : Fin 64) (l : Fin 128) : u1 a b w1 w2 v (ix2 j l) =
    v (ix3 0 l (lo j)) * (a (ix3 0 j l) * w1 (ix2 j l)) - v (ix3 0 l (hi j)) * (b (ix3 0 j l) * w2 (ix2 j l)) := by
  unfold u1
  pointwise [k0_pay14, k0_pay12, k0_pay13, k0_pay6, k0_pay7, k0_pay10, k0_pay2, k0_pay3, k0_pay4, k0_pay5]

theorem u2_apply (j : Fin 64) (l : Fin 128) : u2 a b w1 w2 v (ix2 j l) =
    v (ix3 0 l (hi j)) * (a (ix3 0 j l) * w2 (ix2 j l)) + v (ix3 0 l (lo j)) * (b (ix3 0 j l) * w1 (ix2 j l)) := by
  unfold u2
  pointwise [k0_pay15, k0_pay12, k0_pay13, k0_pay8, k0_pay9, k0_pay10, k0_pay2, k0_pay3, k0_pay4, k0_pay5]

theorem rr_apply (l : Fin 128) : rr v (ix2 0 l) = QRow.rr (fun d => v (ix3 0 l d)) := by
  unfold rr
  pointwise [k0_pay11, k0_pay10, QRow.rr]
  rw [ofBits_128, ofBits_eps]

theorem cc_apply (r : FVec Ideal S1x128 .f32) (y1 y2 : FVec Ideal S64x128 .f32) (l : Fin 128) :
    cc r y1 y2 (ix2 0 l) = QRow.am (fun j => y1 (ix2 j l)) (fun j => y2 (ix2 j l)) * r (ix2 0 l) * ((Expo.kq : ℝ) : EReal) := by
  pointwise [cc, QRow.am]
  rw [ofBits_inv_448, ofBits_bot]
  rfl

theorem code_apply (r w : FVec Ideal S1x128 .f32) (y1 y2 : FVec Ideal S64x128 .f32) (d l : Fin 128) :
    code r w y1 y2 (ix2 d l) = Row.clip (join (fun j => y1 (ix2 j l)) (fun j => y2 (ix2 j l)) d *
      min (r (ix2 0 l) * w (ix2 0 l)) ((fmax : ℝ) : EReal)) := by
  pointwise [code, Row.clip, join]
  rw [ofBits_448, ofBits_neg_448, ofBits_fmax]

theorem store_apply (u : FVec Ideal S128x128 .f32) (l d : Fin 128) : store u (ix3 0 l d) = u (ix2 d l) := by
  pointwise [store]

theorem storeT_apply (u : FVec Ideal S128x128 .f32) (d l : Fin 128) : storeT u (ix4 0 0 d l) = u (ix2 d l) := by
  pointwise [storeT]

theorem storeS_apply (u : FVec Ideal S1x128 .f32) (l : Fin 128) : storeS u (ix3 0 0 l) = u (ix2 0 l) := by
  pointwise [storeS]

end Body

/-! ## One piece -/

/-- A row's exponent. -/
abbrev ex (T W : Fin 128 → EReal) (cs sn : Fin 64 → EReal) : EReal := Row.expo ((Expo.kq : ℝ) : EReal) (Expo.amax (QRow.q T W cs sn))

section Piece
variable (a b : Vec Ideal S1x64x128 .f32) (w1 w2 : Vec Ideal S64x128 .f32) (v : Vec Ideal S1x128x128 .bf16) (l : Fin 128)
  (T W : Fin 128 → EReal) (cs sn : Fin 64 → EReal)
  (hv : ∀ d, v (ix3 0 l d) = T d) (ha : ∀ j, a (ix3 0 j l) = cs j) (hb : ∀ j, b (ix3 0 j l) = sn j)
  (h1 : ∀ j, w1 (ix2 j l) = W (lo j)) (h2 : ∀ j, w2 (ix2 j l) = W (hi j))
  (hc : ∀ j, ∃ y : ℝ, cs j = (y : EReal)) (hs : ∀ j, ∃ y : ℝ, sn j = (y : EReal)) (hcs : ∀ j, cs j ≠ 0 ∨ sn j ≠ 0)
  (hr : QRow.InRange (Expo.amax (QRow.q T W cs sn)))
include hv ha hb h1 h2

theorem u1_row : (fun j => u1 a b w1 w2 v (ix2 j l)) = QRow.k1 T W cs sn := by
  funext j; rw [u1_apply]; simp only [hv, ha, hb, h1, h2]; rfl

theorem u2_row : (fun j => u2 a b w1 w2 v (ix2 j l)) = QRow.k2 T W cs sn := by
  funext j; rw [u2_apply]; simp only [hv, ha, hb, h1, h2]; rfl

include hc hs hcs hr

theorem ccv_row : ccv a b w1 w2 v (ix2 0 l) = Expo.amax (QRow.q T W cs sn) * ((Expo.kq : ℝ) : EReal) := by
  unfold ccv
  rw [cc_apply, u1_row a b w1 w2 v l T W cs sn hv ha hb h1 h2, u2_row a b w1 w2 v l T W cs sn hv ha hb h1 h2, rr_apply,
    funext hv, QRow.am_mul T W cs sn hc hs hcs hr]

theorem codev_row (d : Fin 128) : codev a b w1 w2 v (ix2 d l) = Row.clip (QRow.q T W cs sn d * Ideal.exp2 (0 - ex T W cs sn)) := by
  unfold codev
  rw [code_apply, u1_row a b w1 w2 v l T W cs sn hv ha hb h1 h2, u2_row a b w1 w2 v l T W cs sn hv ha hb h1 h2, rr_apply,
    funext hv, (Expo.scale_inv_of _ (Expo.amax_nonneg _) hr.toExpo _ _ (ccv_row a b w1 w2 v l T W cs sn hv ha hb h1 h2 hc hs hcs hr)).2]
  exact QRow.code_eq T W cs sn hc hs hcs hr d

theorem scale_row : Expo.scale (ccv a b w1 w2 v) (ix2 0 l) = Ideal.exp2 (ex T W cs sn) :=
  (Expo.scale_inv_of _ (Expo.amax_nonneg _) hr.toExpo _ _ (ccv_row a b w1 w2 v l T W cs sn hv ha hb h1 h2 hc hs hcs hr)).1

end Piece

/-! ## The pieces in their blocks -/

/-- Token `l` of the block's chunk `c`. -/
abbrev tok (c : Fin 4) (l : Fin 128) : Fin 512 := ⟨128 * c + l, by have := c.isLt; have := l.isLt; omega⟩

section Block
variable (x : Vec Ideal S1x512x1024 .bf16) (x2 x3 : Vec Ideal S1x64x512 .f32) (x4 : Vec Ideal S128x128 .f32) (W : Fin 128 → EReal)

/-- The block's rows: token `t` of head `h`, and the token's tables. -/
abbrev bT (h : Fin 8) (t : Fin 512) (d : Fin 128) : EReal := x (ix3 0 t (col h d))
abbrev bC (t : Fin 512) (j : Fin 64) : EReal := x2 (ix3 0 j t)

/-- What is asked of a block. -/
structure Good : Prop where
  w : ∀ d l, x4 (ix2 d l) = W d
  hc : ∀ t j, ∃ y : ℝ, bC x2 t j = (y : EReal)
  hs : ∀ t j, ∃ y : ℝ, bC x3 t j = (y : EReal)
  hcs : ∀ t j, bC x2 t j ≠ 0 ∨ bC x3 t j ≠ 0
  hr : ∀ h t, QRow.InRange (Expo.amax (QRow.q (bT x h t) W (bC x2 t) (bC x3 t)))

/-- A code and a scale of the block. -/
def bcode (h : Fin 8) (t : Fin 512) (d : Fin 128) : EReal :=
  Row.clip (QRow.q (bT x h t) W (bC x2 t) (bC x3 t) d * Ideal.exp2 (0 - ex (bT x h t) W (bC x2 t) (bC x3 t)))
def bscale (h : Fin 8) (t : Fin 512) : EReal := Ideal.exp2 (ex (bT x h t) W (bC x2 t) (bC x3 t))

variable (o1 o2 : ℕ) (c : Fin 4) (h : Fin 8) (e1 : o1 = 128 * c) (e2 : o2 = 128 * h)
  (ix : ∀ a, (![0, o1, o2] : Fin 3 → ℕ) a + S1x128x128.size a ≤ S1x512x1024.size a)
  (it : ∀ a, (![0, 0, o1] : Fin 3 → ℕ) a + S1x64x128.size a ≤ S1x64x512.size a)

include e1 e2

theorem ld_x (l d : Fin 128) : View.ld x (Rect.unit (s := S1x512x1024) ![0, o1, o2] S1x128x128.size ix) (ix3 0 l d) = bT x h (tok c l) d := by
  show x _ = x _
  congr 1
  funext a
  apply Fin.ext
  match a with
  | ⟨0, _⟩ => rfl
  | ⟨1, _⟩ => show o1 + 1 * (l : ℕ) = 128 * c + l; omega
  | ⟨2, _⟩ => show o2 + 1 * (d : ℕ) = 128 * h + d; omega

omit e2

theorem ld_t (l : Fin 128) (j : Fin 64) : View.ld x2 (Rect.unit (s := S1x64x512) ![0, 0, o1] S1x64x128.size it) (ix3 0 j l) = bC x2 (tok c l) j := by
  show x2 _ = x2 _
  congr 1
  funext a
  apply Fin.ext
  match a with
  | ⟨0, _⟩ => rfl
  | ⟨1, _⟩ => show 0 + 1 * (j : ℕ) = j; omega
  | ⟨2, _⟩ => show o1 + 1 * (l : ℕ) = 128 * c + l; omega

omit e1

theorem ld_lo (l : Fin 128) (j : Fin 64) : View.ld x4 r0_1 (ix2 j l) = x4 (ix2 (lo j) l) := by
  show x4 _ = x4 _
  congr 1
  funext a
  apply Fin.ext
  match a with
  | ⟨0, _⟩ => show 0 + 1 * (j : ℕ) = j; omega
  | ⟨1, _⟩ => show 0 + 1 * (l : ℕ) = l; omega

theorem ld_hi (l : Fin 128) (j : Fin 64) : View.ld x4 r0_2 (ix2 j l) = x4 (ix2 (hi j) l) := by
  show x4 _ = x4 _
  congr 1
  funext a
  apply Fin.ext
  match a with
  | ⟨0, _⟩ => show 64 + 1 * (j : ℕ) = 64 + j; omega
  | ⟨1, _⟩ => show 0 + 1 * (l : ℕ) = l; omega

variable (g : Good x x2 x3 x4 W)
include g e1 e2

theorem codev_blk (l d : Fin 128) :
    codev (View.ld x2 (Rect.unit (s := S1x64x512) ![0, 0, o1] S1x64x128.size it)) (View.ld x3 (Rect.unit (s := S1x64x512) ![0, 0, o1] S1x64x128.size it))
      (View.ld x4 r0_1) (View.ld x4 r0_2) (View.ld x (Rect.unit (s := S1x512x1024) ![0, o1, o2] S1x128x128.size ix)) (ix2 d l) =
    bcode x x2 x3 W h (tok c l) d :=
  codev_row _ _ _ _ _ l (bT x h (tok c l)) W (bC x2 (tok c l)) (bC x3 (tok c l)) (fun d => ld_x x o1 o2 c h e1 e2 ix l d)
    (fun j => ld_t x2 o1 c e1 it l j) (fun j => ld_t x3 o1 c e1 it l j) (fun j => (ld_lo x4 l j).trans (g.w _ _)) (fun j => (ld_hi x4 l j).trans (g.w _ _))
    (g.hc _) (g.hs _) (g.hcs _) (g.hr _ _) d

theorem scale_blk (l : Fin 128) :
    Expo.scale (ccv (View.ld x2 (Rect.unit (s := S1x64x512) ![0, 0, o1] S1x64x128.size it)) (View.ld x3 (Rect.unit (s := S1x64x512) ![0, 0, o1] S1x64x128.size it))
      (View.ld x4 r0_1) (View.ld x4 r0_2) (View.ld x (Rect.unit (s := S1x512x1024) ![0, o1, o2] S1x128x128.size ix))) (ix2 0 l) =
    bscale x x2 x3 W h (tok c l) :=
  scale_row _ _ _ _ _ l (bT x h (tok c l)) W (bC x2 (tok c l)) (bC x3 (tok c l)) (fun d => ld_x x o1 o2 c h e1 e2 ix l d)
    (fun j => ld_t x2 o1 c e1 it l j) (fun j => ld_t x3 o1 c e1 it l j) (fun j => (ld_lo x4 l j).trans (g.w _ _)) (fun j => (ld_hi x4 l j).trans (g.w _ _))
    (g.hc _) (g.hs _) (g.hcs _) (g.hr _ _)

end Block

/-! ## The blocks' functions -/

section Functions
variable (x : Vec Ideal S1x512x1024 .bf16) (x2 x3 : Vec Ideal S1x64x512 .f32) (x4 : Vec Ideal S128x128 .f32) (W : Fin 128 → EReal)

abbrev hd (e : Fin 1024) : Fin 8 := ⟨e / 128, by have := e.isLt; omega⟩
abbrev ln (e : Fin 1024) : Fin 128 := ⟨e % 128, by omega⟩

def G (y : S1x512x1024.Idx) : EReal := bcode x x2 x3 W (hd (y 2)) (y 1) (ln (y 2))
def GT (y : S1x8x128x512.Idx) : EReal := bcode x x2 x3 W (y 1) (y 3) (y 2)
def GS (y : S1x8x512.Idx) : EReal := bscale x x2 x3 W (y 1) (y 2)

variable (o1 o2 : ℕ) (c : Fin 4) (h : Fin 8) (e1 : o1 = 128 * c) (e2 : o2 = 128 * h)
  (ix : ∀ a, (![0, o1, o2] : Fin 3 → ℕ) a + S1x128x128.size a ≤ S1x512x1024.size a)
  (it : ∀ a, (![0, 0, o1] : Fin 3 → ℕ) a + S1x64x128.size a ≤ S1x64x512.size a)
  (ik : ∀ a, (![0, (h : ℕ), 0, o1] : Fin 4 → ℕ) a + S1x1x128x128.size a ≤ S1x8x128x512.size a)
  (is : ∀ a, (![0, (h : ℕ), o1] : Fin 3 → ℕ) a + S1x1x128.size a ≤ S1x8x512.size a)
  (g : Good x x2 x3 x4 W)
include e1 e2 g

theorem piece (i : S1x128x128.Idx) :
    store (codev (View.ld x2 (Rect.unit (s := S1x64x512) ![0, 0, o1] S1x64x128.size it)) (View.ld x3 (Rect.unit (s := S1x64x512) ![0, 0, o1] S1x64x128.size it))
      (View.ld x4 r0_1) (View.ld x4 r0_2) (View.ld x (Rect.unit (s := S1x512x1024) ![0, o1, o2] S1x128x128.size ix))) i =
    G x x2 x3 W ((Rect.unit (s := S1x512x1024) ![0, o1, o2] S1x128x128.size ix).emb i) := by
  obtain ⟨z, l, d, rfl⟩ : ∃ (z : Fin 1) (l d : Fin 128), i = ix3 z l d := ⟨i 0, i 1, i 2, eq_ix3 i⟩
  obtain rfl : z = 0 := Subsingleton.elim _ _
  rw [store_apply, codev_blk x x2 x3 x4 W o1 o2 c h e1 e2 ix it g l d]
  have := h.isLt
  have := d.isLt
  have i1 : (Rect.unit (s := S1x512x1024) ![0, o1, o2] S1x128x128.size ix).emb (ix3 0 l d) 1 = tok c l :=
    Fin.ext (by show o1 + 1 * (l : ℕ) = 128 * c + l; omega)
  have i2 : (Rect.unit (s := S1x512x1024) ![0, o1, o2] S1x128x128.size ix).emb (ix3 0 l d) 2 = col h d :=
    Fin.ext (by show o2 + 1 * (d : ℕ) = 128 * h + d; omega)
  have e3 : hd (col h d) = h := Fin.ext (by show (128 * (h : ℕ) + d) / 128 = h; omega)
  have e4 : ln (col h d) = d := Fin.ext (by show (128 * (h : ℕ) + d) % 128 = d; omega)
  unfold G
  rw [i1, i2, e3, e4]

theorem pieceT (i : S1x1x128x128.Idx) :
    storeT (codev (View.ld x2 (Rect.unit (s := S1x64x512) ![0, 0, o1] S1x64x128.size it)) (View.ld x3 (Rect.unit (s := S1x64x512) ![0, 0, o1] S1x64x128.size it))
      (View.ld x4 r0_1) (View.ld x4 r0_2) (View.ld x (Rect.unit (s := S1x512x1024) ![0, o1, o2] S1x128x128.size ix))) i =
    GT x x2 x3 W ((Rect.unit (s := S1x8x128x512) ![0, (h : ℕ), 0, o1] S1x1x128x128.size ik).emb i) := by
  obtain ⟨z, z', d, l, rfl⟩ : ∃ (z z' : Fin 1) (d l : Fin 128), i = ix4 z z' d l := ⟨i 0, i 1, i 2, i 3, eq_ix4 i⟩
  obtain rfl : z = 0 := Subsingleton.elim _ _
  obtain rfl : z' = 0 := Subsingleton.elim _ _
  rw [storeT_apply, codev_blk x x2 x3 x4 W o1 o2 c h e1 e2 ix it g l d]
  have i1 : (Rect.unit (s := S1x8x128x512) ![0, (h : ℕ), 0, o1] S1x1x128x128.size ik).emb (ix4 0 0 d l) 1 = h :=
    Fin.ext (by show (h : ℕ) + 1 * 0 = h; omega)
  have i2 : (Rect.unit (s := S1x8x128x512) ![0, (h : ℕ), 0, o1] S1x1x128x128.size ik).emb (ix4 0 0 d l) 2 = d :=
    Fin.ext (by show 0 + 1 * (d : ℕ) = d; omega)
  have i3 : (Rect.unit (s := S1x8x128x512) ![0, (h : ℕ), 0, o1] S1x1x128x128.size ik).emb (ix4 0 0 d l) 3 = tok c l :=
    Fin.ext (by show o1 + 1 * (l : ℕ) = 128 * c + l; omega)
  unfold GT
  rw [i1, i2, i3]

theorem pieceS (i : S1x1x128.Idx) :
    storeS (Expo.scale (ccv (View.ld x2 (Rect.unit (s := S1x64x512) ![0, 0, o1] S1x64x128.size it)) (View.ld x3 (Rect.unit (s := S1x64x512) ![0, 0, o1] S1x64x128.size it))
      (View.ld x4 r0_1) (View.ld x4 r0_2) (View.ld x (Rect.unit (s := S1x512x1024) ![0, o1, o2] S1x128x128.size ix)))) i =
    GS x x2 x3 W ((Rect.unit (s := S1x8x512) ![0, (h : ℕ), o1] S1x1x128.size is).emb i) := by
  obtain ⟨z, z', l, rfl⟩ : ∃ (z z' : Fin 1) (l : Fin 128), i = ix3 z z' l := ⟨i 0, i 1, i 2, eq_ix3 i⟩
  obtain rfl : z = 0 := Subsingleton.elim _ _
  obtain rfl : z' = 0 := Subsingleton.elim _ _
  rw [storeS_apply, scale_blk x x2 x3 x4 W o1 o2 c h e1 e2 ix it g l]
  have i1 : (Rect.unit (s := S1x8x512) ![0, (h : ℕ), o1] S1x1x128.size is).emb (ix3 0 0 l) 1 = h :=
    Fin.ext (by show (h : ℕ) + 1 * 0 = h; omega)
  have i2 : (Rect.unit (s := S1x8x512) ![0, (h : ℕ), o1] S1x1x128.size is).emb (ix3 0 0 l) 2 = tok c l :=
    Fin.ext (by show o1 + 1 * (l : ℕ) = 128 * c + l; omega)
  unfold GS
  rw [i1, i2]

end Functions

end Cert.QkPrepIdeal.QK
-- ==== Proof.QkBlocks.lean ====
/- The query and key quantiser's output blocks: the pieces cover each block, and agree with one function of its index. -/
module

public import proofs.«01_k».proof.Proof.QkValue

@[expose] public section

set_option maxRecDepth 16384
set_option maxHeartbeats 4000000

noncomputable section

namespace Cert.QkPrepIdeal.QK

open Idealize.ShloMosaic Idealize.ShloMosaic.TcCoe Idealize.ShloMosaic.Pointwise Cert.QkPrepIdeal.Gen

variable (x0 : Vec Ideal S1x512x1024 .bf16) (x1 : Vec Ideal S1x512x1024 .bf16) (x2 : Vec Ideal S1x64x512 .f32)
  (x3 : Vec Ideal S1x64x512 .f32) (x4 : Vec Ideal S128x128 .f32) (x5 : Vec Ideal S128x128 .f32) (W : Fin 128 → EReal)

theorem out6_apply (g : Good x0 x2 x3 x4 W) (y : S1x512x1024.Idx) : out0_6 x0 x1 x2 x3 x4 x5 y = G x0 x2 x3 W y := by
  rw [out6]
  refine View.canon_apply_of_pieces (Val := Elt Ideal) (e := .fp8e4m3) (G x0 x2 x3 W) _ ?_ y (cover0_6 _ _ _ _ _ _ _ _ _ _ _ _ _ _ _ _ _ _ _ _ _ _ _ _ _ _ _ _ _ _ _ _ y)
  refine List.forall_mem_cons.2 ⟨piece x0 x2 x3 x4 W 384 896 3 7 rfl rfl _ _ g, ?_⟩
  refine List.forall_mem_cons.2 ⟨piece x0 x2 x3 x4 W 384 768 3 6 rfl rfl _ _ g, ?_⟩
  refine List.forall_mem_cons.2 ⟨piece x0 x2 x3 x4 W 384 640 3 5 rfl rfl _ _ g, ?_⟩
  refine List.forall_mem_cons.2 ⟨piece x0 x2 x3 x4 W 384 512 3 4 rfl rfl _ _ g, ?_⟩
  refine List.forall_mem_cons.2 ⟨piece x0 x2 x3 x4 W 384 384 3 3 rfl rfl _ _ g, ?_⟩
  refine List.forall_mem_cons.2 ⟨piece x0 x2 x3 x4 W 384 256 3 2 rfl rfl _ _ g, ?_⟩
  refine List.forall_mem_cons.2 ⟨piece x0 x2 x3 x4 W 384 128 3 1 rfl rfl _ _ g, ?_⟩
  refine List.forall_mem_cons.2 ⟨piece x0 x2 x3 x4 W 384 0 3 0 rfl rfl _ _ g, ?_⟩
  refine List.forall_mem_cons.2 ⟨piece x0 x2 x3 x4 W 256 896 2 7 rfl rfl _ _ g, ?_⟩
  refine List.forall_mem_cons.2 ⟨piece x0 x2 x3 x4 W 256 768 2 6 rfl rfl _ _ g, ?_⟩
  refine List.forall_mem_cons.2 ⟨piece x0 x2 x3 x4 W 256 640 2 5 rfl rfl _ _ g, ?_⟩
  refine List.forall_mem_cons.2 ⟨piece x0 x2 x3 x4 W 256 512 2 4 rfl rfl _ _ g, ?_⟩
  refine List.forall_mem_cons.2 ⟨piece x0 x2 x3 x4 W 256 384 2 3 rfl rfl _ _ g, ?_⟩
  refine List.forall_mem_cons.2 ⟨piece x0 x2 x3 x4 W 256 256 2 2 rfl rfl _ _ g, ?_⟩
  refine List.forall_mem_cons.2 ⟨piece x0 x2 x3 x4 W 256 128 2 1 rfl rfl _ _ g, ?_⟩
  refine List.forall_mem_cons.2 ⟨piece x0 x2 x3 x4 W 256 0 2 0 rfl rfl _ _ g, ?_⟩
  refine List.forall_mem_cons.2 ⟨piece x0 x2 x3 x4 W 128 896 1 7 rfl rfl _ _ g, ?_⟩
  refine List.forall_mem_cons.2 ⟨piece x0 x2 x3 x4 W 128 768 1 6 rfl rfl _ _ g, ?_⟩
  refine List.forall_mem_cons.2 ⟨piece x0 x2 x3 x4 W 128 640 1 5 rfl rfl _ _ g, ?_⟩
  refine List.forall_mem_cons.2 ⟨piece x0 x2 x3 x4 W 128 512 1 4 rfl rfl _ _ g, ?_⟩
  refine List.forall_mem_cons.2 ⟨piece x0 x2 x3 x4 W 128 384 1 3 rfl rfl _ _ g, ?_⟩
  refine List.forall_mem_cons.2 ⟨piece x0 x2 x3 x4 W 128 256 1 2 rfl rfl _ _ g, ?_⟩
  refine List.forall_mem_cons.2 ⟨piece x0 x2 x3 x4 W 128 128 1 1 rfl rfl _ _ g, ?_⟩
  refine List.forall_mem_cons.2 ⟨piece x0 x2 x3 x4 W 128 0 1 0 rfl rfl _ _ g, ?_⟩
  refine List.forall_mem_cons.2 ⟨piece x0 x2 x3 x4 W 0 896 0 7 rfl rfl _ _ g, ?_⟩
  refine List.forall_mem_cons.2 ⟨piece x0 x2 x3 x4 W 0 768 0 6 rfl rfl _ _ g, ?_⟩
  refine List.forall_mem_cons.2 ⟨piece x0 x2 x3 x4 W 0 640 0 5 rfl rfl _ _ g, ?_⟩
  refine List.forall_mem_cons.2 ⟨piece x0 x2 x3 x4 W 0 512 0 4 rfl rfl _ _ g, ?_⟩
  refine List.forall_mem_cons.2 ⟨piece x0 x2 x3 x4 W 0 384 0 3 rfl rfl _ _ g, ?_⟩
  refine List.forall_mem_cons.2 ⟨piece x0 x2 x3 x4 W 0 256 0 2 rfl rfl _ _ g, ?_⟩
  refine List.forall_mem_cons.2 ⟨piece x0 x2 x3 x4 W 0 128 0 1 rfl rfl _ _ g, ?_⟩
  refine List.forall_mem_cons.2 ⟨piece x0 x2 x3 x4 W 0 0 0 0 rfl rfl _ _ g, ?_⟩
  exact List.forall_mem_nil _

theorem out7_apply (g : Good x1 x2 x3 x5 W) (y : S1x512x1024.Idx) : out0_7 x0 x1 x2 x3 x4 x5 y = G x1 x2 x3 W y := by
  rw [out7]
  refine View.canon_apply_of_pieces (Val := Elt Ideal) (e := .fp8e4m3) (G x1 x2 x3 W) _ ?_ y (cover0_7 _ _ _ _ _ _ _ _ _ _ _ _ _ _ _ _ _ _ _ _ _ _ _ _ _ _ _ _ _ _ _ _ y)
  refine List.forall_mem_cons.2 ⟨piece x1 x2 x3 x5 W 384 896 3 7 rfl rfl _ _ g, ?_⟩
  refine List.forall_mem_cons.2 ⟨piece x1 x2 x3 x5 W 384 768 3 6 rfl rfl _ _ g, ?_⟩
  refine List.forall_mem_cons.2 ⟨piece x1 x2 x3 x5 W 384 640 3 5 rfl rfl _ _ g, ?_⟩
  refine List.forall_mem_cons.2 ⟨piece x1 x2 x3 x5 W 384 512 3 4 rfl rfl _ _ g, ?_⟩
  refine List.forall_mem_cons.2 ⟨piece x1 x2 x3 x5 W 384 384 3 3 rfl rfl _ _ g, ?_⟩
  refine List.forall_mem_cons.2 ⟨piece x1 x2 x3 x5 W 384 256 3 2 rfl rfl _ _ g, ?_⟩
  refine List.forall_mem_cons.2 ⟨piece x1 x2 x3 x5 W 384 128 3 1 rfl rfl _ _ g, ?_⟩
  refine List.forall_mem_cons.2 ⟨piece x1 x2 x3 x5 W 384 0 3 0 rfl rfl _ _ g, ?_⟩
  refine List.forall_mem_cons.2 ⟨piece x1 x2 x3 x5 W 256 896 2 7 rfl rfl _ _ g, ?_⟩
  refine List.forall_mem_cons.2 ⟨piece x1 x2 x3 x5 W 256 768 2 6 rfl rfl _ _ g, ?_⟩
  refine List.forall_mem_cons.2 ⟨piece x1 x2 x3 x5 W 256 640 2 5 rfl rfl _ _ g, ?_⟩
  refine List.forall_mem_cons.2 ⟨piece x1 x2 x3 x5 W 256 512 2 4 rfl rfl _ _ g, ?_⟩
  refine List.forall_mem_cons.2 ⟨piece x1 x2 x3 x5 W 256 384 2 3 rfl rfl _ _ g, ?_⟩
  refine List.forall_mem_cons.2 ⟨piece x1 x2 x3 x5 W 256 256 2 2 rfl rfl _ _ g, ?_⟩
  refine List.forall_mem_cons.2 ⟨piece x1 x2 x3 x5 W 256 128 2 1 rfl rfl _ _ g, ?_⟩
  refine List.forall_mem_cons.2 ⟨piece x1 x2 x3 x5 W 256 0 2 0 rfl rfl _ _ g, ?_⟩
  refine List.forall_mem_cons.2 ⟨piece x1 x2 x3 x5 W 128 896 1 7 rfl rfl _ _ g, ?_⟩
  refine List.forall_mem_cons.2 ⟨piece x1 x2 x3 x5 W 128 768 1 6 rfl rfl _ _ g, ?_⟩
  refine List.forall_mem_cons.2 ⟨piece x1 x2 x3 x5 W 128 640 1 5 rfl rfl _ _ g, ?_⟩
  refine List.forall_mem_cons.2 ⟨piece x1 x2 x3 x5 W 128 512 1 4 rfl rfl _ _ g, ?_⟩
  refine List.forall_mem_cons.2 ⟨piece x1 x2 x3 x5 W 128 384 1 3 rfl rfl _ _ g, ?_⟩
  refine List.forall_mem_cons.2 ⟨piece x1 x2 x3 x5 W 128 256 1 2 rfl rfl _ _ g, ?_⟩
  refine List.forall_mem_cons.2 ⟨piece x1 x2 x3 x5 W 128 128 1 1 rfl rfl _ _ g, ?_⟩
  refine List.forall_mem_cons.2 ⟨piece x1 x2 x3 x5 W 128 0 1 0 rfl rfl _ _ g, ?_⟩
  refine List.forall_mem_cons.2 ⟨piece x1 x2 x3 x5 W 0 896 0 7 rfl rfl _ _ g, ?_⟩
  refine List.forall_mem_cons.2 ⟨piece x1 x2 x3 x5 W 0 768 0 6 rfl rfl _ _ g, ?_⟩
  refine List.forall_mem_cons.2 ⟨piece x1 x2 x3 x5 W 0 640 0 5 rfl rfl _ _ g, ?_⟩
  refine List.forall_mem_cons.2 ⟨piece x1 x2 x3 x5 W 0 512 0 4 rfl rfl _ _ g, ?_⟩
  refine List.forall_mem_cons.2 ⟨piece x1 x2 x3 x5 W 0 384 0 3 rfl rfl _ _ g, ?_⟩
  refine List.forall_mem_cons.2 ⟨piece x1 x2 x3 x5 W 0 256 0 2 rfl rfl _ _ g, ?_⟩
  refine List.forall_mem_cons.2 ⟨piece x1 x2 x3 x5 W 0 128 0 1 rfl rfl _ _ g, ?_⟩
  refine List.forall_mem_cons.2 ⟨piece x1 x2 x3 x5 W 0 0 0 0 rfl rfl _ _ g, ?_⟩
  exact List.forall_mem_nil _

theorem out8_apply (g : Good x1 x2 x3 x5 W) (y : S1x8x128x512.Idx) : out0_8 x0 x1 x2 x3 x4 x5 y = GT x1 x2 x3 W y := by
  rw [out8]
  refine View.canon_apply_of_pieces (Val := Elt Ideal) (e := .fp8e4m3) (GT x1 x2 x3 W) _ ?_ y (cover0_8 _ _ _ _ _ _ _ _ _ _ _ _ _ _ _ _ _ _ _ _ _ _ _ _ _ _ _ _ _ _ _ _ y)
  refine List.forall_mem_cons.2 ⟨pieceT x1 x2 x3 x5 W 384 896 3 7 rfl rfl _ _ (by decide) g, ?_⟩
  refine List.forall_mem_cons.2 ⟨pieceT x1 x2 x3 x5 W 384 768 3 6 rfl rfl _ _ (by decide) g, ?_⟩
  refine List.forall_mem_cons.2 ⟨pieceT x1 x2 x3 x5 W 384 640 3 5 rfl rfl _ _ (by decide) g, ?_⟩
  refine List.forall_mem_cons.2 ⟨pieceT x1 x2 x3 x5 W 384 512 3 4 rfl rfl _ _ (by decide) g, ?_⟩
  refine List.forall_mem_cons.2 ⟨pieceT x1 x2 x3 x5 W 384 384 3 3 rfl rfl _ _ (by decide) g, ?_⟩
  refine List.forall_mem_cons.2 ⟨pieceT x1 x2 x3 x5 W 384 256 3 2 rfl rfl _ _ (by decide) g, ?_⟩
  refine List.forall_mem_cons.2 ⟨pieceT x1 x2 x3 x5 W 384 128 3 1 rfl rfl _ _ (by decide) g, ?_⟩
  refine List.forall_mem_cons.2 ⟨pieceT x1 x2 x3 x5 W 384 0 3 0 rfl rfl _ _ (by decide) g, ?_⟩
  refine List.forall_mem_cons.2 ⟨pieceT x1 x2 x3 x5 W 256 896 2 7 rfl rfl _ _ (by decide) g, ?_⟩
  refine List.forall_mem_cons.2 ⟨pieceT x1 x2 x3 x5 W 256 768 2 6 rfl rfl _ _ (by decide) g, ?_⟩
  refine List.forall_mem_cons.2 ⟨pieceT x1 x2 x3 x5 W 256 640 2 5 rfl rfl _ _ (by decide) g, ?_⟩
  refine List.forall_mem_cons.2 ⟨pieceT x1 x2 x3 x5 W 256 512 2 4 rfl rfl _ _ (by decide) g, ?_⟩
  refine List.forall_mem_cons.2 ⟨pieceT x1 x2 x3 x5 W 256 384 2 3 rfl rfl _ _ (by decide) g, ?_⟩
  refine List.forall_mem_cons.2 ⟨pieceT x1 x2 x3 x5 W 256 256 2 2 rfl rfl _ _ (by decide) g, ?_⟩
  refine List.forall_mem_cons.2 ⟨pieceT x1 x2 x3 x5 W 256 128 2 1 rfl rfl _ _ (by decide) g, ?_⟩
  refine List.forall_mem_cons.2 ⟨pieceT x1 x2 x3 x5 W 256 0 2 0 rfl rfl _ _ (by decide) g, ?_⟩
  refine List.forall_mem_cons.2 ⟨pieceT x1 x2 x3 x5 W 128 896 1 7 rfl rfl _ _ (by decide) g, ?_⟩
  refine List.forall_mem_cons.2 ⟨pieceT x1 x2 x3 x5 W 128 768 1 6 rfl rfl _ _ (by decide) g, ?_⟩
  refine List.forall_mem_cons.2 ⟨pieceT x1 x2 x3 x5 W 128 640 1 5 rfl rfl _ _ (by decide) g, ?_⟩
  refine List.forall_mem_cons.2 ⟨pieceT x1 x2 x3 x5 W 128 512 1 4 rfl rfl _ _ (by decide) g, ?_⟩
  refine List.forall_mem_cons.2 ⟨pieceT x1 x2 x3 x5 W 128 384 1 3 rfl rfl _ _ (by decide) g, ?_⟩
  refine List.forall_mem_cons.2 ⟨pieceT x1 x2 x3 x5 W 128 256 1 2 rfl rfl _ _ (by decide) g, ?_⟩
  refine List.forall_mem_cons.2 ⟨pieceT x1 x2 x3 x5 W 128 128 1 1 rfl rfl _ _ (by decide) g, ?_⟩
  refine List.forall_mem_cons.2 ⟨pieceT x1 x2 x3 x5 W 128 0 1 0 rfl rfl _ _ (by decide) g, ?_⟩
  refine List.forall_mem_cons.2 ⟨pieceT x1 x2 x3 x5 W 0 896 0 7 rfl rfl _ _ (by decide) g, ?_⟩
  refine List.forall_mem_cons.2 ⟨pieceT x1 x2 x3 x5 W 0 768 0 6 rfl rfl _ _ (by decide) g, ?_⟩
  refine List.forall_mem_cons.2 ⟨pieceT x1 x2 x3 x5 W 0 640 0 5 rfl rfl _ _ (by decide) g, ?_⟩
  refine List.forall_mem_cons.2 ⟨pieceT x1 x2 x3 x5 W 0 512 0 4 rfl rfl _ _ (by decide) g, ?_⟩
  refine List.forall_mem_cons.2 ⟨pieceT x1 x2 x3 x5 W 0 384 0 3 rfl rfl _ _ (by decide) g, ?_⟩
  refine List.forall_mem_cons.2 ⟨pieceT x1 x2 x3 x5 W 0 256 0 2 rfl rfl _ _ (by decide) g, ?_⟩
  refine List.forall_mem_cons.2 ⟨pieceT x1 x2 x3 x5 W 0 128 0 1 rfl rfl _ _ (by decide) g, ?_⟩
  refine List.forall_mem_cons.2 ⟨pieceT x1 x2 x3 x5 W 0 0 0 0 rfl rfl _ _ (by decide) g, ?_⟩
  exact List.forall_mem_nil _

theorem out9_apply (g : Good x0 x2 x3 x4 W) (y : S1x8x512.Idx) : out0_9 x0 x1 x2 x3 x4 x5 y = GS x0 x2 x3 W y := by
  rw [out9]
  refine View.canon_apply_of_pieces (Val := Elt Ideal) (e := .f32) (GS x0 x2 x3 W) _ ?_ y (cover0_9 _ _ _ _ _ _ _ _ _ _ _ _ _ _ _ _ _ _ _ _ _ _ _ _ _ _ _ _ _ _ _ _ y)
  refine List.forall_mem_cons.2 ⟨pieceS x0 x2 x3 x4 W 384 896 3 7 rfl rfl _ _ (by decide) g, ?_⟩
  refine List.forall_mem_cons.2 ⟨pieceS x0 x2 x3 x4 W 384 768 3 6 rfl rfl _ _ (by decide) g, ?_⟩
  refine List.forall_mem_cons.2 ⟨pieceS x0 x2 x3 x4 W 384 640 3 5 rfl rfl _ _ (by decide) g, ?_⟩
  refine List.forall_mem_cons.2 ⟨pieceS x0 x2 x3 x4 W 384 512 3 4 rfl rfl _ _ (by decide) g, ?_⟩
  refine List.forall_mem_cons.2 ⟨pieceS x0 x2 x3 x4 W 384 384 3 3 rfl rfl _ _ (by decide) g, ?_⟩
  refine List.forall_mem_cons.2 ⟨pieceS x0 x2 x3 x4 W 384 256 3 2 rfl rfl _ _ (by decide) g, ?_⟩
  refine List.forall_mem_cons.2 ⟨pieceS x0 x2 x3 x4 W 384 128 3 1 rfl rfl _ _ (by decide) g, ?_⟩
  refine List.forall_mem_cons.2 ⟨pieceS x0 x2 x3 x4 W 384 0 3 0 rfl rfl _ _ (by decide) g, ?_⟩
  refine List.forall_mem_cons.2 ⟨pieceS x0 x2 x3 x4 W 256 896 2 7 rfl rfl _ _ (by decide) g, ?_⟩
  refine List.forall_mem_cons.2 ⟨pieceS x0 x2 x3 x4 W 256 768 2 6 rfl rfl _ _ (by decide) g, ?_⟩
  refine List.forall_mem_cons.2 ⟨pieceS x0 x2 x3 x4 W 256 640 2 5 rfl rfl _ _ (by decide) g, ?_⟩
  refine List.forall_mem_cons.2 ⟨pieceS x0 x2 x3 x4 W 256 512 2 4 rfl rfl _ _ (by decide) g, ?_⟩
  refine List.forall_mem_cons.2 ⟨pieceS x0 x2 x3 x4 W 256 384 2 3 rfl rfl _ _ (by decide) g, ?_⟩
  refine List.forall_mem_cons.2 ⟨pieceS x0 x2 x3 x4 W 256 256 2 2 rfl rfl _ _ (by decide) g, ?_⟩
  refine List.forall_mem_cons.2 ⟨pieceS x0 x2 x3 x4 W 256 128 2 1 rfl rfl _ _ (by decide) g, ?_⟩
  refine List.forall_mem_cons.2 ⟨pieceS x0 x2 x3 x4 W 256 0 2 0 rfl rfl _ _ (by decide) g, ?_⟩
  refine List.forall_mem_cons.2 ⟨pieceS x0 x2 x3 x4 W 128 896 1 7 rfl rfl _ _ (by decide) g, ?_⟩
  refine List.forall_mem_cons.2 ⟨pieceS x0 x2 x3 x4 W 128 768 1 6 rfl rfl _ _ (by decide) g, ?_⟩
  refine List.forall_mem_cons.2 ⟨pieceS x0 x2 x3 x4 W 128 640 1 5 rfl rfl _ _ (by decide) g, ?_⟩
  refine List.forall_mem_cons.2 ⟨pieceS x0 x2 x3 x4 W 128 512 1 4 rfl rfl _ _ (by decide) g, ?_⟩
  refine List.forall_mem_cons.2 ⟨pieceS x0 x2 x3 x4 W 128 384 1 3 rfl rfl _ _ (by decide) g, ?_⟩
  refine List.forall_mem_cons.2 ⟨pieceS x0 x2 x3 x4 W 128 256 1 2 rfl rfl _ _ (by decide) g, ?_⟩
  refine List.forall_mem_cons.2 ⟨pieceS x0 x2 x3 x4 W 128 128 1 1 rfl rfl _ _ (by decide) g, ?_⟩
  refine List.forall_mem_cons.2 ⟨pieceS x0 x2 x3 x4 W 128 0 1 0 rfl rfl _ _ (by decide) g, ?_⟩
  refine List.forall_mem_cons.2 ⟨pieceS x0 x2 x3 x4 W 0 896 0 7 rfl rfl _ _ (by decide) g, ?_⟩
  refine List.forall_mem_cons.2 ⟨pieceS x0 x2 x3 x4 W 0 768 0 6 rfl rfl _ _ (by decide) g, ?_⟩
  refine List.forall_mem_cons.2 ⟨pieceS x0 x2 x3 x4 W 0 640 0 5 rfl rfl _ _ (by decide) g, ?_⟩
  refine List.forall_mem_cons.2 ⟨pieceS x0 x2 x3 x4 W 0 512 0 4 rfl rfl _ _ (by decide) g, ?_⟩
  refine List.forall_mem_cons.2 ⟨pieceS x0 x2 x3 x4 W 0 384 0 3 rfl rfl _ _ (by decide) g, ?_⟩
  refine List.forall_mem_cons.2 ⟨pieceS x0 x2 x3 x4 W 0 256 0 2 rfl rfl _ _ (by decide) g, ?_⟩
  refine List.forall_mem_cons.2 ⟨pieceS x0 x2 x3 x4 W 0 128 0 1 rfl rfl _ _ (by decide) g, ?_⟩
  refine List.forall_mem_cons.2 ⟨pieceS x0 x2 x3 x4 W 0 0 0 0 rfl rfl _ _ (by decide) g, ?_⟩
  exact List.forall_mem_nil _

theorem out10_apply (g : Good x1 x2 x3 x5 W) (y : S1x8x512.Idx) : out0_10 x0 x1 x2 x3 x4 x5 y = GS x1 x2 x3 W y := by
  rw [out10]
  refine View.canon_apply_of_pieces (Val := Elt Ideal) (e := .f32) (GS x1 x2 x3 W) _ ?_ y (cover0_10 _ _ _ _ _ _ _ _ _ _ _ _ _ _ _ _ _ _ _ _ _ _ _ _ _ _ _ _ _ _ _ _ y)
  refine List.forall_mem_cons.2 ⟨pieceS x1 x2 x3 x5 W 384 896 3 7 rfl rfl _ _ (by decide) g, ?_⟩
  refine List.forall_mem_cons.2 ⟨pieceS x1 x2 x3 x5 W 384 768 3 6 rfl rfl _ _ (by decide) g, ?_⟩
  refine List.forall_mem_cons.2 ⟨pieceS x1 x2 x3 x5 W 384 640 3 5 rfl rfl _ _ (by decide) g, ?_⟩
  refine List.forall_mem_cons.2 ⟨pieceS x1 x2 x3 x5 W 384 512 3 4 rfl rfl _ _ (by decide) g, ?_⟩
  refine List.forall_mem_cons.2 ⟨pieceS x1 x2 x3 x5 W 384 384 3 3 rfl rfl _ _ (by decide) g, ?_⟩
  refine List.forall_mem_cons.2 ⟨pieceS x1 x2 x3 x5 W 384 256 3 2 rfl rfl _ _ (by decide) g, ?_⟩
  refine List.forall_mem_cons.2 ⟨pieceS x1 x2 x3 x5 W 384 128 3 1 rfl rfl _ _ (by decide) g, ?_⟩
  refine List.forall_mem_cons.2 ⟨pieceS x1 x2 x3 x5 W 384 0 3 0 rfl rfl _ _ (by decide) g, ?_⟩
  refine List.forall_mem_cons.2 ⟨pieceS x1 x2 x3 x5 W 256 896 2 7 rfl rfl _ _ (by decide) g, ?_⟩
  refine List.forall_mem_cons.2 ⟨pieceS x1 x2 x3 x5 W 256 768 2 6 rfl rfl _ _ (by decide) g, ?_⟩
  refine List.forall_mem_cons.2 ⟨pieceS x1 x2 x3 x5 W 256 640 2 5 rfl rfl _ _ (by decide) g, ?_⟩
  refine List.forall_mem_cons.2 ⟨pieceS x1 x2 x3 x5 W 256 512 2 4 rfl rfl _ _ (by decide) g, ?_⟩
  refine List.forall_mem_cons.2 ⟨pieceS x1 x2 x3 x5 W 256 384 2 3 rfl rfl _ _ (by decide) g, ?_⟩
  refine List.forall_mem_cons.2 ⟨pieceS x1 x2 x3 x5 W 256 256 2 2 rfl rfl _ _ (by decide) g, ?_⟩
  refine List.forall_mem_cons.2 ⟨pieceS x1 x2 x3 x5 W 256 128 2 1 rfl rfl _ _ (by decide) g, ?_⟩
  refine List.forall_mem_cons.2 ⟨pieceS x1 x2 x3 x5 W 256 0 2 0 rfl rfl _ _ (by decide) g, ?_⟩
  refine List.forall_mem_cons.2 ⟨pieceS x1 x2 x3 x5 W 128 896 1 7 rfl rfl _ _ (by decide) g, ?_⟩
  refine List.forall_mem_cons.2 ⟨pieceS x1 x2 x3 x5 W 128 768 1 6 rfl rfl _ _ (by decide) g, ?_⟩
  refine List.forall_mem_cons.2 ⟨pieceS x1 x2 x3 x5 W 128 640 1 5 rfl rfl _ _ (by decide) g, ?_⟩
  refine List.forall_mem_cons.2 ⟨pieceS x1 x2 x3 x5 W 128 512 1 4 rfl rfl _ _ (by decide) g, ?_⟩
  refine List.forall_mem_cons.2 ⟨pieceS x1 x2 x3 x5 W 128 384 1 3 rfl rfl _ _ (by decide) g, ?_⟩
  refine List.forall_mem_cons.2 ⟨pieceS x1 x2 x3 x5 W 128 256 1 2 rfl rfl _ _ (by decide) g, ?_⟩
  refine List.forall_mem_cons.2 ⟨pieceS x1 x2 x3 x5 W 128 128 1 1 rfl rfl _ _ (by decide) g, ?_⟩
  refine List.forall_mem_cons.2 ⟨pieceS x1 x2 x3 x5 W 128 0 1 0 rfl rfl _ _ (by decide) g, ?_⟩
  refine List.forall_mem_cons.2 ⟨pieceS x1 x2 x3 x5 W 0 896 0 7 rfl rfl _ _ (by decide) g, ?_⟩
  refine List.forall_mem_cons.2 ⟨pieceS x1 x2 x3 x5 W 0 768 0 6 rfl rfl _ _ (by decide) g, ?_⟩
  refine List.forall_mem_cons.2 ⟨pieceS x1 x2 x3 x5 W 0 640 0 5 rfl rfl _ _ (by decide) g, ?_⟩
  refine List.forall_mem_cons.2 ⟨pieceS x1 x2 x3 x5 W 0 512 0 4 rfl rfl _ _ (by decide) g, ?_⟩
  refine List.forall_mem_cons.2 ⟨pieceS x1 x2 x3 x5 W 0 384 0 3 rfl rfl _ _ (by decide) g, ?_⟩
  refine List.forall_mem_cons.2 ⟨pieceS x1 x2 x3 x5 W 0 256 0 2 rfl rfl _ _ (by decide) g, ?_⟩
  refine List.forall_mem_cons.2 ⟨pieceS x1 x2 x3 x5 W 0 128 0 1 rfl rfl _ _ (by decide) g, ?_⟩
  refine List.forall_mem_cons.2 ⟨pieceS x1 x2 x3 x5 W 0 0 0 0 rfl rfl _ _ (by decide) g, ?_⟩
  exact List.forall_mem_nil _

end Cert.QkPrepIdeal.QK
-- ==== Proof.QkTab.lean ====
/- The query and key quantiser's tables: the host operations before the call, element by element over the extended reals. -/
module

public import Idealize.ShloMosaic.Lib.StableHlo.RunRead
public import Idealize.ShloMosaic.Lib.Pointwise
public import Idealize.ShloMosaic.Lib.Pointwise.IndexVar
public import proofs.«01_k».proof.Proof.QkRow
public import proofs.«01_k».proof.Proof.Gen.QkPrepIdeal.Value

@[expose] public section

set_option maxRecDepth 16384

noncomputable section

namespace Cert.QkPrepIdeal.QK

open Idealize.ShloMosaic Idealize.ShloMosaic.TcCoe Idealize.ShloMosaic.Pointwise Cert.QkPrepIdeal.Gen

section Generic
variable {F : FTy → Type} [FloatOps F]

/-- The frequencies, and the positions times the frequencies. -/
def freq : FVec F S64 .f32 :=
  Host.powf (broadcastInDim S64 ![] bcast_S_S64 (constant S_ .f32 0x49742400#32))
    (Host.divf (Host.negf (addf (broadcastInDim S64 ![] bcast_S_S64 (constant S_ .f32 0x00000000#32))
      (mulf (broadcastInDim S64 ![] bcast_S_S64 (constant S_ .f32 0x40000000#32)) (sitofp .f32 (iotaInDim S64 32 0)))))
      (broadcastInDim S64 ![] bcast_S_S64 (constant S_ .f32 0x43000000#32)))

def post (p : IVec S8 32) : FVec F S8x4096 .f32 :=
  sitofp .f32 (addi (broadcastInDim S8x4096 ![0, 1] bcast_S8x1_S8x4096_0_1 (broadcastInDim S8x1 ![0] bcast_S8_S8x1_0 p))
    (broadcastInDim S8x4096 ![0, 1] bcast_S1x4096_S8x4096_0_1 (broadcastInDim S1x4096 ![1] bcast_S4096_S1x4096_1 (iotaInDim S4096 32 0))))

def angs (f : FVec F S64 .f32) (q : FVec F S8x4096 .f32) : FVec F S8x64x4096 .f32 :=
  mulf (broadcastInDim S8x64x4096 ![0, 1, 2] bcast_S8x1x4096_S8x64x4096_0_1_2 (broadcastInDim S8x1x4096 ![0, 2] bcast_S8x4096_S8x1x4096_0_2 q))
    (broadcastInDim S8x64x4096 ![0, 1, 2] bcast_S1x64x1_S8x64x4096_0_1_2 (broadcastInDim S1x64x1 ![1] bcast_S64_S1x64x1_1 f))

def wts (w : FVec F S128 .bf16) : FVec F S128x128 .f32 :=
  broadcastInDim S128x128 ![0, 1] bcast_S128x1_S128x128_0_1 (broadcastInDim S128x1 ![0] bcast_S128_S128x1_0 (extf .f32 w bitsLt_bf16_f32))

variable (m : (ℓ : Loc nD τ sig) → Buf (Elt F) ℓ) (c : Dev nD)

theorem V_cos : V m c main_v22 = Host.cos (angs freq (post (m ((c : Thread nD τ).loc main_arg4)))) := by
  unfold V
  after_reads_simp
  rfl

theorem V_sin : V m c main_v23 = Host.sin (angs freq (post (m ((c : Thread nD τ).loc main_arg4)))) := by
  unfold V
  after_reads_simp
  rfl

theorem V_wq : V m c main_v26 = wts (m ((c : Thread nD τ).loc main_arg2)) := by
  unfold V
  after_reads_simp
  rfl

theorem V_wk : V m c main_v29 = wts (m ((c : Thread nD τ).loc main_arg3)) := by
  unfold V
  after_reads_simp
  rfl

end Generic

theorem freq_apply (j : Fin 64) : freq (F := Ideal) (ix1 j) = QRow.fr j := by
  pointwise [freq, QRow.fr]

theorem post_apply (p : IVec S8 32) (b : Fin 8) (s : Fin 4096) : post (F := Ideal) p (ix2 b s) = QRow.po (p (ix1 b)) s := by
  pointwise [post, QRow.po]

theorem cos_apply (f : FVec Ideal S64 .f32) (q : FVec Ideal S8x4096 .f32) (b : Fin 8) (j : Fin 64) (s : Fin 4096) :
    Host.cos (angs f q) (ix3 b j s) = Ideal.cos (q (ix2 b s) * f (ix1 j)) := by
  pointwise [angs]

theorem sin_apply (f : FVec Ideal S64 .f32) (q : FVec Ideal S8x4096 .f32) (b : Fin 8) (j : Fin 64) (s : Fin 4096) :
    Host.sin (angs f q) (ix3 b j s) = Ideal.sin (q (ix2 b s) * f (ix1 j)) := by
  pointwise [angs]

theorem wts_apply (w : FVec Ideal S128 .bf16) (d l : Fin 128) : wts w (ix2 d l) = w (ix1 d) := by
  pointwise [wts]

end Cert.QkPrepIdeal.QK
-- ==== Proof.QkSpec.lean ====
/- The rotated and quantised arrays of queries or keys, as functions of an input array, a weight and the first positions: what
   the kernel and its reference both compute. -/
module

public import proofs.«01_k».proof.Proof.QkRow

@[expose] public section

noncomputable section

namespace Cert.QRow

open Idealize.ShloMosaic Idealize.ShloMosaic.Pointwise
open Cert.Row (col)

variable (x : (⟨3, ![8, 4096, 1024]⟩ : Shape).Idx → EReal) (w : (⟨1, ![128]⟩ : Shape).Idx → EReal) (p : (⟨1, ![8]⟩ : Shape).Idx → BitVec 32)

/-- Token `s`'s head `h`, rotated. -/
def qA (b : Fin 8) (s : Fin 4096) (h : Fin 8) : Fin 128 → EReal :=
  q (fun d => x (ix3 b s (col h d))) (fun d => w (ix1 d)) (tc (p (ix1 b)) s) (ts (p (ix1 b)) s)

/-- Its exponent, its codes and its scale. -/
def eA (b : Fin 8) (s : Fin 4096) (h : Fin 8) : EReal := Row.expo ((Expo.kq : ℝ) : EReal) (Expo.amax (qA x w p b s h))
def codeA (b : Fin 8) (s : Fin 4096) (h : Fin 8) (d : Fin 128) : EReal := Row.clip (qA x w p b s h d * Ideal.exp2 (0 - eA x w p b s h))
def scaleA (b : Fin 8) (s : Fin 4096) (h : Fin 8) : EReal := Ideal.exp2 (eA x w p b s h)

/-- What is asked of the arrays: greatest values in range. -/
structure Ok : Prop where
  hr : ∀ b s h, InRange (Expo.amax (qA x w p b s h))

end Cert.QRow
-- ==== Proof.QkArr.lean ====
/- The query and key quantiser's output arrays after the run, element by element over the extended reals. -/
module

public import proofs.«01_k».proof.Proof.QkBlocks
public import proofs.«01_k».proof.Proof.QkTab
public import proofs.«01_k».proof.Proof.QkSpec

@[expose] public section

set_option maxRecDepth 16384

noncomputable section

namespace Cert.QkPrepIdeal.QK

open Idealize.ShloMosaic Idealize.ShloMosaic.TcCoe Idealize.ShloMosaic.Pointwise Cert.QkPrepIdeal.Gen
open Idealize.ShloMosaic.Pipeline (Dat)
open Cert.Row (col)

variable (m : (ℓ : Loc nD τ sig) → Buf (Elt Ideal) ℓ)

/-- The grid point of batch `b`'s tokens from `512 g`. -/
abbrev pnt (b g : Fin 8) : Fin cfg0.N := ⟨8 * b + g, by have := g.isLt; have := b.isLt; show _ < 64; omega⟩

/-- Token `t` of them. -/
abbrev row (g : Fin 8) (t : Fin 512) : Fin 4096 := ⟨512 * g + t, by have := g.isLt; have := t.isLt; omega⟩

theorem ind0 : ∀ b g : Fin 8, win0_0.index (pnt b g) 0 = b ∧ win0_0.index (pnt b g) 1 = g ∧ win0_0.index (pnt b g) 2 = 0 := by decide +kernel
theorem ind1 : ∀ b g : Fin 8, win0_1.index (pnt b g) 0 = b ∧ win0_1.index (pnt b g) 1 = g ∧ win0_1.index (pnt b g) 2 = 0 := by decide +kernel
theorem ind2 : ∀ b g : Fin 8, win0_2.index (pnt b g) 0 = b ∧ win0_2.index (pnt b g) 1 = 0 ∧ win0_2.index (pnt b g) 2 = g := by decide +kernel
theorem ind3 : ∀ b g : Fin 8, win0_3.index (pnt b g) 0 = b ∧ win0_3.index (pnt b g) 1 = 0 ∧ win0_3.index (pnt b g) 2 = g := by decide +kernel
theorem ind4 : ∀ b g : Fin 8, win0_4.index (pnt b g) 0 = 0 ∧ win0_4.index (pnt b g) 1 = 0 := by decide +kernel
theorem ind5 : ∀ b g : Fin 8, win0_5.index (pnt b g) 0 = 0 ∧ win0_5.index (pnt b g) 1 = 0 := by decide +kernel
theorem ind6 : ∀ b g : Fin 8, win0_6.index (pnt b g) 0 = b ∧ win0_6.index (pnt b g) 1 = g ∧ win0_6.index (pnt b g) 2 = 0 := by decide +kernel
theorem ind7 : ∀ b g : Fin 8, win0_7.index (pnt b g) 0 = b ∧ win0_7.index (pnt b g) 1 = g ∧ win0_7.index (pnt b g) 2 = 0 := by decide +kernel
theorem ind8 : ∀ b g : Fin 8, win0_8.index (pnt b g) 0 = b ∧ win0_8.index (pnt b g) 1 = 0 ∧ win0_8.index (pnt b g) 2 = 0 ∧ win0_8.index (pnt b g) 3 = g := by decide +kernel
theorem ind9 : ∀ b g : Fin 8, win0_9.index (pnt b g) 0 = b ∧ win0_9.index (pnt b g) 1 = 0 ∧ win0_9.index (pnt b g) 2 = g := by decide +kernel
theorem ind10 : ∀ b g : Fin 8, win0_10.index (pnt b g) 0 = b ∧ win0_10.index (pnt b g) 1 = 0 ∧ win0_10.index (pnt b g) 2 = g := by decide +kernel

variable (c : Dev nD) (b g : Fin 8)

/-! ## The input blocks -/

theorem blk0 (t : Fin 512) (e : Fin 1024) : (iblk m c 0 (pnt b g) : Vec Ideal S1x512x1024 .bf16) (ix3 0 t e) =
    m ((c : Thread nD τ).loc main_arg0) (ix3 b (row g t) e) := by
  obtain ⟨h0, h1, h2⟩ := ind0 b g
  unfold iblk
  rw [View.read_apply]
  show V m c main_arg0 _ = m (c.tc.loc main_arg0) _
  rw [V_main_arg0]
  congr 1
  funext a
  apply Fin.ext
  match a with
  | ⟨0, _⟩ => show win0_0.index (pnt b g) 0 * 1 + 1 * 0 = (b : ℕ); omega
  | ⟨1, _⟩ => show win0_0.index (pnt b g) 1 * 512 + 1 * (t : ℕ) = 512 * (g : ℕ) + t; omega
  | ⟨2, _⟩ => show win0_0.index (pnt b g) 2 * 1024 + 1 * (e : ℕ) = (e : ℕ); omega

theorem blk1 (t : Fin 512) (e : Fin 1024) : (iblk m c 1 (pnt b g) : Vec Ideal S1x512x1024 .bf16) (ix3 0 t e) =
    m ((c : Thread nD τ).loc main_arg1) (ix3 b (row g t) e) := by
  obtain ⟨h0, h1, h2⟩ := ind1 b g
  unfold iblk
  rw [View.read_apply]
  show V m c main_arg1 _ = m (c.tc.loc main_arg1) _
  rw [V_main_arg1]
  congr 1
  funext a
  apply Fin.ext
  match a with
  | ⟨0, _⟩ => show win0_1.index (pnt b g) 0 * 1 + 1 * 0 = (b : ℕ); omega
  | ⟨1, _⟩ => show win0_1.index (pnt b g) 1 * 512 + 1 * (t : ℕ) = 512 * (g : ℕ) + t; omega
  | ⟨2, _⟩ => show win0_1.index (pnt b g) 2 * 1024 + 1 * (e : ℕ) = (e : ℕ); omega

theorem blk2 (j : Fin 64) (t : Fin 512) : (iblk m c 2 (pnt b g) : Vec Ideal S1x64x512 .f32) (ix3 0 j t) =
    QRow.tc (m ((c : Thread nD τ).loc main_arg4) (ix1 b)) (row g t) j := by
  obtain ⟨h0, h1, h2⟩ := ind2 b g
  have hi : ((cfg0.win 2).blk (pnt b g)).view.emb (ix3 0 j t) = ix3 b j (row g t) := by
    funext a
    apply Fin.ext
    match a with
    | ⟨0, _⟩ => show win0_2.index (pnt b g) 0 * 1 + 1 * 0 = (b : ℕ); omega
    | ⟨1, _⟩ => show win0_2.index (pnt b g) 1 * 64 + 1 * (j : ℕ) = (j : ℕ); omega
    | ⟨2, _⟩ => show win0_2.index (pnt b g) 2 * 512 + 1 * (t : ℕ) = 512 * (g : ℕ) + t; omega
  unfold iblk
  rw [View.read_apply]
  show V m c main_v22 _ = _
  rw [V_cos, hi, cos_apply, freq_apply, post_apply]
  rfl

theorem blk3 (j : Fin 64) (t : Fin 512) : (iblk m c 3 (pnt b g) : Vec Ideal S1x64x512 .f32) (ix3 0 j t) =
    QRow.ts (m ((c : Thread nD τ).loc main_arg4) (ix1 b)) (row g t) j := by
  obtain ⟨h0, h1, h2⟩ := ind3 b g
  have hi : ((cfg0.win 3).blk (pnt b g)).view.emb (ix3 0 j t) = ix3 b j (row g t) := by
    funext a
    apply Fin.ext
    match a with
    | ⟨0, _⟩ => show win0_3.index (pnt b g) 0 * 1 + 1 * 0 = (b : ℕ); omega
    | ⟨1, _⟩ => show win0_3.index (pnt b g) 1 * 64 + 1 * (j : ℕ) = (j : ℕ); omega
    | ⟨2, _⟩ => show win0_3.index (pnt b g) 2 * 512 + 1 * (t : ℕ) = 512 * (g : ℕ) + t; omega
  unfold iblk
  rw [View.read_apply]
  show V m c main_v23 _ = _
  rw [V_sin, hi, sin_apply, freq_apply, post_apply]
  rfl

theorem blk4 (d l : Fin 128) : (iblk m c 4 (pnt b g) : Vec Ideal S128x128 .f32) (ix2 d l) =
    m ((c : Thread nD τ).loc main_arg2) (ix1 d) := by
  obtain ⟨h0, h1⟩ := ind4 b g
  have hi : ((cfg0.win 4).blk (pnt b g)).view.emb (ix2 d l) = ix2 d l := by
    funext a
    apply Fin.ext
    match a with
    | ⟨0, _⟩ => show win0_4.index (pnt b g) 0 * 128 + 1 * (d : ℕ) = (d : ℕ); omega
    | ⟨1, _⟩ => show win0_4.index (pnt b g) 1 * 128 + 1 * (l : ℕ) = (l : ℕ); omega
  unfold iblk
  rw [View.read_apply]
  show V m c main_v26 _ = _
  rw [V_wq, hi, wts_apply]

theorem blk5 (d l : Fin 128) : (iblk m c 5 (pnt b g) : Vec Ideal S128x128 .f32) (ix2 d l) =
    m ((c : Thread nD τ).loc main_arg3) (ix1 d) := by
  obtain ⟨h0, h1⟩ := ind5 b g
  have hi : ((cfg0.win 5).blk (pnt b g)).view.emb (ix2 d l) = ix2 d l := by
    funext a
    apply Fin.ext
    match a with
    | ⟨0, _⟩ => show win0_5.index (pnt b g) 0 * 128 + 1 * (d : ℕ) = (d : ℕ); omega
    | ⟨1, _⟩ => show win0_5.index (pnt b g) 1 * 128 + 1 * (l : ℕ) = (l : ℕ); omega
  unfold iblk
  rw [View.read_apply]
  show V m c main_v29 _ = _
  rw [V_wk, hi, wts_apply]

/-! ## The blocks are good where the arrays are -/

/-- The queries' array, their weight and the first positions; and the keys'. -/
abbrev aX0 : S8x4096x1024.Idx → EReal := m ((c : Thread nD τ).loc main_arg0)
abbrev aX1 : S8x4096x1024.Idx → EReal := m ((c : Thread nD τ).loc main_arg1)
abbrev aW0 : S128.Idx → EReal := m ((c : Thread nD τ).loc main_arg2)
abbrev aW1 : S128.Idx → EReal := m ((c : Thread nD τ).loc main_arg3)
abbrev aP : S8.Idx → BitVec 32 := m ((c : Thread nD τ).loc main_arg4)

theorem q0 (h : Fin 8) (t : Fin 512) : QRow.q (bT (iblk m c 0 (pnt b g) : Vec Ideal S1x512x1024 .bf16) h t) (fun d => aW0 m c (ix1 d)) (bC (iblk m c 2 (pnt b g) : Vec Ideal S1x64x512 .f32) t) (bC (iblk m c 3 (pnt b g) : Vec Ideal S1x64x512 .f32) t) =
    QRow.qA (aX0 m c) (aW0 m c) (aP m c) b (row g t) h := by
  have e1 : bT (iblk m c 0 (pnt b g) : Vec Ideal S1x512x1024 .bf16) h t = fun d => aX0 m c (ix3 b (row g t) (col h d)) := funext fun d => blk0 m c b g t (col h d)
  have e2 : bC (iblk m c 2 (pnt b g) : Vec Ideal S1x64x512 .f32) t = QRow.tc (aP m c (ix1 b)) (row g t) := funext fun j => blk2 m c b g j t
  have e3 : bC (iblk m c 3 (pnt b g) : Vec Ideal S1x64x512 .f32) t = QRow.ts (aP m c (ix1 b)) (row g t) := funext fun j => blk3 m c b g j t
  rw [e1, e2, e3]
  rfl

theorem good0 (ok : QRow.Ok (aX0 m c) (aW0 m c) (aP m c)) : Good (iblk m c 0 (pnt b g) : Vec Ideal S1x512x1024 .bf16) (iblk m c 2 (pnt b g) : Vec Ideal S1x64x512 .f32) (iblk m c 3 (pnt b g) : Vec Ideal S1x64x512 .f32) (iblk m c 4 (pnt b g) : Vec Ideal S128x128 .f32) (fun d => aW0 m c (ix1 d)) where
  w := blk4 m c b g
  hc t j := by
    obtain ⟨y, hy⟩ := QRow.tc_real (aP m c (ix1 b)) (row g t) j
    exact ⟨y, (blk2 m c b g j t).trans hy⟩
  hs t j := by
    obtain ⟨y, hy⟩ := QRow.ts_real (aP m c (ix1 b)) (row g t) j
    exact ⟨y, (blk3 m c b g j t).trans hy⟩
  hcs t j := (QRow.tc_or_ts (aP m c (ix1 b)) (row g t) j).imp (fun h e => h ((blk2 m c b g j t).symm.trans e)) (fun h e => h ((blk3 m c b g j t).symm.trans e))
  hr h t := by rw [q0 m c b g h t]; exact ok.hr b (row g t) h

theorem bcode0 (h : Fin 8) (t : Fin 512) (d : Fin 128) : bcode (iblk m c 0 (pnt b g) : Vec Ideal S1x512x1024 .bf16) (iblk m c 2 (pnt b g) : Vec Ideal S1x64x512 .f32) (iblk m c 3 (pnt b g) : Vec Ideal S1x64x512 .f32) (fun d => aW0 m c (ix1 d)) h t d = QRow.codeA (aX0 m c) (aW0 m c) (aP m c) b (row g t) h d := by
  unfold bcode ex
  rw [q0 m c b g h t]
  rfl

theorem bscale0 (h : Fin 8) (t : Fin 512) : bscale (iblk m c 0 (pnt b g) : Vec Ideal S1x512x1024 .bf16) (iblk m c 2 (pnt b g) : Vec Ideal S1x64x512 .f32) (iblk m c 3 (pnt b g) : Vec Ideal S1x64x512 .f32) (fun d => aW0 m c (ix1 d)) h t = QRow.scaleA (aX0 m c) (aW0 m c) (aP m c) b (row g t) h := by
  unfold bscale ex
  rw [q0 m c b g h t]
  rfl

theorem q1 (h : Fin 8) (t : Fin 512) : QRow.q (bT (iblk m c 1 (pnt b g) : Vec Ideal S1x512x1024 .bf16) h t) (fun d => aW1 m c (ix1 d)) (bC (iblk m c 2 (pnt b g) : Vec Ideal S1x64x512 .f32) t) (bC (iblk m c 3 (pnt b g) : Vec Ideal S1x64x512 .f32) t) =
    QRow.qA (aX1 m c) (aW1 m c) (aP m c) b (row g t) h := by
  have e1 : bT (iblk m c 1 (pnt b g) : Vec Ideal S1x512x1024 .bf16) h t = fun d => aX1 m c (ix3 b (row g t) (col h d)) := funext fun d => blk1 m c b g t (col h d)
  have e2 : bC (iblk m c 2 (pnt b g) : Vec Ideal S1x64x512 .f32) t = QRow.tc (aP m c (ix1 b)) (row g t) := funext fun j => blk2 m c b g j t
  have e3 : bC (iblk m c 3 (pnt b g) : Vec Ideal S1x64x512 .f32) t = QRow.ts (aP m c (ix1 b)) (row g t) := funext fun j => blk3 m c b g j t
  rw [e1, e2, e3]
  rfl

theorem good1 (ok : QRow.Ok (aX1 m c) (aW1 m c) (aP m c)) : Good (iblk m c 1 (pnt b g) : Vec Ideal S1x512x1024 .bf16) (iblk m c 2 (pnt b g) : Vec Ideal S1x64x512 .f32) (iblk m c 3 (pnt b g) : Vec Ideal S1x64x512 .f32) (iblk m c 5 (pnt b g) : Vec Ideal S128x128 .f32) (fun d => aW1 m c (ix1 d)) where
  w := blk5 m c b g
  hc t j := by
    obtain ⟨y, hy⟩ := QRow.tc_real (aP m c (ix1 b)) (row g t) j
    exact ⟨y, (blk2 m c b g j t).trans hy⟩
  hs t j := by
    obtain ⟨y, hy⟩ := QRow.ts_real (aP m c (ix1 b)) (row g t) j
    exact ⟨y, (blk3 m c b g j t).trans hy⟩
  hcs t j := (QRow.tc_or_ts (aP m c (ix1 b)) (row g t) j).imp (fun h e => h ((blk2 m c b g j t).symm.trans e)) (fun h e => h ((blk3 m c b g j t).symm.trans e))
  hr h t := by rw [q1 m c b g h t]; exact ok.hr b (row g t) h

theorem bcode1 (h : Fin 8) (t : Fin 512) (d : Fin 128) : bcode (iblk m c 1 (pnt b g) : Vec Ideal S1x512x1024 .bf16) (iblk m c 2 (pnt b g) : Vec Ideal S1x64x512 .f32) (iblk m c 3 (pnt b g) : Vec Ideal S1x64x512 .f32) (fun d => aW1 m c (ix1 d)) h t d = QRow.codeA (aX1 m c) (aW1 m c) (aP m c) b (row g t) h d := by
  unfold bcode ex
  rw [q1 m c b g h t]
  rfl

theorem bscale1 (h : Fin 8) (t : Fin 512) : bscale (iblk m c 1 (pnt b g) : Vec Ideal S1x512x1024 .bf16) (iblk m c 2 (pnt b g) : Vec Ideal S1x64x512 .f32) (iblk m c 3 (pnt b g) : Vec Ideal S1x64x512 .f32) (fun d => aW1 m c (ix1 d)) h t = QRow.scaleA (aX1 m c) (aW1 m c) (aP m c) b (row g t) h := by
  unfold bscale ex
  rw [q1 m c b g h t]
  rfl

/-! ## The arrays -/

theorem arr6 (ok : QRow.Ok (aX0 m c) (aW0 m c) (aP m c)) (h : Fin 8) (t : Fin 512) (d : Fin 128) :
    (dats m 0 c).arrAt 6 cfg0.N (ix3 b (row g t) (col h d)) = QRow.codeA (aX0 m c) (aW0 m c) (aP m c) b (row g t) h d := by
  have hb := congrFun (Value.blocks6 m c (pnt b g) (flush0_6 _)) (ix3 0 t (col h d))
  rw [Value.flushed6, View.read_apply] at hb
  obtain ⟨h0, h1, h2⟩ := ind6 b g
  have hi : ((cfg0.win 6).blk (pnt b g)).view.emb (ix3 0 t (col h d)) = ix3 b (row g t) (col h d) := by
    funext a
    apply Fin.ext
    match a with
    | ⟨0, _⟩ => show win0_6.index (pnt b g) 0 * 1 + 1 * 0 = (b : ℕ); omega
    | ⟨1, _⟩ => show win0_6.index (pnt b g) 1 * 512 + 1 * (t : ℕ) = 512 * (g : ℕ) + t; omega
    | ⟨2, _⟩ => show win0_6.index (pnt b g) 2 * 1024 + 1 * (128 * (h : ℕ) + d) = 128 * (h : ℕ) + d; omega
  rw [hi] at hb
  refine hb.trans ((out6_apply _ _ _ _ _ _ _ (good0 m c b g ok) (ix3 0 t (col h d))).trans ?_)
  have e3 : hd (col h d) = h := Fin.ext (by show (128 * (h : ℕ) + d) / 128 = h; omega)
  have e4 : ln (col h d) = d := Fin.ext (by show (128 * (h : ℕ) + d) % 128 = d; omega)
  show bcode _ _ _ _ (hd (col h d)) t (ln (col h d)) = _
  rw [e3, e4]
  exact bcode0 m c b g h t d

theorem arr7 (ok : QRow.Ok (aX1 m c) (aW1 m c) (aP m c)) (h : Fin 8) (t : Fin 512) (d : Fin 128) :
    (dats m 0 c).arrAt 7 cfg0.N (ix3 b (row g t) (col h d)) = QRow.codeA (aX1 m c) (aW1 m c) (aP m c) b (row g t) h d := by
  have hb := congrFun (Value.blocks7 m c (pnt b g) (flush0_7 _)) (ix3 0 t (col h d))
  rw [Value.flushed7, View.read_apply] at hb
  obtain ⟨h0, h1, h2⟩ := ind7 b g
  have hi : ((cfg0.win 7).blk (pnt b g)).view.emb (ix3 0 t (col h d)) = ix3 b (row g t) (col h d) := by
    funext a
    apply Fin.ext
    match a with
    | ⟨0, _⟩ => show win0_7.index (pnt b g) 0 * 1 + 1 * 0 = (b : ℕ); omega
    | ⟨1, _⟩ => show win0_7.index (pnt b g) 1 * 512 + 1 * (t : ℕ) = 512 * (g : ℕ) + t; omega
    | ⟨2, _⟩ => show win0_7.index (pnt b g) 2 * 1024 + 1 * (128 * (h : ℕ) + d) = 128 * (h : ℕ) + d; omega
  rw [hi] at hb
  refine hb.trans ((out7_apply _ _ _ _ _ _ _ (good1 m c b g ok) (ix3 0 t (col h d))).trans ?_)
  have e3 : hd (col h d) = h := Fin.ext (by show (128 * (h : ℕ) + d) / 128 = h; omega)
  have e4 : ln (col h d) = d := Fin.ext (by show (128 * (h : ℕ) + d) % 128 = d; omega)
  show bcode _ _ _ _ (hd (col h d)) t (ln (col h d)) = _
  rw [e3, e4]
  exact bcode1 m c b g h t d

theorem arr8 (ok : QRow.Ok (aX1 m c) (aW1 m c) (aP m c)) (h : Fin 8) (t : Fin 512) (d : Fin 128) :
    (dats m 0 c).arrAt 8 cfg0.N (ix4 b h d (row g t)) = QRow.codeA (aX1 m c) (aW1 m c) (aP m c) b (row g t) h d := by
  have hb := congrFun (Value.blocks8 m c (pnt b g) (flush0_8 _)) (ix4 0 h d t)
  rw [Value.flushed8, View.read_apply] at hb
  obtain ⟨h0, h1, h2, h3⟩ := ind8 b g
  have hi : ((cfg0.win 8).blk (pnt b g)).view.emb (ix4 0 h d t) = ix4 b h d (row g t) := by
    funext a
    apply Fin.ext
    match a with
    | ⟨0, _⟩ => show win0_8.index (pnt b g) 0 * 1 + 1 * 0 = (b : ℕ); omega
    | ⟨1, _⟩ => show win0_8.index (pnt b g) 1 * 8 + 1 * (h : ℕ) = (h : ℕ); omega
    | ⟨2, _⟩ => show win0_8.index (pnt b g) 2 * 128 + 1 * (d : ℕ) = (d : ℕ); omega
    | ⟨3, _⟩ => show win0_8.index (pnt b g) 3 * 512 + 1 * (t : ℕ) = 512 * (g : ℕ) + t; omega
  rw [hi] at hb
  refine hb.trans ((out8_apply _ _ _ _ _ _ _ (good1 m c b g ok) (ix4 0 h d t)).trans ?_)
  exact bcode1 m c b g h t d

theorem arr9 (ok : QRow.Ok (aX0 m c) (aW0 m c) (aP m c)) (h : Fin 8) (t : Fin 512) :
    (dats m 0 c).arrAt 9 cfg0.N (ix3 b h (row g t)) = QRow.scaleA (aX0 m c) (aW0 m c) (aP m c) b (row g t) h := by
  have hb := congrFun (Value.blocks9 m c (pnt b g) (flush0_9 _)) (ix3 0 h t)
  rw [Value.flushed9, View.read_apply] at hb
  obtain ⟨h0, h1, h2⟩ := ind9 b g
  have hi : ((cfg0.win 9).blk (pnt b g)).view.emb (ix3 0 h t) = ix3 b h (row g t) := by
    funext a
    apply Fin.ext
    match a with
    | ⟨0, _⟩ => show win0_9.index (pnt b g) 0 * 1 + 1 * 0 = (b : ℕ); omega
    | ⟨1, _⟩ => show win0_9.index (pnt b g) 1 * 8 + 1 * (h : ℕ) = (h : ℕ); omega
    | ⟨2, _⟩ => show win0_9.index (pnt b g) 2 * 512 + 1 * (t : ℕ) = 512 * (g : ℕ) + t; omega
  rw [hi] at hb
  refine hb.trans ((out9_apply _ _ _ _ _ _ _ (good0 m c b g ok) (ix3 0 h t)).trans ?_)
  exact bscale0 m c b g h t

theorem arr10 (ok : QRow.Ok (aX1 m c) (aW1 m c) (aP m c)) (h : Fin 8) (t : Fin 512) :
    (dats m 0 c).arrAt 10 cfg0.N (ix3 b h (row g t)) = QRow.scaleA (aX1 m c) (aW1 m c) (aP m c) b (row g t) h := by
  have hb := congrFun (Value.blocks10 m c (pnt b g) (flush0_10 _)) (ix3 0 h t)
  rw [Value.flushed10, View.read_apply] at hb
  obtain ⟨h0, h1, h2⟩ := ind10 b g
  have hi : ((cfg0.win 10).blk (pnt b g)).view.emb (ix3 0 h t) = ix3 b h (row g t) := by
    funext a
    apply Fin.ext
    match a with
    | ⟨0, _⟩ => show win0_10.index (pnt b g) 0 * 1 + 1 * 0 = (b : ℕ); omega
    | ⟨1, _⟩ => show win0_10.index (pnt b g) 1 * 8 + 1 * (h : ℕ) = (h : ℕ); omega
    | ⟨2, _⟩ => show win0_10.index (pnt b g) 2 * 512 + 1 * (t : ℕ) = 512 * (g : ℕ) + t; omega
  rw [hi] at hb
  refine hb.trans ((out10_apply _ _ _ _ _ _ _ (good1 m c b g ok) (ix3 0 h t)).trans ?_)
  exact bscale1 m c b g h t

end Cert.QkPrepIdeal.QK
-- ==== Proof.QkRefRun.lean ====
/- The query and key reference's arrays after the run: one grid point, whose blocks are the whole arrays. -/
module

public import Idealize.ShloMosaic.Lib.StableHlo.RunRead
public import proofs.«01_k».proof.Proof.Gen.QkReferenceIdeal.Frame
public import Idealize.ShloMosaic.Lib.Pipeline.Value

@[expose] public section

set_option maxRecDepth 16384

noncomputable section

namespace Cert.QkReferenceIdeal.QK

open Idealize.ShloMosaic Idealize.ShloMosaic.TcCoe Cert.QkReferenceIdeal.Gen
open Idealize.ShloMosaic.Pipeline (Dat)

variable {F : FTy → Type} [FloatOps F] [Named F]
variable (m : (ℓ : Loc nD τ sig) → Buf (Elt F) ℓ)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## Every block is its array -/

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

theorem emb0 (t : Fin cfg0.N) (j : S8x4096x1024.Idx) : ((cfg0.win 0).blk t).view.emb j = j := by
  obtain ⟨e0, e1, e2⟩ := idx0 t
  funext a; apply Fin.ext
  match a with
  | ⟨0, _⟩ => show win0_0.index t (0 : Fin 3) * 8 + 1 * (j 0).val = (j 0).val; omega
  | ⟨1, _⟩ => show win0_0.index t (1 : Fin 3) * 4096 + 1 * (j 1).val = (j 1).val; omega
  | ⟨2, _⟩ => show win0_0.index t (2 : Fin 3) * 1024 + 1 * (j 2).val = (j 2).val; omega

theorem iblk0_eq (c : Dev nD) (t : Fin cfg0.N) : iblk m c 0 t = V m c main_arg0 := by
  funext j; show V m c main_arg0 (((cfg0.win 0).blk t).view.emb j) = V m c main_arg0 j; rw [emb0]

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (j : S8x4096x1024.Idx) : ((cfg0.win 1).blk t).view.emb j = j := by
  obtain ⟨e0, e1, e2⟩ := idx1 t
  funext a; apply Fin.ext
  match a with
  | ⟨0, _⟩ => show win0_1.index t (0 : Fin 3) * 8 + 1 * (j 0).val = (j 0).val; omega
  | ⟨1, _⟩ => show win0_1.index t (1 : Fin 3) * 4096 + 1 * (j 1).val = (j 1).val; omega
  | ⟨2, _⟩ => show win0_1.index t (2 : Fin 3) * 1024 + 1 * (j 2).val = (j 2).val; omega

theorem iblk1_eq (c : Dev nD) (t : Fin cfg0.N) : iblk m c 1 t = V m c main_arg1 := by
  funext j; show V m c main_arg1 (((cfg0.win 1).blk t).view.emb j) = V m c main_arg1 j; rw [emb1]

theorem idx2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)

theorem emb2 (t : Fin cfg0.N) (j : S8x4096x1x64.Idx) : ((cfg0.win 2).blk t).view.emb j = j := by
  obtain ⟨e0, e1, e2, e3⟩ := idx2 t
  funext a; apply Fin.ext
  match a with
  | ⟨0, _⟩ => show win0_2.index t (0 : Fin 4) * 8 + 1 * (j 0).val = (j 0).val; omega
  | ⟨1, _⟩ => show win0_2.index t (1 : Fin 4) * 4096 + 1 * (j 1).val = (j 1).val; omega
  | ⟨2, _⟩ => show win0_2.index t (2 : Fin 4) * 1 + 1 * (j 2).val = (j 2).val; omega
  | ⟨3, _⟩ => show win0_2.index t (3 : Fin 4) * 64 + 1 * (j 3).val = (j 3).val; omega

theorem iblk2_eq (c : Dev nD) (t : Fin cfg0.N) : iblk m c 2 t = V m c main_v23 := by
  funext j; show V m c main_v23 (((cfg0.win 2).blk t).view.emb j) = V m c main_v23 j; rw [emb2]

theorem idx3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

theorem emb3 (t : Fin cfg0.N) (j : S8x4096x1x64.Idx) : ((cfg0.win 3).blk t).view.emb j = j := by
  obtain ⟨e0, e1, e2, e3⟩ := idx3 t
  funext a; apply Fin.ext
  match a with
  | ⟨0, _⟩ => show win0_3.index t (0 : Fin 4) * 8 + 1 * (j 0).val = (j 0).val; omega
  | ⟨1, _⟩ => show win0_3.index t (1 : Fin 4) * 4096 + 1 * (j 1).val = (j 1).val; omega
  | ⟨2, _⟩ => show win0_3.index t (2 : Fin 4) * 1 + 1 * (j 2).val = (j 2).val; omega
  | ⟨3, _⟩ => show win0_3.index t (3 : Fin 4) * 64 + 1 * (j 3).val = (j 3).val; omega

theorem iblk3_eq (c : Dev nD) (t : Fin cfg0.N) : iblk m c 3 t = V m c main_v25 := by
  funext j; show V m c main_v25 (((cfg0.win 3).blk t).view.emb j) = V m c main_v25 j; rw [emb3]

theorem idx4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

theorem emb4 (t : Fin cfg0.N) (j : S1x1x1x128.Idx) : ((cfg0.win 4).blk t).view.emb j = j := by
  obtain ⟨e0, e1, e2, e3⟩ := idx4 t
  funext a; apply Fin.ext
  match a with
  | ⟨0, _⟩ => show win0_4.index t (0 : Fin 4) * 1 + 1 * (j 0).val = (j 0).val; omega
  | ⟨1, _⟩ => show win0_4.index t (1 : Fin 4) * 1 + 1 * (j 1).val = (j 1).val; omega
  | ⟨2, _⟩ => show win0_4.index t (2 : Fin 4) * 1 + 1 * (j 2).val = (j 2).val; omega
  | ⟨3, _⟩ => show win0_4.index t (3 : Fin 4) * 128 + 1 * (j 3).val = (j 3).val; omega

theorem iblk4_eq (c : Dev nD) (t : Fin cfg0.N) : iblk m c 4 t = V m c main_v27 := by
  funext j; show V m c main_v27 (((cfg0.win 4).blk t).view.emb j) = V m c main_v27 j; rw [emb4]

theorem idx5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

theorem emb5 (t : Fin cfg0.N) (j : S1x1x1x128.Idx) : ((cfg0.win 5).blk t).view.emb j = j := by
  obtain ⟨e0, e1, e2, e3⟩ := idx5 t
  funext a; apply Fin.ext
  match a with
  | ⟨0, _⟩ => show win0_5.index t (0 : Fin 4) * 1 + 1 * (j 0).val = (j 0).val; omega
  | ⟨1, _⟩ => show win0_5.index t (1 : Fin 4) * 1 + 1 * (j 1).val = (j 1).val; omega
  | ⟨2, _⟩ => show win0_5.index t (2 : Fin 4) * 1 + 1 * (j 2).val = (j 2).val; omega
  | ⟨3, _⟩ => show win0_5.index t (3 : Fin 4) * 128 + 1 * (j 3).val = (j 3).val; omega

theorem iblk5_eq (c : Dev nD) (t : Fin cfg0.N) : iblk m c 5 t = V m c main_v29 := by
  funext j; show V m c main_v29 (((cfg0.win 5).blk t).view.emb j) = V m c main_v29 j; rw [emb5]

theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb6 (t : Fin cfg0.N) (j : S8x4096x1024.Idx) : ((cfg0.win 6).blk t).view.emb j = j := by
  obtain ⟨e0, e1, e2⟩ := idx6 t
  funext a; apply Fin.ext
  match a with
  | ⟨0, _⟩ => show win0_6.index t (0 : Fin 3) * 8 + 1 * (j 0).val = (j 0).val; omega
  | ⟨1, _⟩ => show win0_6.index t (1 : Fin 3) * 4096 + 1 * (j 1).val = (j 1).val; omega
  | ⟨2, _⟩ => show win0_6.index t (2 : Fin 3) * 1024 + 1 * (j 2).val = (j 2).val; omega

theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

theorem emb7 (t : Fin cfg0.N) (j : S8x4096x1024.Idx) : ((cfg0.win 7).blk t).view.emb j = j := by
  obtain ⟨e0, e1, e2⟩ := idx7 t
  funext a; apply Fin.ext
  match a with
  | ⟨0, _⟩ => show win0_7.index t (0 : Fin 3) * 8 + 1 * (j 0).val = (j 0).val; omega
  | ⟨1, _⟩ => show win0_7.index t (1 : Fin 3) * 4096 + 1 * (j 1).val = (j 1).val; omega
  | ⟨2, _⟩ => show win0_7.index t (2 : Fin 3) * 1024 + 1 * (j 2).val = (j 2).val; omega

theorem idx8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

theorem emb8 (t : Fin cfg0.N) (j : S8x8x128x4096.Idx) : ((cfg0.win 8).blk t).view.emb j = j := by
  obtain ⟨e0, e1, e2, e3⟩ := idx8 t
  funext a; apply Fin.ext
  match a with
  | ⟨0, _⟩ => show win0_8.index t (0 : Fin 4) * 8 + 1 * (j 0).val = (j 0).val; omega
  | ⟨1, _⟩ => show win0_8.index t (1 : Fin 4) * 8 + 1 * (j 1).val = (j 1).val; omega
  | ⟨2, _⟩ => show win0_8.index t (2 : Fin 4) * 128 + 1 * (j 2).val = (j 2).val; omega
  | ⟨3, _⟩ => show win0_8.index t (3 : Fin 4) * 4096 + 1 * (j 3).val = (j 3).val; omega

theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)

theorem emb9 (t : Fin cfg0.N) (j : S8x8x4096.Idx) : ((cfg0.win 9).blk t).view.emb j = j := by
  obtain ⟨e0, e1, e2⟩ := idx9 t
  funext a; apply Fin.ext
  match a with
  | ⟨0, _⟩ => show win0_9.index t (0 : Fin 3) * 8 + 1 * (j 0).val = (j 0).val; omega
  | ⟨1, _⟩ => show win0_9.index t (1 : Fin 3) * 8 + 1 * (j 1).val = (j 1).val; omega
  | ⟨2, _⟩ => show win0_9.index t (2 : Fin 3) * 4096 + 1 * (j 2).val = (j 2).val; omega

theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)

theorem emb10 (t : Fin cfg0.N) (j : S8x8x4096.Idx) : ((cfg0.win 10).blk t).view.emb j = j := by
  obtain ⟨e0, e1, e2⟩ := idx10 t
  funext a; apply Fin.ext
  match a with
  | ⟨0, _⟩ => show win0_10.index t (0 : Fin 3) * 8 + 1 * (j 0).val = (j 0).val; omega
  | ⟨1, _⟩ => show win0_10.index t (1 : Fin 3) * 8 + 1 * (j 1).val = (j 1).val; omega
  | ⟨2, _⟩ => show win0_10.index t (2 : Fin 3) * 4096 + 1 * (j 2).val = (j 2).val; omega

/-! ## What the body computes, and the arrays after the run -/

/-- The rotated queries and keys. -/
abbrev rotQ (x : Vec F S8x4096x1024 .bf16) (cs sn : Vec F S8x4096x1x64 .f32) (w : Vec F S1x1x1x128 .f32) : FVec F S8x4096x8x128 .f32 := k0_pay5 cs sn x w
abbrev rotK (x : Vec F S8x4096x1024 .bf16) (cs sn : Vec F S8x4096x1x64 .f32) (w : Vec F S1x1x1x128 .f32) : FVec F S8x4096x8x128 .f32 :=
  k0_pay7 (k0_pay3 cs) (k0_pay4 sn) (k0_pay6 x) w

theorem pay17_eq (x0 x1 : Vec F S8x4096x1024 .bf16) (x2 x3 : Vec F S8x4096x1x64 .f32) (x4 x5 : Vec F S1x1x1x128 .f32) :
    k0_pay17 x0 x1 x2 x3 x4 x5 = rotQ x0 x2 x3 x4 := by
  unfold k0_pay17
  rw [View.ld_unit_zero (S := S8x4096x1x64) hz4 _ x2, View.ld_unit_zero (S := S8x4096x1x64) hz4 _ x3,
    View.ld_unit_zero (S := S8x4096x1024) hz3 _ x0, View.ld_unit_zero (S := S1x1x1x128) hz4 _ x4]

theorem pay18_eq (x0 x1 : Vec F S8x4096x1024 .bf16) (x2 x3 : Vec F S8x4096x1x64 .f32) (x4 x5 : Vec F S1x1x1x128 .f32) :
    k0_pay18 x0 x1 x2 x3 x4 x5 = rotK x1 x2 x3 x5 := by
  unfold k0_pay18
  rw [View.ld_unit_zero (S := S8x4096x1x64) hz4 _ x2, View.ld_unit_zero (S := S8x4096x1x64) hz4 _ x3,
    View.ld_unit_zero (S := S8x4096x1024) hz3 _ x1, View.ld_unit_zero (S := S1x1x1x128) hz4 _ x5]

theorem out6_eq (x0 x1 : Vec F S8x4096x1024 .bf16) (x2 x3 : Vec F S8x4096x1x64 .f32) (x4 x5 : Vec F S1x1x1x128 .f32) :
    out0_6 x0 x1 x2 x3 x4 x5 = k0_pay14 (k0_pay10 (rotQ x0 x2 x3 x4)) := by
  unfold out0_6
  rw [View.canon_unit_zero hz3, pay17_eq]

theorem cut6_eq (t : Fin cfg0.N) (X : Vec F S8x4096x1024 .fp8e4m3) :
    (cfg0.win 6).cut (grid0.coords t) X = ((cfg0.win 6).blk t).view.read (Elt F) X := by
  funext j
  show X j = X (((cfg0.win 6).blk t).view.emb j)
  rw [emb6]

theorem flushed6_eq (c : Dev nD) (t : Fin cfg0.N) :
    (dats m 0 c).flushed 6 t = ((cfg0.win 6).blk t).view.read (Elt F) (k0_pay14 (k0_pay10 (rotQ (V m c main_arg0) (V m c main_v23) (V m c main_v25) (V m c main_v27)))) := by
  show (cfg0.win 6).cut (grid0.coords t) ((dats m 0 c).after 6 t) = _
  rw [after0_6, out6_eq, iblk0_eq, iblk2_eq, iblk3_eq, iblk4_eq]
  exact cut6_eq t _

theorem covered6 (i : S8x4096x1024.Idx) : ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

theorem final6 (c : Dev nD) : (dats m 0 c).arrAt 6 cfg0.N = k0_pay14 (k0_pay10 (rotQ (V m c main_arg0) (V m c main_v23) (V m c main_v25) (V m c main_v27))) :=
  (dats m 0 c).arrAt_eq_of_cover 6 _ (fun t _ => flushed6_eq m c t) covered6

theorem out7_eq (x0 x1 : Vec F S8x4096x1024 .bf16) (x2 x3 : Vec F S8x4096x1x64 .f32) (x4 x5 : Vec F S1x1x1x128 .f32) :
    out0_7 x0 x1 x2 x3 x4 x5 = k0_pay15 (rotK x1 x2 x3 x5) := by
  unfold out0_7
  rw [View.canon_unit_zero hz3, pay18_eq]

theorem cut7_eq (t : Fin cfg0.N) (X : Vec F S8x4096x1024 .fp8e4m3) :
    (cfg0.win 7).cut (grid0.coords t) X = ((cfg0.win 7).blk t).view.read (Elt F) X := by
  funext j
  show X j = X (((cfg0.win 7).blk t).view.emb j)
  rw [emb7]

theorem flushed7_eq (c : Dev nD) (t : Fin cfg0.N) :
    (dats m 0 c).flushed 7 t = ((cfg0.win 7).blk t).view.read (Elt F) (k0_pay15 (rotK (V m c main_arg1) (V m c main_v23) (V m c main_v25) (V m c main_v29))) := by
  show (cfg0.win 7).cut (grid0.coords t) ((dats m 0 c).after 7 t) = _
  rw [after0_7, out7_eq, iblk1_eq, iblk2_eq, iblk3_eq, iblk5_eq]
  exact cut7_eq t _

theorem covered7 (i : S8x4096x1024.Idx) : ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

theorem final7 (c : Dev nD) : (dats m 0 c).arrAt 7 cfg0.N = k0_pay15 (rotK (V m c main_arg1) (V m c main_v23) (V m c main_v25) (V m c main_v29)) :=
  (dats m 0 c).arrAt_eq_of_cover 7 _ (fun t _ => flushed7_eq m c t) covered7

theorem out8_eq (x0 x1 : Vec F S8x4096x1024 .bf16) (x2 x3 : Vec F S8x4096x1x64 .f32) (x4 x5 : Vec F S1x1x1x128 .f32) :
    out0_8 x0 x1 x2 x3 x4 x5 = k0_pay16 (rotK x1 x2 x3 x5) := by
  unfold out0_8
  rw [View.canon_unit_zero hz4, pay18_eq]

theorem cut8_eq (t : Fin cfg0.N) (X : Vec F S8x8x128x4096 .fp8e4m3) :
    (cfg0.win 8).cut (grid0.coords t) X = ((cfg0.win 8).blk t).view.read (Elt F) X := by
  funext j
  show X j = X (((cfg0.win 8).blk t).view.emb j)
  rw [emb8]

theorem flushed8_eq (c : Dev nD) (t : Fin cfg0.N) :
    (dats m 0 c).flushed 8 t = ((cfg0.win 8).blk t).view.read (Elt F) (k0_pay16 (rotK (V m c main_arg1) (V m c main_v23) (V m c main_v25) (V m c main_v29))) := by
  show (cfg0.win 8).cut (grid0.coords t) ((dats m 0 c).after 8 t) = _
  rw [after0_8, out8_eq, iblk1_eq, iblk2_eq, iblk3_eq, iblk5_eq]
  exact cut8_eq t _

theorem covered8 (i : S8x8x128x4096.Idx) : ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

theorem final8 (c : Dev nD) : (dats m 0 c).arrAt 8 cfg0.N = k0_pay16 (rotK (V m c main_arg1) (V m c main_v23) (V m c main_v25) (V m c main_v29)) :=
  (dats m 0 c).arrAt_eq_of_cover 8 _ (fun t _ => flushed8_eq m c t) covered8

theorem out9_eq (x0 x1 : Vec F S8x4096x1024 .bf16) (x2 x3 : Vec F S8x4096x1x64 .f32) (x4 x5 : Vec F S1x1x1x128 .f32) :
    out0_9 x0 x1 x2 x3 x4 x5 = k0_pay1 (k0_pay9 (rotQ x0 x2 x3 x4)) := by
  unfold out0_9
  rw [View.canon_unit_zero hz3, pay17_eq]

theorem cut9_eq (t : Fin cfg0.N) (X : Vec F S8x8x4096 .f32) :
    (cfg0.win 9).cut (grid0.coords t) X = ((cfg0.win 9).blk t).view.read (Elt F) X := by
  funext j
  show X j = X (((cfg0.win 9).blk t).view.emb j)
  rw [emb9]

theorem flushed9_eq (c : Dev nD) (t : Fin cfg0.N) :
    (dats m 0 c).flushed 9 t = ((cfg0.win 9).blk t).view.read (Elt F) (k0_pay1 (k0_pay9 (rotQ (V m c main_arg0) (V m c main_v23) (V m c main_v25) (V m c main_v27)))) := by
  show (cfg0.win 9).cut (grid0.coords t) ((dats m 0 c).after 9 t) = _
  rw [after0_9, out9_eq, iblk0_eq, iblk2_eq, iblk3_eq, iblk4_eq]
  exact cut9_eq t _

theorem covered9 (i : S8x8x4096.Idx) : ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

theorem final9 (c : Dev nD) : (dats m 0 c).arrAt 9 cfg0.N = k0_pay1 (k0_pay9 (rotQ (V m c main_arg0) (V m c main_v23) (V m c main_v25) (V m c main_v27))) :=
  (dats m 0 c).arrAt_eq_of_cover 9 _ (fun t _ => flushed9_eq m c t) covered9

theorem out10_eq (x0 x1 : Vec F S8x4096x1024 .bf16) (x2 x3 : Vec F S8x4096x1x64 .f32) (x4 x5 : Vec F S1x1x1x128 .f32) :
    out0_10 x0 x1 x2 x3 x4 x5 = k0_pay2 (k0_pay12 (rotK x1 x2 x3 x5)) := by
  unfold out0_10
  rw [View.canon_unit_zero hz3, pay18_eq]

theorem cut10_eq (t : Fin cfg0.N) (X : Vec F S8x8x4096 .f32) :
    (cfg0.win 10).cut (grid0.coords t) X = ((cfg0.win 10).blk t).view.read (Elt F) X := by
  funext j
  show X j = X (((cfg0.win 10).blk t).view.emb j)
  rw [emb10]

theorem flushed10_eq (c : Dev nD) (t : Fin cfg0.N) :
    (dats m 0 c).flushed 10 t = ((cfg0.win 10).blk t).view.read (Elt F) (k0_pay2 (k0_pay12 (rotK (V m c main_arg1) (V m c main_v23) (V m c main_v25) (V m c main_v29)))) := by
  show (cfg0.win 10).cut (grid0.coords t) ((dats m 0 c).after 10 t) = _
  rw [after0_10, out10_eq, iblk1_eq, iblk2_eq, iblk3_eq, iblk5_eq]
  exact cut10_eq t _

theorem covered10 (i : S8x8x4096.Idx) : ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

theorem final10 (c : Dev nD) : (dats m 0 c).arrAt 10 cfg0.N = k0_pay2 (k0_pay12 (rotK (V m c main_arg1) (V m c main_v23) (V m c main_v25) (V m c main_v29))) :=
  (dats m 0 c).arrAt_eq_of_cover 10 _ (fun t _ => flushed10_eq m c t) covered10

/-! ## The run, read -/

variable (ρ : Dev nD → PrngReg)

theorem run : θ_run defs (onTc (τ := τ) (main (F := F))) ⟨m, fun _ => 0, ρ⟩ fun r => ∀ c : Dev nD,
      r.2.mem ((c : Thread nD τ).loc main_v30_0) = k0_pay14 (k0_pay10 (rotQ (V m c main_arg0) (V m c main_v23) (V m c main_v25) (V m c main_v27)))
      ∧ r.2.mem ((c : Thread nD τ).loc main_v30_1) = k0_pay15 (rotK (V m c main_arg1) (V m c main_v23) (V m c main_v25) (V m c main_v29))
      ∧ r.2.mem ((c : Thread nD τ).loc main_v30_2) = k0_pay16 (rotK (V m c main_arg1) (V m c main_v23) (V m c main_v25) (V m c main_v29))
      ∧ r.2.mem ((c : Thread nD τ).loc main_v30_3) = k0_pay1 (k0_pay9 (rotQ (V m c main_arg0) (V m c main_v23) (V m c main_v25) (V m c main_v27)))
      ∧ r.2.mem ((c : Thread nD τ).loc main_v30_4) = k0_pay2 (k0_pay12 (rotK (V m c main_arg1) (V m c main_v23) (V m c main_v25) (V m c main_v29)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (final6 m c),
      ((h c).1 7).trans (final7 m c),
      ((h c).1 8).trans (final8 m c),
      ((h c).1 9).trans (final9 m c),
      ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.QkReferenceIdeal.QK
-- ==== Proof.QkRef.lean ====
/- The query and key reference, element by element over the extended reals. -/
module

public import Idealize.ShloMosaic.Lib.Pointwise
public import Idealize.ShloMosaic.Lib.Pointwise.IndexVar
public import proofs.«01_k».proof.Proof.Ops
public import proofs.«01_k».proof.Proof.QkSpec
public import proofs.«01_k».proof.Proof.QkValue
public import proofs.«01_k».proof.Proof.QkRefRun

@[expose] public section

set_option maxRecDepth 16384

noncomputable section

namespace Cert.QkReferenceIdeal.QK

open Idealize.ShloMosaic Idealize.ShloMosaic.TcCoe Idealize.ShloMosaic.Pointwise Cert.QkReferenceIdeal.Gen
open Cert.Row (col)
open Cert.QRow (lo hi)
open Cert.KernelIdeal.Model (ofBits_448 ofBits_neg_448 ofBits_bot ofBits_inv_448)

/-! ## The rotation -/

/-- The normalised heads. -/
def norm (T : FVec Ideal S8x4096x8x128 .f32) (w : FVec Ideal S1x1x1x128 .f32) : FVec Ideal S8x4096x8x128 .f32 :=
  mulf (mulf T (broadcastTo S8x4096x8x128 (rsqrt (addf (divf (shapeCast S8x4096x8x1 (multiReduction .add [3] S8x4096x8 (mulf T T) 0x00000000#32
      reduces_S8x4096x8x128_S8x4096x8 (.inl rfl) rfl) shapeCasts_S8x4096x8_S8x4096x8x1) (broadcast S8x4096x8x1 (Scalar.ofBits .f32 0x43000000#32)))
    (broadcast S8x4096x8x1 (Scalar.ofBits .f32 0x358637BD#32)))) broadcasts_S8x4096x8x1_S8x4096x8x128))
    (broadcastTo S8x4096x8x128 w broadcasts_S1x1x1x128_S8x4096x8x128)

/-- Their halves, rotated. -/
def lower (N : FVec Ideal S8x4096x8x128 .f32) (cs sn : FVec Ideal S8x4096x1x64 .f32) : FVec Ideal S8x4096x8x64 .f32 :=
  subf (mulf (extractStridedSlice S8x4096x8x64 ![0, 0, 0, 0] N slices_S8x4096x8x128_o0_0_0_0_S8x4096x8x64) (broadcastTo S8x4096x8x64 cs broadcasts_S8x4096x1x64_S8x4096x8x64))
    (mulf (extractStridedSlice S8x4096x8x64 ![0, 0, 0, 64] N slices_S8x4096x8x128_o0_0_0_64_S8x4096x8x64) (broadcastTo S8x4096x8x64 sn broadcasts_S8x4096x1x64_S8x4096x8x64))

def upper (N : FVec Ideal S8x4096x8x128 .f32) (cs sn : FVec Ideal S8x4096x1x64 .f32) : FVec Ideal S8x4096x8x64 .f32 :=
  addf (mulf (extractStridedSlice S8x4096x8x64 ![0, 0, 0, 64] N slices_S8x4096x8x128_o0_0_0_64_S8x4096x8x64) (broadcastTo S8x4096x8x64 cs broadcasts_S8x4096x1x64_S8x4096x8x64))
    (mulf (extractStridedSlice S8x4096x8x64 ![0, 0, 0, 0] N slices_S8x4096x8x128_o0_0_0_0_S8x4096x8x64) (broadcastTo S8x4096x8x64 sn broadcasts_S8x4096x1x64_S8x4096x8x64))

def both (u v : FVec Ideal S8x4096x8x64 .f32) : FVec Ideal S8x4096x8x128 .f32 :=
  concatenate S8x4096x8x128 3 [⟨S8x4096x8x64, u⟩, ⟨S8x4096x8x64, v⟩] concatenates_S8x4096x8x64_S8x4096x8x64_S8x4096x8x128_d3

variable (b : Fin 8) (s : Fin 4096) (h : Fin 8)

theorem norm_apply (T : FVec Ideal S8x4096x8x128 .f32) (w : FVec Ideal S1x1x1x128 .f32) (d : Fin 128) :
    norm T w (ix4 b s h d) = QRow.tn (fun d => T (ix4 b s h d)) (fun d => w (ix4 0 0 0 d)) d := by
  pointwise [norm, QRow.tn, QRow.rr]
  rw [Cert.QkPrepIdeal.QK.ofBits_128, Cert.QkPrepIdeal.QK.ofBits_eps]

theorem lower_apply (N : FVec Ideal S8x4096x8x128 .f32) (cs sn : FVec Ideal S8x4096x1x64 .f32) (j : Fin 64) :
    lower N cs sn (ix4 b s h j) = N (ix4 b s h (lo j)) * cs (ix4 b s 0 j) - N (ix4 b s h (hi j)) * sn (ix4 b s 0 j) := by
  pointwise [lower]

theorem upper_apply (N : FVec Ideal S8x4096x8x128 .f32) (cs sn : FVec Ideal S8x4096x1x64 .f32) (j : Fin 64) :
    upper N cs sn (ix4 b s h j) = N (ix4 b s h (hi j)) * cs (ix4 b s 0 j) + N (ix4 b s h (lo j)) * sn (ix4 b s 0 j) := by
  pointwise [upper]

theorem both_apply (u v : FVec Ideal S8x4096x8x64 .f32) (d : Fin 128) :
    both u v (ix4 b s h d) = QRow.join (fun j => u (ix4 b s h j)) (fun j => v (ix4 b s h j)) d := by
  pointwise [both]
  rfl

/-! ## The quantiser -/

/-- A head's greatest magnitude. -/
theorem max_apply (V : FVec Ideal S8x4096x8x128 .f32) (z : Fin 1) :
    shapeCast S8x4096x8x1 (multiReduction .maximumf [3] S8x4096x8 (absf V) 0xFF800000#32 reduces_S8x4096x8x128_S8x4096x8 (.inl rfl) rfl)
      shapeCasts_S8x4096x8_S8x4096x8x1 (ix4 b s h z) = Expo.amax fun d => V (ix4 b s h d) := by
  pointwise
  rw [ofBits_bot]
  rfl

/-- The quantiser's exponent. -/
theorem expo_apply (x : FVec Ideal S8x4096x8x1 .f32) (c : Ideal .f32) (z : Fin 1) :
    select (cmpf .oeq x (broadcast S8x4096x8x1 (Scalar.ofBits .f32 0x00000000#32))) (broadcast S8x4096x8x1 (Scalar.ofBits .f32 0x00000000#32))
      (addf (floor (divf (log (mulf x (broadcast S8x4096x8x1 c))) (broadcast S8x4096x8x1 (Named.named κ "ln2" 0x3F317218#32))))
        (broadcast S8x4096x8x1 (Scalar.ofBits .f32 0x3F800000#32))) (ix4 b s h z) = Row.expo c (x (ix4 b s h z)) := by
  pointwise [Row.expo]
  have hn : Named.named (F := Ideal) κ "ln2" (φ := .f32) 0x3F317218#32 = ((Real.log 2 : ℝ) : EReal) :=
    IdealRules.named_const.ideal_named_scalar _ _ _ _ rfl
  exact congrArg (fun l : EReal => if x (ix4 b s h z) = 0 then (0 : EReal) else
    Ideal.liftRound Int.floor (Ideal.div (Ideal.log (x (ix4 b s h z) * c)) l) + 1) hn

/-- The codes. -/
theorem codes_apply (V : FVec Ideal S8x4096x8x128 .f32) (e : FVec Ideal S8x4096x8x1 .f32) (d : Fin 128) :
    (truncf .fp8e4m3 (minimumf (broadcast S8x4096x8x128 (Scalar.ofBits .f32 0x43E00000#32)) (maximumf (broadcast S8x4096x8x128 (Scalar.ofBits .f32 0xC3E00000#32))
      (mulf V (broadcastTo S8x4096x8x128 (exp2 (subf (broadcast S8x4096x8x1 (Scalar.ofBits .f32 0x00000000#32)) e))
        broadcasts_S8x4096x8x1_S8x4096x8x128)))) bitsLt_fp8e4m3_f32 : FVec Ideal S8x4096x8x128 .fp8e4m3) (ix4 b s h d) =
    Row.clip (V (ix4 b s h d) * Ideal.exp2 (0 - e (ix4 b s h 0))) := by
  pointwise [Row.clip]
  rw [ofBits_448, ofBits_neg_448]
  rfl

/-- The layouts. -/
theorem flat_apply (C : FVec Ideal S8x4096x8x128 .fp8e4m3) (d : Fin 128) :
    shapeCast S8x4096x1024 C shapeCasts_S8x4096x8x128_S8x4096x1024 (ix3 b s (col h d)) = C (ix4 b s h d) := by
  pointwise
  congr 1
  have := h.isLt
  ext a; fin_cases a <;> simp <;> omega

theorem heads_apply (x : FVec Ideal S8x4096x1024 .f32) (d : Fin 128) :
    shapeCast S8x4096x8x128 x shapeCasts_S8x4096x1024_S8x4096x8x128 (ix4 b s h d) = x (ix3 b s (col h d)) := by
  pointwise
  congr 1
  have := h.isLt
  ext a; fin_cases a <;> simp <;> omega

theorem turn_apply (C : FVec Ideal S8x4096x8x128 .fp8e4m3) (d : Fin 128) :
    transpose S8x8x128x4096 [0, 2, 3, 1] C transposes_S8x4096x8x128_p0_2_3_1_S8x8x128x4096 (ix4 b h d s) = C (ix4 b s h d) := by
  pointwise

theorem scales_apply (e : FVec Ideal S8x4096x8x1 .f32) :
    transpose S8x8x4096 [0, 2, 1] (shapeCast S8x4096x8 e shapeCasts_S8x4096x8x1_S8x4096x8) transposes_S8x4096x8_p0_2_1_S8x8x4096 (ix3 b h s) =
      e (ix4 b s h 0) := by
  pointwise

/-- The codes and the scales of a rotated array. -/
theorem pay8_apply (V : FVec Ideal S8x4096x8x128 .f32) (z : Fin 1) :
    k0_pay8 V (ix4 b s h z) = Row.expo ((Expo.kq : ℝ) : EReal) (Expo.amax fun d => V (ix4 b s h d)) := by
  refine (expo_apply b s h _ _ z).trans ?_
  exact (congrArg (fun c => Row.expo c _) ofBits_inv_448).trans (congrArg (Row.expo _) (max_apply b s h V z))

theorem pay11_eq (V : FVec Ideal S8x4096x8x128 .f32) : k0_pay11 V = k0_pay8 V := rfl

/-- The codes of a rotated array, and its scales. -/
def cd (V : FVec Ideal S8x4096x8x128 .f32) (d : Fin 128) : EReal :=
  Row.clip (V (ix4 b s h d) * Ideal.exp2 (0 - Row.expo ((Expo.kq : ℝ) : EReal) (Expo.amax fun d => V (ix4 b s h d))))
def sc (V : FVec Ideal S8x4096x8x128 .f32) : EReal :=
  Ideal.exp2 (Row.expo ((Expo.kq : ℝ) : EReal) (Expo.amax fun d => V (ix4 b s h d)))

theorem pay13_apply (V : FVec Ideal S8x4096x8x128 .f32) (d : Fin 128) : k0_pay13 V (ix4 b s h d) = cd b s h V d := by
  have hc := codes_apply b s h V (k0_pay11 V) d
  rw [pay11_eq, pay8_apply] at hc
  exact hc

theorem pay14_eq (V : FVec Ideal S8x4096x8x128 .f32) : k0_pay14 (k0_pay10 V) = k0_pay15 V := rfl

theorem pay15_apply (V : FVec Ideal S8x4096x8x128 .f32) (d : Fin 128) : k0_pay15 V (ix3 b s (col h d)) = cd b s h V d :=
  (flat_apply b s h (k0_pay13 V) d).trans (pay13_apply b s h V d)

theorem pay14_apply (V : FVec Ideal S8x4096x8x128 .f32) (d : Fin 128) : k0_pay14 (k0_pay10 V) (ix3 b s (col h d)) = cd b s h V d := by
  rw [pay14_eq]; exact pay15_apply b s h V d

theorem pay16_apply (V : FVec Ideal S8x4096x8x128 .f32) (d : Fin 128) : k0_pay16 V (ix4 b h d s) = cd b s h V d :=
  (turn_apply b s h (k0_pay13 V) d).trans (pay13_apply b s h V d)

theorem exp2_apply (x : FVec Ideal S8x4096x8x1 .f32) (i) : exp2 x i = Ideal.exp2 (x i) := rfl

theorem pay9_apply (V : FVec Ideal S8x4096x8x128 .f32) (z : Fin 1) : k0_pay9 V (ix4 b s h z) = sc b s h V :=
  (exp2_apply _ _).trans (congrArg Ideal.exp2 (pay8_apply b s h V z))

theorem pay12_eq (V : FVec Ideal S8x4096x8x128 .f32) : k0_pay12 V = k0_pay9 V := rfl

theorem pay1_apply (V : FVec Ideal S8x4096x8x128 .f32) : k0_pay1 (k0_pay9 V) (ix3 b h s) = sc b s h V :=
  (scales_apply b s h (k0_pay9 V)).trans (pay9_apply b s h V 0)

theorem pay2_apply (V : FVec Ideal S8x4096x8x128 .f32) : k0_pay2 (k0_pay12 V) (ix3 b h s) = sc b s h V := by
  rw [pay12_eq]; exact (scales_apply b s h (k0_pay9 V)).trans (pay9_apply b s h V 0)

/-! ## The rotated arrays -/

/-- The heads of the array. -/
def hds (x : FVec Ideal S8x4096x1024 .bf16) : FVec Ideal S8x4096x8x128 .f32 :=
  shapeCast S8x4096x8x128 (extf .f32 x bitsLt_bf16_f32) shapeCasts_S8x4096x1024_S8x4096x8x128

theorem hds_apply (x : FVec Ideal S8x4096x1024 .bf16) (d : Fin 128) : hds x (ix4 b s h d) = x (ix3 b s (col h d)) :=
  heads_apply b s h (extf .f32 x bitsLt_bf16_f32) d

theorem cast_tab (t : FVec Ideal S8x4096x1x64 .f32) : shapeCast S8x4096x1x64 t shapeCasts_S8x4096x1x64_S8x4096x1x64 = t := by
  funext i
  obtain ⟨a, b, c, d, rfl⟩ : ∃ a b c d, i = ix4 a b c d := ⟨i 0, i 1, i 2, i 3, eq_ix4 i⟩
  pointwise

theorem cast_wt (t : FVec Ideal S1x1x1x128 .f32) : shapeCast S1x1x1x128 t shapeCasts_S1x1x1x128_S1x1x1x128 = t := by
  funext i
  obtain ⟨a, b, c, d, rfl⟩ : ∃ a b c d, i = ix4 a b c d := ⟨i 0, i 1, i 2, i 3, eq_ix4 i⟩
  pointwise

def rot (N : FVec Ideal S8x4096x8x128 .f32) (cs sn : FVec Ideal S8x4096x1x64 .f32) : FVec Ideal S8x4096x8x128 .f32 := both (lower N cs sn) (upper N cs sn)

theorem rotQ_eq (x : FVec Ideal S8x4096x1024 .bf16) (cs sn : FVec Ideal S8x4096x1x64 .f32) (w : FVec Ideal S1x1x1x128 .f32) :
    rotQ x cs sn w = rot (norm (hds x) w) cs sn := by
  have e : rotQ x cs sn w = rot (norm (hds x) (shapeCast S1x1x1x128 w shapeCasts_S1x1x1x128_S1x1x1x128))
    (shapeCast S8x4096x1x64 cs shapeCasts_S8x4096x1x64_S8x4096x1x64) (shapeCast S8x4096x1x64 sn shapeCasts_S8x4096x1x64_S8x4096x1x64) := rfl
  rw [e, cast_tab, cast_tab, cast_wt]

theorem rotK_eq (x : FVec Ideal S8x4096x1024 .bf16) (cs sn : FVec Ideal S8x4096x1x64 .f32) (w : FVec Ideal S1x1x1x128 .f32) :
    rotK x cs sn w = rot (norm (hds x) w) cs sn := by
  have e : rotK x cs sn w = rot (norm (hds x) (shapeCast S1x1x1x128 w shapeCasts_S1x1x1x128_S1x1x1x128))
    (shapeCast S8x4096x1x64 cs shapeCasts_S8x4096x1x64_S8x4096x1x64) (shapeCast S8x4096x1x64 sn shapeCasts_S8x4096x1x64_S8x4096x1x64) := rfl
  rw [e, cast_tab, cast_tab, cast_wt]

/-- A rotated head is the row's. -/
theorem rot_apply (x : FVec Ideal S8x4096x1024 .bf16) (cs sn : FVec Ideal S8x4096x1x64 .f32) (w : FVec Ideal S1x1x1x128 .f32) (d : Fin 128) :
    rot (norm (hds x) w) cs sn (ix4 b s h d) =
      QRow.q (fun d => x (ix3 b s (col h d))) (fun d => w (ix4 0 0 0 d)) (fun j => cs (ix4 b s 0 j)) (fun j => sn (ix4 b s 0 j)) d := by
  have hT : (fun d => hds x (ix4 b s h d)) = fun d => x (ix3 b s (col h d)) := funext fun d => hds_apply b s h x d
  have hN : ∀ d, norm (hds x) w (ix4 b s h d) = QRow.tn (fun d => x (ix3 b s (col h d))) (fun d => w (ix4 0 0 0 d)) d := fun d => by
    rw [norm_apply, hT]
  unfold rot
  rw [both_apply]
  unfold QRow.q
  refine congrArg₂ (fun u v => QRow.join u v d) (funext fun j => ?_) (funext fun j => ?_)
  · rw [lower_apply, hN, hN]
  · rw [upper_apply, hN, hN]

end Cert.QkReferenceIdeal.QK
-- ==== Proof.QkRefTab.lean ====
/- The query and key reference's tables: the host operations before the call, element by element over the extended reals. -/
module

public import Idealize.ShloMosaic.Lib.StableHlo.RunRead
public import Idealize.ShloMosaic.Lib.Pointwise
public import Idealize.ShloMosaic.Lib.Pointwise.IndexVar
public import proofs.«01_k».proof.Proof.QkRow
public import proofs.«01_k».proof.Proof.Gen.QkReferenceIdeal.Frame

@[expose] public section

set_option maxRecDepth 16384

noncomputable section

namespace Cert.QkReferenceIdeal.QK

open Idealize.ShloMosaic Idealize.ShloMosaic.TcCoe Idealize.ShloMosaic.Pointwise Cert.QkReferenceIdeal.Gen

section Generic
variable {F : FTy → Type} [FloatOps F]

/-- The frequencies, the positions, and the positions times the frequencies. -/
def freq : FVec F S64 .f32 :=
  Host.powf (broadcastInDim S64 ![] bcast_S_S64 (constant S_ .f32 0x49742400#32))
    (Host.divf (Host.negf (addf (broadcastInDim S64 ![] bcast_S_S64 (constant S_ .f32 0x00000000#32))
      (mulf (broadcastInDim S64 ![] bcast_S_S64 (constant S_ .f32 0x40000000#32)) (sitofp .f32 (iotaInDim S64 32 0)))))
      (broadcastInDim S64 ![] bcast_S_S64 (constant S_ .f32 0x43000000#32)))

def post (p : IVec S8 32) : FVec F S8x4096 .f32 :=
  sitofp .f32 (addi (broadcastInDim S8x4096 ![0, 1] bcast_S8x1_S8x4096_0_1 (broadcastInDim S8x1 ![0] bcast_S8_S8x1_0 p))
    (broadcastInDim S8x4096 ![0, 1] bcast_S1x4096_S8x4096_0_1 (broadcastInDim S1x4096 ![1] bcast_S4096_S1x4096_1 (iotaInDim S4096 32 0))))

def angs (f : FVec F S64 .f32) (q : FVec F S8x4096 .f32) : FVec F S8x4096x64 .f32 :=
  mulf (broadcastInDim S8x4096x64 ![0, 1, 2] bcast_S8x4096x1_S8x4096x64_0_1_2 (broadcastInDim S8x4096x1 ![0, 1] bcast_S8x4096_S8x4096x1_0_1 q))
    (broadcastInDim S8x4096x64 ![0, 1, 2] bcast_S1x1x64_S8x4096x64_0_1_2 (broadcastInDim S1x1x64 ![2] bcast_S64_S1x1x64_2 f))

def slot (t : FVec F S8x4096x64 .f32) : FVec F S8x4096x1x64 .f32 := broadcastInDim S8x4096x1x64 ![0, 1, 3] bcast_S8x4096x64_S8x4096x1x64_0_1_3 t

def wts (w : FVec F S128 .bf16) : FVec F S1x1x1x128 .f32 :=
  broadcastInDim S1x1x1x128 ![3] bcast_S128_S1x1x1x128_3 (extf .f32 w bitsLt_bf16_f32)

variable (m : (ℓ : Loc nD τ sig) → Buf (Elt F) ℓ) (c : Dev nD)

theorem V_cos [Named F] : V m c main_v23 = slot (Host.cos (angs freq (post (m ((c : Thread nD τ).loc main_arg4))))) := by
  unfold V
  after_reads_simp
  rfl

theorem V_sin [Named F] : V m c main_v25 = slot (Host.sin (angs freq (post (m ((c : Thread nD τ).loc main_arg4))))) := by
  unfold V
  after_reads_simp
  rfl

theorem V_wq [Named F] : V m c main_v27 = wts (m ((c : Thread nD τ).loc main_arg2)) := by
  unfold V
  after_reads_simp
  rfl

theorem V_wk [Named F] : V m c main_v29 = wts (m ((c : Thread nD τ).loc main_arg3)) := by
  unfold V
  after_reads_simp
  rfl

end Generic

theorem freq_apply (j : Fin 64) : freq (F := Ideal) (ix1 j) = QRow.fr j := by
  pointwise [freq, QRow.fr]

theorem post_apply (p : IVec S8 32) (b : Fin 8) (s : Fin 4096) : post (F := Ideal) p (ix2 b s) = QRow.po (p (ix1 b)) s := by
  pointwise [post, QRow.po]

theorem cos_apply (f : FVec Ideal S64 .f32) (q : FVec Ideal S8x4096 .f32) (b : Fin 8) (s : Fin 4096) (j : Fin 64) :
    slot (Host.cos (angs f q)) (ix4 b s 0 j) = Ideal.cos (q (ix2 b s) * f (ix1 j)) := by
  pointwise [slot, angs]

theorem sin_apply (f : FVec Ideal S64 .f32) (q : FVec Ideal S8x4096 .f32) (b : Fin 8) (s : Fin 4096) (j : Fin 64) :
    slot (Host.sin (angs f q)) (ix4 b s 0 j) = Ideal.sin (q (ix2 b s) * f (ix1 j)) := by
  pointwise [slot, angs]

theorem wts_apply (w : FVec Ideal S128 .bf16) (d : Fin 128) : wts w (ix4 0 0 0 d) = w (ix1 d) := by
  pointwise [wts]

/-- A token's cosines and sines. -/
theorem tc_apply (p : IVec S8 32) (b : Fin 8) (s : Fin 4096) (j : Fin 64) :
    slot (F := Ideal) (Host.cos (angs freq (post p))) (ix4 b s 0 j) = QRow.tc (p (ix1 b)) s j := by
  rw [cos_apply, freq_apply, post_apply]
  rfl

theorem ts_apply (p : IVec S8 32) (b : Fin 8) (s : Fin 4096) (j : Fin 64) :
    slot (F := Ideal) (Host.sin (angs freq (post p))) (ix4 b s 0 j) = QRow.ts (p (ix1 b)) s j := by
  rw [sin_apply, freq_apply, post_apply]
  rfl

end Cert.QkReferenceIdeal.QK
-- ==== Proof.QkRefArr.lean ====
/- The query and key reference's arrays after the run, element by element over the extended reals. -/
module

public import proofs.«01_k».proof.Proof.QkRef
public import proofs.«01_k».proof.Proof.QkRefTab

@[expose] public section

set_option maxRecDepth 16384

noncomputable section

namespace Cert.QkReferenceIdeal.QK

open Idealize.ShloMosaic Idealize.ShloMosaic.TcCoe Idealize.ShloMosaic.Pointwise Cert.QkReferenceIdeal.Gen
open Cert.Row (col)

/-- The rotated array, of an array, a weight and the first positions. -/
def rotA (x : FVec Ideal S8x4096x1024 .bf16) (w : FVec Ideal S128 .bf16) (p : IVec S8 32) : FVec Ideal S8x4096x8x128 .f32 :=
  rot (norm (hds x) (wts w)) (slot (Host.cos (angs freq (post p)))) (slot (Host.sin (angs freq (post p))))

variable (x : FVec Ideal S8x4096x1024 .bf16) (w : FVec Ideal S128 .bf16) (p : IVec S8 32)
variable (b : Fin 8) (s : Fin 4096) (h : Fin 8)

theorem rotA_apply : (fun d => rotA x w p (ix4 b s h d)) = QRow.qA x w p b s h := by
  have e1 : (fun d => wts w (ix4 0 0 0 d)) = fun d => w (ix1 d) := funext fun d => wts_apply w d
  have e2 : (fun j => slot (F := Ideal) (Host.cos (angs freq (post p))) (ix4 b s 0 j)) = QRow.tc (p (ix1 b)) s := funext fun j => tc_apply p b s j
  have e3 : (fun j => slot (F := Ideal) (Host.sin (angs freq (post p))) (ix4 b s 0 j)) = QRow.ts (p (ix1 b)) s := funext fun j => ts_apply p b s j
  refine funext fun d => ?_
  unfold rotA
  rw [rot_apply, e1, e2, e3]
  rfl

theorem cd_rotA (d : Fin 128) : cd b s h (rotA x w p) d = QRow.codeA x w p b s h d := by
  have e := rotA_apply x w p b s h
  unfold cd
  rw [e, congrFun e d]
  rfl

theorem sc_rotA : sc b s h (rotA x w p) = QRow.scaleA x w p b s h := by
  have e := rotA_apply x w p b s h
  unfold sc
  rw [e]
  rfl

variable (m : (ℓ : Loc nD τ sig) → Buf (Elt Ideal) ℓ) (c : Dev nD)

theorem rotQ_V : rotQ (V m c main_arg0) (V m c main_v23) (V m c main_v25) (V m c main_v27) =
    rotA (m ((c : Thread nD τ).loc main_arg0)) (m ((c : Thread nD τ).loc main_arg2)) (m ((c : Thread nD τ).loc main_arg4)) := by
  rw [rotQ_eq, V_main_arg0, V_cos, V_sin, V_wq]
  rfl

theorem rotK_V : rotK (V m c main_arg1) (V m c main_v23) (V m c main_v25) (V m c main_v29) =
    rotA (m ((c : Thread nD τ).loc main_arg1)) (m ((c : Thread nD τ).loc main_arg3)) (m ((c : Thread nD τ).loc main_arg4)) := by
  rw [rotK_eq, V_main_arg1, V_cos, V_sin, V_wk]
  rfl

end Cert.QkReferenceIdeal.QK
-- ==== Proof.QkPre.lean ====
/- What the query and key quantiser's precondition says: every rotated head's greatest magnitude is zero or in range. -/
module

public import Idealize.ShloMosaic.Lib.Pointwise
public import Idealize.ShloMosaic.Lib.Pointwise.IndexVar
public import proofs.«01_k».proof.Defs
public import proofs.«01_k».proof.Proof.Ops
public import proofs.«01_k».proof.Proof.QkSpec
public import proofs.«01_k».proof.Proof.QkValue

@[expose] public section

set_option maxRecDepth 16384

noncomputable section

namespace Cert.Pre_rotated_maxima_in_range

open Idealize.ShloMosaic Idealize.ShloMosaic.Pointwise
open Cert.Row (col)
open Cert.QRow (lo hi)
open Cert.KernelIdeal.Model (ofBits_bot ofBits_inv_448)

/-- The precondition's stated shape facts. -/
instance facts : Facts where
  bcast_S_S64 := by decide
  bcast_S8_S8x1_0 := by decide
  bcast_S4096_S1x4096_1 := by decide
  bcast_S8x1_S8x4096_0_1 := by decide
  bcast_S1x4096_S8x4096_0_1 := by decide
  bcast_S8x4096_S8x4096x1_0_1 := by decide
  bcast_S64_S1x1x64_2 := by decide
  bcast_S8x4096x1_S8x4096x64_0_1_2 := by decide
  bcast_S1x1x64_S8x4096x64_0_1_2 := by decide
  bcast_S8x4096x64_S8x4096x1x64_0_1_3 := by decide
  bitsLt_bf16_f32 := by decide
  shapeCasts_S8x4096x1024_S8x4096x8x128 := by decide
  reducesTo_S8x4096x8x128_S8x4096x8_d3 := by decide
  h_S_ := by decide
  bcast_S8x4096x8_S8x4096x8x1_0_1_2 := by decide
  bcast_S_S8x4096x8x1 := by decide
  bcast_S8x4096x8x1_S8x4096x8x128_0_1_2_3 := by decide
  bcast_S128_S1x1x1x128_3 := by decide
  bcast_S1x1x1x128_S8x4096x8x128_0_1_2_3 := by decide
  slices_S8x4096x8x128_S8x4096x8x64_0_0_0_0 := by decide
  slices_S8x4096x8x128_S8x4096x8x64_0_0_0_64 := by decide
  bcast_S8x4096x1x64_S8x4096x8x64_0_1_2_3 := by decide
  concatenates_S8x4096x8x64_S8x4096x8x64_S8x4096x8x128_d3 := by decide
  bcast_S_S8x4096x8 := by decide

/-! ## The tables -/

section Tables
variable {F : FTy → Type} [FloatOps F]

def freq : FVec F S64 .f32 :=
  Host.powf (broadcastInDim S64 ![] Facts.bcast_S_S64 (constant S_ .f32 0x49742400#32))
    (Host.divf (Host.negf (addf (broadcastInDim S64 ![] Facts.bcast_S_S64 (constant S_ .f32 0x00000000#32))
      (mulf (broadcastInDim S64 ![] Facts.bcast_S_S64 (constant S_ .f32 0x40000000#32)) (sitofp .f32 (iotaInDim S64 32 0)))))
      (broadcastInDim S64 ![] Facts.bcast_S_S64 (constant S_ .f32 0x43000000#32)))

def post (p : IVec S8 32) : FVec F S8x4096 .f32 :=
  sitofp .f32 (addi (broadcastInDim S8x4096 ![0, 1] Facts.bcast_S8x1_S8x4096_0_1 (broadcastInDim S8x1 ![0] Facts.bcast_S8_S8x1_0 p))
    (broadcastInDim S8x4096 ![0, 1] Facts.bcast_S1x4096_S8x4096_0_1 (broadcastInDim S1x4096 ![1] Facts.bcast_S4096_S1x4096_1 (iotaInDim S4096 32 0))))

def angs (f : FVec F S64 .f32) (q : FVec F S8x4096 .f32) : FVec F S8x4096x64 .f32 :=
  mulf (broadcastInDim S8x4096x64 ![0, 1, 2] Facts.bcast_S8x4096x1_S8x4096x64_0_1_2 (broadcastInDim S8x4096x1 ![0, 1] Facts.bcast_S8x4096_S8x4096x1_0_1 q))
    (broadcastInDim S8x4096x64 ![0, 1, 2] Facts.bcast_S1x1x64_S8x4096x64_0_1_2 (broadcastInDim S1x1x64 ![2] Facts.bcast_S64_S1x1x64_2 f))

def slot (t : FVec F S8x4096x64 .f32) : FVec F S8x4096x1x64 .f32 := broadcastInDim S8x4096x1x64 ![0, 1, 3] Facts.bcast_S8x4096x64_S8x4096x1x64_0_1_3 t

def wts (w : FVec F S128 .f32) : FVec F S1x1x1x128 .f32 := broadcastInDim S1x1x1x128 ![3] Facts.bcast_S128_S1x1x1x128_3 w

end Tables

theorem freq_apply (j : Fin 64) : freq (F := Ideal) (ix1 j) = QRow.fr j := by
  pointwise [freq, QRow.fr]

theorem post_apply (p : IVec S8 32) (b : Fin 8) (s : Fin 4096) : post (F := Ideal) p (ix2 b s) = QRow.po (p (ix1 b)) s := by
  pointwise [post, QRow.po]

theorem cos_apply (f : FVec Ideal S64 .f32) (q : FVec Ideal S8x4096 .f32) (b : Fin 8) (s : Fin 4096) (j : Fin 64) :
    slot (Host.cos (angs f q)) (ix4 b s 0 j) = Ideal.cos (q (ix2 b s) * f (ix1 j)) := by
  pointwise [slot, angs]

theorem sin_apply (f : FVec Ideal S64 .f32) (q : FVec Ideal S8x4096 .f32) (b : Fin 8) (s : Fin 4096) (j : Fin 64) :
    slot (Host.sin (angs f q)) (ix4 b s 0 j) = Ideal.sin (q (ix2 b s) * f (ix1 j)) := by
  pointwise [slot, angs]

theorem wts_apply (w : FVec Ideal S128 .f32) (d : Fin 128) : wts w (ix4 0 0 0 d) = w (ix1 d) := by
  pointwise [wts]

theorem tc_apply (p : IVec S8 32) (b : Fin 8) (s : Fin 4096) (j : Fin 64) :
    slot (F := Ideal) (Host.cos (angs freq (post p))) (ix4 b s 0 j) = QRow.tc (p (ix1 b)) s j := by
  rw [cos_apply, freq_apply, post_apply]
  rfl

theorem ts_apply (p : IVec S8 32) (b : Fin 8) (s : Fin 4096) (j : Fin 64) :
    slot (F := Ideal) (Host.sin (angs freq (post p))) (ix4 b s 0 j) = QRow.ts (p (ix1 b)) s j := by
  rw [sin_apply, freq_apply, post_apply]
  rfl

/-! ## The rotation -/

def norm (T : FVec Ideal S8x4096x8x128 .f32) (w : FVec Ideal S1x1x1x128 .f32) : FVec Ideal S8x4096x8x128 .f32 :=
  mulf (mulf T (broadcastInDim S8x4096x8x128 ![0, 1, 2, 3] Facts.bcast_S8x4096x8x1_S8x4096x8x128_0_1_2_3 (Host.rsqrt (addf (Host.divf
      (broadcastInDim S8x4096x8x1 ![0, 1, 2] Facts.bcast_S8x4096x8_S8x4096x8x1_0_1_2
        (Host.reduceAdd (mulf T T) (constant S_ .f32 0x00000000#32) Facts.reducesTo_S8x4096x8x128_S8x4096x8_d3 Facts.h_S_))
      (broadcastInDim S8x4096x8x1 ![] Facts.bcast_S_S8x4096x8x1 (constant S_ .f32 0x43000000#32)))
    (broadcastInDim S8x4096x8x1 ![] Facts.bcast_S_S8x4096x8x1 (constant S_ .f32 0x358637BD#32))))))
    (broadcastInDim S8x4096x8x128 ![0, 1, 2, 3] Facts.bcast_S1x1x1x128_S8x4096x8x128_0_1_2_3 w)

def lower (N : FVec Ideal S8x4096x8x128 .f32) (cs sn : FVec Ideal S8x4096x1x64 .f32) : FVec Ideal S8x4096x8x64 .f32 :=
  subf (mulf (extractStridedSlice S8x4096x8x64 ![0, 0, 0, 0] N Facts.slices_S8x4096x8x128_S8x4096x8x64_0_0_0_0)
      (broadcastInDim S8x4096x8x64 ![0, 1, 2, 3] Facts.bcast_S8x4096x1x64_S8x4096x8x64_0_1_2_3 cs))
    (mulf (extractStridedSlice S8x4096x8x64 ![0, 0, 0, 64] N Facts.slices_S8x4096x8x128_S8x4096x8x64_0_0_0_64)
      (broadcastInDim S8x4096x8x64 ![0, 1, 2, 3] Facts.bcast_S8x4096x1x64_S8x4096x8x64_0_1_2_3 sn))

def upper (N : FVec Ideal S8x4096x8x128 .f32) (cs sn : FVec Ideal S8x4096x1x64 .f32) : FVec Ideal S8x4096x8x64 .f32 :=
  addf (mulf (extractStridedSlice S8x4096x8x64 ![0, 0, 0, 64] N Facts.slices_S8x4096x8x128_S8x4096x8x64_0_0_0_64)
      (broadcastInDim S8x4096x8x64 ![0, 1, 2, 3] Facts.bcast_S8x4096x1x64_S8x4096x8x64_0_1_2_3 cs))
    (mulf (extractStridedSlice S8x4096x8x64 ![0, 0, 0, 0] N Facts.slices_S8x4096x8x128_S8x4096x8x64_0_0_0_0)
      (broadcastInDim S8x4096x8x64 ![0, 1, 2, 3] Facts.bcast_S8x4096x1x64_S8x4096x8x64_0_1_2_3 sn))

def both (u v : FVec Ideal S8x4096x8x64 .f32) : FVec Ideal S8x4096x8x128 .f32 :=
  concatenate S8x4096x8x128 3 [⟨S8x4096x8x64, u⟩, ⟨S8x4096x8x64, v⟩] Facts.concatenates_S8x4096x8x64_S8x4096x8x64_S8x4096x8x128_d3

def hds (x : FVec Ideal S8x4096x1024 .f32) : FVec Ideal S8x4096x8x128 .f32 :=
  shapeCast S8x4096x8x128 x Facts.shapeCasts_S8x4096x1024_S8x4096x8x128

def rot (N : FVec Ideal S8x4096x8x128 .f32) (cs sn : FVec Ideal S8x4096x1x64 .f32) : FVec Ideal S8x4096x8x128 .f32 := both (lower N cs sn) (upper N cs sn)

variable (b : Fin 8) (s : Fin 4096) (h : Fin 8)

theorem norm_apply (T : FVec Ideal S8x4096x8x128 .f32) (w : FVec Ideal S1x1x1x128 .f32) (d : Fin 128) :
    norm T w (ix4 b s h d) = QRow.tn (fun d => T (ix4 b s h d)) (fun d => w (ix4 0 0 0 d)) d := by
  pointwise [norm, QRow.tn, QRow.rr]
  rw [Cert.QkPrepIdeal.QK.ofBits_128, Cert.QkPrepIdeal.QK.ofBits_eps]

theorem lower_apply (N : FVec Ideal S8x4096x8x128 .f32) (cs sn : FVec Ideal S8x4096x1x64 .f32) (j : Fin 64) :
    lower N cs sn (ix4 b s h j) = N (ix4 b s h (lo j)) * cs (ix4 b s 0 j) - N (ix4 b s h (hi j)) * sn (ix4 b s 0 j) := by
  pointwise [lower]

theorem upper_apply (N : FVec Ideal S8x4096x8x128 .f32) (cs sn : FVec Ideal S8x4096x1x64 .f32) (j : Fin 64) :
    upper N cs sn (ix4 b s h j) = N (ix4 b s h (hi j)) * cs (ix4 b s 0 j) + N (ix4 b s h (lo j)) * sn (ix4 b s 0 j) := by
  pointwise [upper]

theorem both_apply (u v : FVec Ideal S8x4096x8x64 .f32) (d : Fin 128) :
    both u v (ix4 b s h d) = QRow.join (fun j => u (ix4 b s h j)) (fun j => v (ix4 b s h j)) d := by
  pointwise [both]
  rfl

theorem hds_apply (x : FVec Ideal S8x4096x1024 .f32) (d : Fin 128) : hds x (ix4 b s h d) = x (ix3 b s (col h d)) := by
  pointwise [hds]
  congr 1
  have := h.isLt
  ext a; fin_cases a <;> simp <;> omega

/-- A rotated head is the row's. -/
theorem rot_apply (x : FVec Ideal S8x4096x1024 .f32) (cs sn : FVec Ideal S8x4096x1x64 .f32) (w : FVec Ideal S1x1x1x128 .f32) (d : Fin 128) :
    rot (norm (hds x) w) cs sn (ix4 b s h d) =
      QRow.q (fun d => x (ix3 b s (col h d))) (fun d => w (ix4 0 0 0 d)) (fun j => cs (ix4 b s 0 j)) (fun j => sn (ix4 b s 0 j)) d := by
  have hT : (fun d => hds x (ix4 b s h d)) = fun d => x (ix3 b s (col h d)) := funext fun d => hds_apply b s h x d
  have hN : ∀ d, norm (hds x) w (ix4 b s h d) = QRow.tn (fun d => x (ix3 b s (col h d))) (fun d => w (ix4 0 0 0 d)) d := fun d => by
    rw [norm_apply, hT]
  unfold rot
  rw [both_apply]
  unfold QRow.q
  refine congrArg₂ (fun u v => QRow.join u v d) (funext fun j => ?_) (funext fun j => ?_)
  · rw [lower_apply, hN, hN]
  · rw [upper_apply, hN, hN]

/-! ## The test -/

/-- The greatest magnitude of the heads. -/
def top (T : FVec Ideal S8x4096x8x128 .f32) : FVec Ideal S8x4096x8 .f32 :=
  Host.reduce FloatOps.maximumf (Host.absf T) (constant S_ .f32 0xFF800000#32) Facts.reducesTo_S8x4096x8x128_S8x4096x8_d3 Facts.h_S_

theorem top_apply (T : FVec Ideal S8x4096x8x128 .f32) : top T (ix3 b s h) = Expo.amax fun d => T (ix4 b s h d) := by
  pointwise [top]
  rw [ofBits_bot]
  rfl

/-- The test, of the rotated heads' greatest magnitudes. -/
def test (a : FVec Ideal S8x4096x8 .f32) : IVec S8x4096x8 1 :=
  ori (cmpf .oeq a (broadcastInDim S8x4096x8 ![] Facts.bcast_S_S8x4096x8 (constant S_ .f32 0x00000000#32)))
    (andi (cmpf .oge (mulf a (broadcastInDim S8x4096x8 ![] Facts.bcast_S_S8x4096x8 (constant S_ .f32 0x3B124925#32)))
        (broadcastInDim S8x4096x8 ![] Facts.bcast_S_S8x4096x8 (constant S_ .f32 0x04000000#32)))
      (cmpf .ole a (broadcastInDim S8x4096x8 ![] Facts.bcast_S_S8x4096x8 (constant S_ .f32 0x7F7F0000#32))))

/-- The rotated array, of an array, a weight and the first positions. -/
def rotA (x : FVec Ideal S8x4096x1024 .f32) (w : FVec Ideal S128 .f32) (p : IVec S8 32) : FVec Ideal S8x4096x8x128 .f32 :=
  rot (norm (hds x) (wts w)) (slot (Host.cos (angs freq (post p)))) (slot (Host.sin (angs freq (post p))))

def tst (x : FVec Ideal S8x4096x1024 .f32) (w : FVec Ideal S128 .f32) (p : IVec S8 32) : IVec S8x4096x8 1 := test (top (rotA x w p))

theorem fn_eq (a0 a1 : FVec Ideal S8x4096x1024 .bf16) (a2 a3 : FVec Ideal S128 .bf16) (a4 : IVec S8 32) : fn (F := Ideal) a0 a1 a2 a3 a4 =
    andi (tst (extf .f32 a0 Facts.bitsLt_bf16_f32) (extf .f32 a2 Facts.bitsLt_bf16_f32) a4)
      (tst (extf .f32 a1 Facts.bitsLt_bf16_f32) (extf .f32 a3 Facts.bitsLt_bf16_f32) a4) := rfl

theorem and_bits (u v : BitVec 1) (h : IntOp.andi u v = 1#1) : u = 1#1 ∧ v = 1#1 := by
  revert u v; decide

theorem range_of_bits (a : EReal) (h : IntOp.ori (BitVec.ofBool (decide (a = 0)))
    (IntOp.andi (BitVec.ofBool (decide (Ideal.ofBits .f32 0x04000000#32 ≤ a * ((Expo.kq : ℝ) : EReal))))
      (BitVec.ofBool (decide (a ≤ Ideal.ofBits .f32 0x7F7F0000#32)))) = 1#1) : QRow.InRange a := by
  have key : ∀ p q r : Prop, ∀ [Decidable p] [Decidable q] [Decidable r],
      IntOp.ori (BitVec.ofBool (decide p)) (IntOp.andi (BitVec.ofBool (decide q)) (BitVec.ofBool (decide r))) = 1#1 → p ∨ q ∧ r := by
    intro p q r _ _ _ hpr
    by_cases hp : p <;> by_cases hq : q <;> by_cases hr : r <;> simp_all [IntOp.andi, IntOp.ori]
  rcases key _ _ _ h with h | ⟨h1, h2⟩
  · exact Or.inl h
  · refine Or.inr ⟨?_, h2.trans Expo.ofBits_max_bf16⟩
    rwa [Expo.ofBits_pow 0x04000000#32 8 (-119) (by decide) (by norm_num) (by norm_num) (by norm_num)] at h1

theorem test_apply (a : FVec Ideal S8x4096x8 .f32) (h' : test a (ix3 b s h) = 1#1) : QRow.InRange (a (ix3 b s h)) := by
  pointwise [test] at h'
  rw [ofBits_inv_448] at h'
  exact range_of_bits _ h'

theorem rotA_apply (x : FVec Ideal S8x4096x1024 .f32) (w : FVec Ideal S128 .f32) (p : IVec S8 32) :
    (fun d => rotA x w p (ix4 b s h d)) = QRow.qA x w p b s h := by
  have e1 : (fun d => wts w (ix4 0 0 0 d)) = fun d => w (ix1 d) := funext fun d => wts_apply w d
  have e2 : (fun j => slot (F := Ideal) (Host.cos (angs freq (post p))) (ix4 b s 0 j)) = QRow.tc (p (ix1 b)) s := funext fun j => tc_apply p b s j
  have e3 : (fun j => slot (F := Ideal) (Host.sin (angs freq (post p))) (ix4 b s 0 j)) = QRow.ts (p (ix1 b)) s := funext fun j => ts_apply p b s j
  refine funext fun d => ?_
  unfold rotA
  rw [rot_apply, e1, e2, e3]
  rfl

/-- What the test says of an array. -/
theorem ok_of (x : FVec Ideal S8x4096x1024 .f32) (w : FVec Ideal S128 .f32) (p : IVec S8 32) (ht : ∀ b s h, tst x w p (ix3 b s h) = 1#1) : QRow.Ok x w p := by
  refine ⟨fun b s h => ?_⟩
  have := test_apply b s h _ (ht b s h)
  rwa [top_apply, rotA_apply] at this

/-- What the precondition says: the queries' arrays are so, and the keys'. -/
theorem ok (a0 a1 : FVec Ideal S8x4096x1024 .bf16) (a2 a3 : FVec Ideal S128 .bf16) (a4 : IVec S8 32)
    (hp : ∀ i, fn (F := Ideal) a0 a1 a2 a3 a4 i = 1#1) : QRow.Ok a0 a2 a4 ∧ QRow.Ok a1 a3 a4 := by
  rw [fn_eq] at hp
  exact ⟨ok_of _ _ _ fun b s h => (and_bits _ _ (hp (ix3 b s h))).1, ok_of _ _ _ fun b s h => (and_bits _ _ (hp (ix3 b s h))).2⟩

end Cert.Pre_rotated_maxima_in_range
-- ==== Proof.QkClaims.lean ====
/- The query and key quantiser's claims: its five arrays are its reference's, over the extended reals, where the inputs are finite
   and every rotated head's greatest magnitude is zero or in range. -/
module

public import proofs.«01_k».proof.Defs
public import proofs.«01_k».proof.Proof.QkArr
public import proofs.«01_k».proof.Proof.QkRefArr
public import proofs.«01_k».proof.Proof.QkPre
public import proofs.«01_k».proof.Proof.Gen.QkPrep.Frame
public import proofs.«01_k».proof.Proof.Gen.QkPrepIdeal.Frame
public import proofs.«01_k».proof.Proof.Gen.QkReferenceIdeal.Frame

@[expose] public section

set_option maxRecDepth 16384

noncomputable section

namespace Cert.Proof.QkClaims

open Idealize.ShloMosaic Idealize.ShloMosaic.TcCoe Idealize.ShloMosaic.Pointwise Idealize.SL.Sem
open Cert.Row (col)
open Cert.QkPrepIdeal.QK (aX0 aX1 aW0 aW1 aP)

/-- A token is one of a block's, and a column one of a head's. -/
theorem of_row (s : Fin 4096) : ∃ g t, s = Cert.QkPrepIdeal.QK.row g t :=
  ⟨⟨s / 512, by have := s.isLt; omega⟩, ⟨s % 512, by omega⟩, Fin.ext (by show (s : ℕ) = 512 * (s / 512) + s % 512; omega)⟩

theorem of_col (e : Fin 1024) : ∃ h d, e = col h d :=
  ⟨⟨e / 128, by have := e.isLt; omega⟩, ⟨e % 128, by omega⟩, Fin.ext (by show (e : ℕ) = 128 * (e / 128) + e % 128; omega)⟩

variable (m : (ℓ : Loc Cert.QkPrepIdeal.nD Cert.QkPrepIdeal.τ Cert.QkPrepIdeal.sig) → Buf (Elt Ideal) ℓ) (c : Dev Cert.QkPrepIdeal.nD)

/-- The queries' codes are one, and the keys' in both layouts. -/
theorem codesQ (ok : QRow.Ok (aX0 m c) (aW0 m c) (aP m c)) :
    Cert.QkReferenceIdeal.Gen.k0_pay14 (Cert.QkReferenceIdeal.Gen.k0_pay10 (Cert.QkReferenceIdeal.QK.rotA (aX0 m c) (aW0 m c) (aP m c))) =
    (Cert.QkPrepIdeal.Gen.dats m 0 c).arrAt 6 Cert.QkPrepIdeal.cfg0.N := by
  refine funext fun j => ?_
  obtain ⟨b, s, e, rfl⟩ : ∃ (b : Fin 8) (s : Fin 4096) (e : Fin 1024), j = ix3 b s e := ⟨j 0, j 1, j 2, eq_ix3 j⟩
  obtain ⟨g, t, rfl⟩ := of_row s
  obtain ⟨h, d, rfl⟩ := of_col e
  exact ((Cert.QkReferenceIdeal.QK.pay14_apply b _ h _ d).trans (Cert.QkReferenceIdeal.QK.cd_rotA _ _ _ b _ h d)).trans
    (Cert.QkPrepIdeal.QK.arr6 m c b g ok h t d).symm

theorem codesK (ok : QRow.Ok (aX1 m c) (aW1 m c) (aP m c)) :
    Cert.QkReferenceIdeal.Gen.k0_pay15 (Cert.QkReferenceIdeal.QK.rotA (aX1 m c) (aW1 m c) (aP m c)) =
    (Cert.QkPrepIdeal.Gen.dats m 0 c).arrAt 7 Cert.QkPrepIdeal.cfg0.N := by
  refine funext fun j => ?_
  obtain ⟨b, s, e, rfl⟩ : ∃ (b : Fin 8) (s : Fin 4096) (e : Fin 1024), j = ix3 b s e := ⟨j 0, j 1, j 2, eq_ix3 j⟩
  obtain ⟨g, t, rfl⟩ := of_row s
  obtain ⟨h, d, rfl⟩ := of_col e
  exact ((Cert.QkReferenceIdeal.QK.pay15_apply b _ h _ d).trans (Cert.QkReferenceIdeal.QK.cd_rotA _ _ _ b _ h d)).trans
    (Cert.QkPrepIdeal.QK.arr7 m c b g ok h t d).symm

theorem codesKT (ok : QRow.Ok (aX1 m c) (aW1 m c) (aP m c)) :
    Cert.QkReferenceIdeal.Gen.k0_pay16 (Cert.QkReferenceIdeal.QK.rotA (aX1 m c) (aW1 m c) (aP m c)) =
    (Cert.QkPrepIdeal.Gen.dats m 0 c).arrAt 8 Cert.QkPrepIdeal.cfg0.N := by
  refine funext fun j => ?_
  obtain ⟨b, h, d, s, rfl⟩ : ∃ (b h : Fin 8) (d : Fin 128) (s : Fin 4096), j = ix4 b h d s := ⟨j 0, j 1, j 2, j 3, eq_ix4 j⟩
  obtain ⟨g, t, rfl⟩ := of_row s
  exact ((Cert.QkReferenceIdeal.QK.pay16_apply b _ h _ d).trans (Cert.QkReferenceIdeal.QK.cd_rotA _ _ _ b _ h d)).trans
    (Cert.QkPrepIdeal.QK.arr8 m c b g ok h t d).symm

/-- And the scales. -/
theorem scalesQ (ok : QRow.Ok (aX0 m c) (aW0 m c) (aP m c)) :
    Cert.QkReferenceIdeal.Gen.k0_pay1 (Cert.QkReferenceIdeal.Gen.k0_pay9 (Cert.QkReferenceIdeal.QK.rotA (aX0 m c) (aW0 m c) (aP m c))) =
    (Cert.QkPrepIdeal.Gen.dats m 0 c).arrAt 9 Cert.QkPrepIdeal.cfg0.N := by
  refine funext fun j => ?_
  obtain ⟨b, h, s, rfl⟩ : ∃ (b h : Fin 8) (s : Fin 4096), j = ix3 b h s := ⟨j 0, j 1, j 2, eq_ix3 j⟩
  obtain ⟨g, t, rfl⟩ := of_row s
  exact ((Cert.QkReferenceIdeal.QK.pay1_apply b _ h _).trans (Cert.QkReferenceIdeal.QK.sc_rotA _ _ _ b _ h)).trans
    (Cert.QkPrepIdeal.QK.arr9 m c b g ok h t).symm

theorem scalesK (ok : QRow.Ok (aX1 m c) (aW1 m c) (aP m c)) :
    Cert.QkReferenceIdeal.Gen.k0_pay2 (Cert.QkReferenceIdeal.Gen.k0_pay12 (Cert.QkReferenceIdeal.QK.rotA (aX1 m c) (aW1 m c) (aP m c))) =
    (Cert.QkPrepIdeal.Gen.dats m 0 c).arrAt 10 Cert.QkPrepIdeal.cfg0.N := by
  refine funext fun j => ?_
  obtain ⟨b, h, s, rfl⟩ : ∃ (b h : Fin 8) (s : Fin 4096), j = ix3 b h s := ⟨j 0, j 1, j 2, eq_ix3 j⟩
  obtain ⟨g, t, rfl⟩ := of_row s
  exact ((Cert.QkReferenceIdeal.QK.pay2_apply b _ h _).trans (Cert.QkReferenceIdeal.QK.sc_rotA _ _ _ b _ h)).trans
    (Cert.QkPrepIdeal.QK.arr10 m c b g ok h t).symm

theorem ok_of (hpre : Cert.Pre_QkPrepIdeal_rotated_maxima_in_range m) :
    QRow.Ok (aX0 m c) (aW0 m c) (aP m c) ∧ QRow.Ok (aX1 m c) (aW1 m c) (aP m c) :=
  Cert.Pre_rotated_maxima_in_range.ok _ _ _ _ _ fun i => congrFun (hpre c) i

/-! ## The claims -/

theorem frame_p : Cert.quiescent_QkPrep := fun m ρ _ => Cert.QkPrep.Gen.frame m ρ

theorem frame_pi : Cert.quiescent_QkPrepIdeal := fun m ρ _ => Cert.QkPrepIdeal.Gen.frame m ρ

theorem frame_pi_pre : Cert.quiescent_QkPrepIdeal_pre_rotated_maxima_in_range := fun m ρ _ => Cert.QkPrepIdeal.Gen.frame m ρ

theorem frame_ri : Cert.quiescent_QkReferenceIdeal := fun m ρ _ => Cert.QkReferenceIdeal.Gen.frame m ρ

theorem frame_ri_pre : Cert.quiescent_QkReferenceIdeal_pre_rotated_maxima_in_range := fun m ρ _ => Cert.QkReferenceIdeal.Gen.frame m ρ

theorem preserves : Cert.preserves_QkPrep_QkPrepIdeal := trivial

theorem algebraic : Cert.algebraic_QkPrepIdeal_QkReferenceIdeal_pre_rotated_maxima_in_range := by
  intro m ρ m' ρ' hpre hag
  refine ⟨_, _, _, _, _, Cert.QkPrepIdeal.Value.run_blocks (F := Ideal) m ρ, ?_⟩
  refine (θ_run Cert.QkReferenceIdeal.defs _ _).mono (fun _ h c => ⟨(h c).1.trans ?_, (h c).2.1.trans ?_, (h c).2.2.1.trans ?_,
    (h c).2.2.2.1.trans ?_, (h c).2.2.2.2.1.trans ?_, (h c).2.2.2.2.2⟩) (Cert.QkReferenceIdeal.QK.run (F := Ideal) m' ρ')
  all_goals obtain ⟨e0, e1, e2, e3, e4⟩ := hag c
  all_goals obtain ⟨okq, okk⟩ := ok_of m c hpre
  · rw [Cert.QkReferenceIdeal.QK.rotQ_V m' c, e0, e2, e4]; exact codesQ m c okq
  · rw [Cert.QkReferenceIdeal.QK.rotK_V m' c, e1, e3, e4]; exact codesK m c okk
  · rw [Cert.QkReferenceIdeal.QK.rotK_V m' c, e1, e3, e4]; exact codesKT m c okk
  · rw [Cert.QkReferenceIdeal.QK.rotQ_V m' c, e0, e2, e4]; exact scalesQ m c okq
  · rw [Cert.QkReferenceIdeal.QK.rotK_V m' c, e1, e3, e4]; exact scalesK m c okk

end Cert.Proof.QkClaims
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import proofs.«01_k».proof.Proof.Gen.VPrep
public import proofs.«01_k».proof.Proof.Gen.VPrepIdeal
public import proofs.«01_k».proof.Proof.Gen.VReferenceIdeal
public import proofs.«01_k».proof.Proof.VClaims
public import proofs.«01_k».proof.Proof.Gen.QkPrep
public import proofs.«01_k».proof.Proof.Gen.QkPrepIdeal
public import proofs.«01_k».proof.Proof.Gen.QkReferenceIdeal
public import proofs.«01_k».proof.Proof.QkClaims

@[expose] public section

noncomputable section

namespace Cert.Proof

theorem claim : Cert.Claim :=
  ⟨Cert.Kernel.Gen.facts, Cert.KernelIdeal.Gen.facts, Cert.ReferenceIdeal.Gen.facts, Cert.VPrep.Gen.facts, Cert.VPrepIdeal.Gen.facts,
    Cert.VReferenceIdeal.Gen.facts, Cert.QkPrep.Gen.facts, Cert.QkPrepIdeal.Gen.facts, Cert.QkReferenceIdeal.Gen.facts,
    Cert.Pre_query_scales_in_range.facts, Cert.Pre_value_maxima_in_range.facts, Cert.Pre_rotated_maxima_in_range.facts,
    Claims.frame_p, Claims.frame_pi, Claims.frame_pi_pre, Claims.frame_ri, Claims.frame_ri_pre,
    VClaims.frame_p, VClaims.frame_pi, VClaims.frame_pi_pre, VClaims.frame_ri, VClaims.frame_ri_pre,
    QkClaims.frame_p, QkClaims.frame_pi, QkClaims.frame_pi_pre, QkClaims.frame_ri, QkClaims.frame_ri_pre,
    Claims.preserves, Claims.algebraic, VClaims.preserves, VClaims.algebraic, QkClaims.preserves, QkClaims.algebraic⟩

end Cert.Proof

end
